-- ==== Defs.lean ====
def Pre_Kernel [hPre_expert_ids : Cert.Pre_expert_ids.Facts] (m : (ℓ : Loc Cert.Kernel.nD Cert.Kernel.τ Cert.Kernel.sig) → Buf (Elt Bits) ℓ) : Prop :=
  ∀ c : Dev Cert.Kernel.nD,
    (Cert.Pre_expert_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_expert_ids : Cert.Pre_expert_ids.Facts] (m : (ℓ : Loc Cert.KernelIdeal.nD Cert.KernelIdeal.τ Cert.KernelIdeal.sig) → Buf (Elt Ideal) ℓ) : Prop :=
  ∀ c : Dev Cert.KernelIdeal.nD,
    (Cert.Pre_expert_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_expert_runs [hPre_expert_runs : Cert.Pre_expert_runs.Facts] (m : (ℓ : Loc Cert.KernelIdeal.nD Cert.KernelIdeal.τ Cert.KernelIdeal.sig) → Buf (Elt Ideal) ℓ) : Prop :=
  ∀ c : Dev Cert.KernelIdeal.nD,
    (Cert.Pre_expert_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_runs [hPre_expert_runs : Cert.Pre_expert_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptReferenceIdeal (m : (ℓ : Loc Cert.FinalPromptReferenceIdeal.nD Cert.FinalPromptReferenceIdeal.τ Cert.FinalPromptReferenceIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleReferenceIdeal (m : (ℓ : Loc Cert.FinalSampleReferenceIdeal.nD Cert.FinalSampleReferenceIdeal.τ Cert.FinalSampleReferenceIdeal.sig) → Buf (Elt Ideal) ℓ) : Prop :=
  True

def Pre_BandCache (m : (ℓ : Loc Cert.BandCache.nD Cert.BandCache.τ Cert.BandCache.sig) → Buf (Elt Bits) ℓ) : Prop :=
  True

def Pre_BandCacheIdeal (m : (ℓ : Loc Cert.BandCacheIdeal.nD Cert.BandCacheIdeal.τ Cert.BandCacheIdeal.sig) → Buf (Elt Ideal) ℓ) : Prop :=
  True

def Pre_BandCacheReferenceIdeal (m : (ℓ : Loc Cert.BandCacheReferenceIdeal.nD Cert.BandCacheReferenceIdeal.τ Cert.BandCacheReferenceIdeal.sig) → Buf (Elt Ideal) ℓ) : Prop :=
  True

def Pre_SwaCache (m : (ℓ : Loc Cert.SwaCache.nD Cert.SwaCache.τ Cert.SwaCache.sig) → Buf (Elt Bits) ℓ) : Prop :=
  True

def Pre_SwaCacheIdeal (m : (ℓ : Loc Cert.SwaCacheIdeal.nD Cert.SwaCacheIdeal.τ Cert.SwaCacheIdeal.sig) → Buf (Elt Ideal) ℓ) : Prop :=
  True

def Pre_SwaCacheReferenceIdeal (m : (ℓ : Loc Cert.SwaCacheReferenceIdeal.nD Cert.SwaCacheReferenceIdeal.τ Cert.SwaCacheReferenceIdeal.sig) → Buf (Elt Ideal) ℓ) : Prop :=
  True

def Pre_GlaState (m : (ℓ : Loc Cert.GlaState.nD Cert.GlaState.τ Cert.GlaState.sig) → Buf (Elt Bits) ℓ) : Prop :=
  True

def Pre_GlaStateIdeal (m : (ℓ : Loc Cert.GlaStateIdeal.nD Cert.GlaStateIdeal.τ Cert.GlaStateIdeal.sig) → Buf (Elt Ideal) ℓ) : Prop :=
  True

def Pre_GlaStateReferenceIdeal (m : (ℓ : Loc Cert.GlaStateReferenceIdeal.nD Cert.GlaStateReferenceIdeal.τ Cert.GlaStateReferenceIdeal.sig) → Buf (Elt Ideal) ℓ) : Prop :=
  True

def quiescent_Kernel [hKernel : Cert.Kernel.Facts] [hPre_expert_ids : Cert.Pre_expert_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_expert_runs [hKernelIdeal : Cert.KernelIdeal.Facts] [hPre_expert_runs : Cert.Pre_expert_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_expert_runs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_expert_runs [hReferenceIdeal : Cert.ReferenceIdeal.Facts] [hPre_expert_runs : Cert.Pre_expert_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_runs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1)
      ∧ r.2.mem ((c.tc : Thread Cert.FinalPrompt.nD Cert.FinalPrompt.τ).loc Cert.FinalPrompt.main_arg2) = m ((c.tc : Thread Cert.FinalPrompt.nD Cert.FinalPrompt.τ).loc Cert.FinalPrompt.main_arg2))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
      ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2))
      ∧ r.2.sem = fun _ => 0)

def quiescent_FinalPromptReferenceIdeal [hFinalPromptReferenceIdeal : Cert.FinalPromptReferenceIdeal.Facts] : Prop :=
  ∀ (m : (ℓ : Loc Cert.FinalPromptReferenceIdeal.nD Cert.FinalPromptReferenceIdeal.τ Cert.FinalPromptReferenceIdeal.sig) → Buf (Elt Ideal) ℓ) (g : Dev Cert.FinalPromptReferenceIdeal.nD → PrngReg), Pre_FinalPromptReferenceIdeal m →
    θ_run (Cert.FinalPromptReferenceIdeal.defs (F := Ideal)) (onTc (τ := Cert.FinalPromptReferenceIdeal.τ) (Cert.FinalPromptReferenceIdeal.main (F := Ideal))) ⟨m, fun _ => 0, g⟩ (fun r => (∀ c : Dev Cert.FinalPromptReferenceIdeal.nD,
      r.2.mem ((c.tc : Thread Cert.FinalPromptReferenceIdeal.nD Cert.FinalPromptReferenceIdeal.τ).loc Cert.FinalPromptReferenceIdeal.main_arg0) = m ((c.tc : Thread Cert.FinalPromptReferenceIdeal.nD Cert.FinalPromptReferenceIdeal.τ).loc Cert.FinalPromptReferenceIdeal.main_arg0)
      ∧ r.2.mem ((c.tc : Thread Cert.FinalPromptReferenceIdeal.nD Cert.FinalPromptReferenceIdeal.τ).loc Cert.FinalPromptReferenceIdeal.main_arg1) = m ((c.tc : Thread Cert.FinalPromptReferenceIdeal.nD Cert.FinalPromptReferenceIdeal.τ).loc Cert.FinalPromptReferenceIdeal.main_arg1)
      ∧ r.2.mem ((c.tc : Thread Cert.FinalPromptReferenceIdeal.nD Cert.FinalPromptReferenceIdeal.τ).loc Cert.FinalPromptReferenceIdeal.main_arg2) = m ((c.tc : Thread Cert.FinalPromptReferenceIdeal.nD Cert.FinalPromptReferenceIdeal.τ).loc Cert.FinalPromptReferenceIdeal.main_arg2))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2))
      ∧ r.2.sem = fun _ => 0)

def quiescent_FinalSampleReferenceIdeal [hFinalSampleReferenceIdeal : Cert.FinalSampleReferenceIdeal.Facts] : Prop :=
  ∀ (m : (ℓ : Loc Cert.FinalSampleReferenceIdeal.nD Cert.FinalSampleReferenceIdeal.τ Cert.FinalSampleReferenceIdeal.sig) → Buf (Elt Ideal) ℓ) (g : Dev Cert.FinalSampleReferenceIdeal.nD → PrngReg), Pre_FinalSampleReferenceIdeal m →
    θ_run (Cert.FinalSampleReferenceIdeal.defs (F := Ideal)) (onTc (τ := Cert.FinalSampleReferenceIdeal.τ) (Cert.FinalSampleReferenceIdeal.main (F := Ideal))) ⟨m, fun _ => 0, g⟩ (fun r => (∀ c : Dev Cert.FinalSampleReferenceIdeal.nD,
      r.2.mem ((c.tc : Thread Cert.FinalSampleReferenceIdeal.nD Cert.FinalSampleReferenceIdeal.τ).loc Cert.FinalSampleReferenceIdeal.main_arg0) = m ((c.tc : Thread Cert.FinalSampleReferenceIdeal.nD Cert.FinalSampleReferenceIdeal.τ).loc Cert.FinalSampleReferenceIdeal.main_arg0)
      ∧ r.2.mem ((c.tc : Thread Cert.FinalSampleReferenceIdeal.nD Cert.FinalSampleReferenceIdeal.τ).loc Cert.FinalSampleReferenceIdeal.main_arg1) = m ((c.tc : Thread Cert.FinalSampleReferenceIdeal.nD Cert.FinalSampleReferenceIdeal.τ).loc Cert.FinalSampleReferenceIdeal.main_arg1)
      ∧ r.2.mem ((c.tc : Thread Cert.FinalSampleReferenceIdeal.nD Cert.FinalSampleReferenceIdeal.τ).loc Cert.FinalSampleReferenceIdeal.main_arg2) = m ((c.tc : Thread Cert.FinalSampleReferenceIdeal.nD Cert.FinalSampleReferenceIdeal.τ).loc Cert.FinalSampleReferenceIdeal.main_arg2))
      ∧ r.2.sem = fun _ => 0)

def quiescent_BandCache [hBandCache : Cert.BandCache.Facts] : Prop :=
  ∀ (m : (ℓ : Loc Cert.BandCache.nD Cert.BandCache.τ Cert.BandCache.sig) → Buf (Elt Bits) ℓ) (g : Dev Cert.BandCache.nD → PrngReg), Pre_BandCache m →
    θ_run (Cert.BandCache.defs (F := Bits)) (onTc (τ := Cert.BandCache.τ) (Cert.BandCache.main (F := Bits))) ⟨m, fun _ => 0, g⟩ (fun r => (∀ c : Dev Cert.BandCache.nD,
      r.2.mem ((c.tc : Thread Cert.BandCache.nD Cert.BandCache.τ).loc Cert.BandCache.main_arg0) = m ((c.tc : Thread Cert.BandCache.nD Cert.BandCache.τ).loc Cert.BandCache.main_arg0)
      ∧ r.2.mem ((c.tc : Thread Cert.BandCache.nD Cert.BandCache.τ).loc Cert.BandCache.main_arg1) = m ((c.tc : Thread Cert.BandCache.nD Cert.BandCache.τ).loc Cert.BandCache.main_arg1)
      ∧ r.2.mem ((c.tc : Thread Cert.BandCache.nD Cert.BandCache.τ).loc Cert.BandCache.main_arg2) = m ((c.tc : Thread Cert.BandCache.nD Cert.BandCache.τ).loc Cert.BandCache.main_arg2)
      ∧ r.2.mem ((c.tc : Thread Cert.BandCache.nD Cert.BandCache.τ).loc Cert.BandCache.main_arg3) = m ((c.tc : Thread Cert.BandCache.nD Cert.BandCache.τ).loc Cert.BandCache.main_arg3)
      ∧ r.2.mem ((c.tc : Thread Cert.BandCache.nD Cert.BandCache.τ).loc Cert.BandCache.main_arg4) = m ((c.tc : Thread Cert.BandCache.nD Cert.BandCache.τ).loc Cert.BandCache.main_arg4)
      ∧ r.2.mem ((c.tc : Thread Cert.BandCache.nD Cert.BandCache.τ).loc Cert.BandCache.main_arg5) = m ((c.tc : Thread Cert.BandCache.nD Cert.BandCache.τ).loc Cert.BandCache.main_arg5))
      ∧ r.2.sem = fun _ => 0)

def quiescent_BandCacheIdeal [hBandCacheIdeal : Cert.BandCacheIdeal.Facts] : Prop :=
  ∀ (m : (ℓ : Loc Cert.BandCacheIdeal.nD Cert.BandCacheIdeal.τ Cert.BandCacheIdeal.sig) → Buf (Elt Ideal) ℓ) (g : Dev Cert.BandCacheIdeal.nD → PrngReg), Pre_BandCacheIdeal m →
    θ_run (Cert.BandCacheIdeal.defs (F := Ideal)) (onTc (τ := Cert.BandCacheIdeal.τ) (Cert.BandCacheIdeal.main (F := Ideal))) ⟨m, fun _ => 0, g⟩ (fun r => (∀ c : Dev Cert.BandCacheIdeal.nD,
      r.2.mem ((c.tc : Thread Cert.BandCacheIdeal.nD Cert.BandCacheIdeal.τ).loc Cert.BandCacheIdeal.main_arg0) = m ((c.tc : Thread Cert.BandCacheIdeal.nD Cert.BandCacheIdeal.τ).loc Cert.BandCacheIdeal.main_arg0)
      ∧ r.2.mem ((c.tc : Thread Cert.BandCacheIdeal.nD Cert.BandCacheIdeal.τ).loc Cert.BandCacheIdeal.main_arg1) = m ((c.tc : Thread Cert.BandCacheIdeal.nD Cert.BandCacheIdeal.τ).loc Cert.BandCacheIdeal.main_arg1)
      ∧ r.2.mem ((c.tc : Thread Cert.BandCacheIdeal.nD Cert.BandCacheIdeal.τ).loc Cert.BandCacheIdeal.main_arg2) = m ((c.tc : Thread Cert.BandCacheIdeal.nD Cert.BandCacheIdeal.τ).loc Cert.BandCacheIdeal.main_arg2)
      ∧ r.2.mem ((c.tc : Thread Cert.BandCacheIdeal.nD Cert.BandCacheIdeal.τ).loc Cert.BandCacheIdeal.main_arg3) = m ((c.tc : Thread Cert.BandCacheIdeal.nD Cert.BandCacheIdeal.τ).loc Cert.BandCacheIdeal.main_arg3)
      ∧ r.2.mem ((c.tc : Thread Cert.BandCacheIdeal.nD Cert.BandCacheIdeal.τ).loc Cert.BandCacheIdeal.main_arg4) = m ((c.tc : Thread Cert.BandCacheIdeal.nD Cert.BandCacheIdeal.τ).loc Cert.BandCacheIdeal.main_arg4)
      ∧ r.2.mem ((c.tc : Thread Cert.BandCacheIdeal.nD Cert.BandCacheIdeal.τ).loc Cert.BandCacheIdeal.main_arg5) = m ((c.tc : Thread Cert.BandCacheIdeal.nD Cert.BandCacheIdeal.τ).loc Cert.BandCacheIdeal.main_arg5))
      ∧ r.2.sem = fun _ => 0)

def quiescent_BandCacheReferenceIdeal [hBandCacheReferenceIdeal : Cert.BandCacheReferenceIdeal.Facts] : Prop :=
  ∀ (m : (ℓ : Loc Cert.BandCacheReferenceIdeal.nD Cert.BandCacheReferenceIdeal.τ Cert.BandCacheReferenceIdeal.sig) → Buf (Elt Ideal) ℓ) (g : Dev Cert.BandCacheReferenceIdeal.nD → PrngReg), Pre_BandCacheReferenceIdeal m →
    θ_run (Cert.BandCacheReferenceIdeal.defs (F := Ideal)) (onTc (τ := Cert.BandCacheReferenceIdeal.τ) (Cert.BandCacheReferenceIdeal.main (F := Ideal))) ⟨m, fun _ => 0, g⟩ (fun r => (∀ c : Dev Cert.BandCacheReferenceIdeal.nD,
      r.2.mem ((c.tc : Thread Cert.BandCacheReferenceIdeal.nD Cert.BandCacheReferenceIdeal.τ).loc Cert.BandCacheReferenceIdeal.main_arg0) = m ((c.tc : Thread Cert.BandCacheReferenceIdeal.nD Cert.BandCacheReferenceIdeal.τ).loc Cert.BandCacheReferenceIdeal.main_arg0)
      ∧ r.2.mem ((c.tc : Thread Cert.BandCacheReferenceIdeal.nD Cert.BandCacheReferenceIdeal.τ).loc Cert.BandCacheReferenceIdeal.main_arg1) = m ((c.tc : Thread Cert.BandCacheReferenceIdeal.nD Cert.BandCacheReferenceIdeal.τ).loc Cert.BandCacheReferenceIdeal.main_arg1)
      ∧ r.2.mem ((c.tc : Thread Cert.BandCacheReferenceIdeal.nD Cert.BandCacheReferenceIdeal.τ).loc Cert.BandCacheReferenceIdeal.main_arg2) = m ((c.tc : Thread Cert.BandCacheReferenceIdeal.nD Cert.BandCacheReferenceIdeal.τ).loc Cert.BandCacheReferenceIdeal.main_arg2)
      ∧ r.2.mem ((c.tc : Thread Cert.BandCacheReferenceIdeal.nD Cert.BandCacheReferenceIdeal.τ).loc Cert.BandCacheReferenceIdeal.main_arg3) = m ((c.tc : Thread Cert.BandCacheReferenceIdeal.nD Cert.BandCacheReferenceIdeal.τ).loc Cert.BandCacheReferenceIdeal.main_arg3)
      ∧ r.2.mem ((c.tc : Thread Cert.BandCacheReferenceIdeal.nD Cert.BandCacheReferenceIdeal.τ).loc Cert.BandCacheReferenceIdeal.main_arg4) = m ((c.tc : Thread Cert.BandCacheReferenceIdeal.nD Cert.BandCacheReferenceIdeal.τ).loc Cert.BandCacheReferenceIdeal.main_arg4)
      ∧ r.2.mem ((c.tc : Thread Cert.BandCacheReferenceIdeal.nD Cert.BandCacheReferenceIdeal.τ).loc Cert.BandCacheReferenceIdeal.main_arg5) = m ((c.tc : Thread Cert.BandCacheReferenceIdeal.nD Cert.BandCacheReferenceIdeal.τ).loc Cert.BandCacheReferenceIdeal.main_arg5))
      ∧ r.2.sem = fun _ => 0)

def quiescent_SwaCache [hSwaCache : Cert.SwaCache.Facts] : Prop :=
  ∀ (m : (ℓ : Loc Cert.SwaCache.nD Cert.SwaCache.τ Cert.SwaCache.sig) → Buf (Elt Bits) ℓ) (g : Dev Cert.SwaCache.nD → PrngReg), Pre_SwaCache m →
    θ_run (Cert.SwaCache.defs (F := Bits)) (onTc (τ := Cert.SwaCache.τ) (Cert.SwaCache.main (F := Bits))) ⟨m, fun _ => 0, g⟩ (fun r => (∀ c : Dev Cert.SwaCache.nD,
      r.2.mem ((c.tc : Thread Cert.SwaCache.nD Cert.SwaCache.τ).loc Cert.SwaCache.main_arg0) = m ((c.tc : Thread Cert.SwaCache.nD Cert.SwaCache.τ).loc Cert.SwaCache.main_arg0)
      ∧ r.2.mem ((c.tc : Thread Cert.SwaCache.nD Cert.SwaCache.τ).loc Cert.SwaCache.main_arg1) = m ((c.tc : Thread Cert.SwaCache.nD Cert.SwaCache.τ).loc Cert.SwaCache.main_arg1)
      ∧ r.2.mem ((c.tc : Thread Cert.SwaCache.nD Cert.SwaCache.τ).loc Cert.SwaCache.main_arg2) = m ((c.tc : Thread Cert.SwaCache.nD Cert.SwaCache.τ).loc Cert.SwaCache.main_arg2)
      ∧ r.2.mem ((c.tc : Thread Cert.SwaCache.nD Cert.SwaCache.τ).loc Cert.SwaCache.main_arg3) = m ((c.tc : Thread Cert.SwaCache.nD Cert.SwaCache.τ).loc Cert.SwaCache.main_arg3)
      ∧ r.2.mem ((c.tc : Thread Cert.SwaCache.nD Cert.SwaCache.τ).loc Cert.SwaCache.main_arg4) = m ((c.tc : Thread Cert.SwaCache.nD Cert.SwaCache.τ).loc Cert.SwaCache.main_arg4)
      ∧ r.2.mem ((c.tc : Thread Cert.SwaCache.nD Cert.SwaCache.τ).loc Cert.SwaCache.main_arg5) = m ((c.tc : Thread Cert.SwaCache.nD Cert.SwaCache.τ).loc Cert.SwaCache.main_arg5)
      ∧ r.2.mem ((c.tc : Thread Cert.SwaCache.nD Cert.SwaCache.τ).loc Cert.SwaCache.main_arg6) = m ((c.tc : Thread Cert.SwaCache.nD Cert.SwaCache.τ).loc Cert.SwaCache.main_arg6))
      ∧ r.2.sem = fun _ => 0)

def quiescent_SwaCacheIdeal [hSwaCacheIdeal : Cert.SwaCacheIdeal.Facts] : Prop :=
  ∀ (m : (ℓ : Loc Cert.SwaCacheIdeal.nD Cert.SwaCacheIdeal.τ Cert.SwaCacheIdeal.sig) → Buf (Elt Ideal) ℓ) (g : Dev Cert.SwaCacheIdeal.nD → PrngReg), Pre_SwaCacheIdeal m →
    θ_run (Cert.SwaCacheIdeal.defs (F := Ideal)) (onTc (τ := Cert.SwaCacheIdeal.τ) (Cert.SwaCacheIdeal.main (F := Ideal))) ⟨m, fun _ => 0, g⟩ (fun r => (∀ c : Dev Cert.SwaCacheIdeal.nD,
      r.2.mem ((c.tc : Thread Cert.SwaCacheIdeal.nD Cert.SwaCacheIdeal.τ).loc Cert.SwaCacheIdeal.main_arg0) = m ((c.tc : Thread Cert.SwaCacheIdeal.nD Cert.SwaCacheIdeal.τ).loc Cert.SwaCacheIdeal.main_arg0)
      ∧ r.2.mem ((c.tc : Thread Cert.SwaCacheIdeal.nD Cert.SwaCacheIdeal.τ).loc Cert.SwaCacheIdeal.main_arg1) = m ((c.tc : Thread Cert.SwaCacheIdeal.nD Cert.SwaCacheIdeal.τ).loc Cert.SwaCacheIdeal.main_arg1)
      ∧ r.2.mem ((c.tc : Thread Cert.SwaCacheIdeal.nD Cert.SwaCacheIdeal.τ).loc Cert.SwaCacheIdeal.main_arg2) = m ((c.tc : Thread Cert.SwaCacheIdeal.nD Cert.SwaCacheIdeal.τ).loc Cert.SwaCacheIdeal.main_arg2)
      ∧ r.2.mem ((c.tc : Thread Cert.SwaCacheIdeal.nD Cert.SwaCacheIdeal.τ).loc Cert.SwaCacheIdeal.main_arg3) = m ((c.tc : Thread Cert.SwaCacheIdeal.nD Cert.SwaCacheIdeal.τ).loc Cert.SwaCacheIdeal.main_arg3)
      ∧ r.2.mem ((c.tc : Thread Cert.SwaCacheIdeal.nD Cert.SwaCacheIdeal.τ).loc Cert.SwaCacheIdeal.main_arg4) = m ((c.tc : Thread Cert.SwaCacheIdeal.nD Cert.SwaCacheIdeal.τ).loc Cert.SwaCacheIdeal.main_arg4)
      ∧ r.2.mem ((c.tc : Thread Cert.SwaCacheIdeal.nD Cert.SwaCacheIdeal.τ).loc Cert.SwaCacheIdeal.main_arg5) = m ((c.tc : Thread Cert.SwaCacheIdeal.nD Cert.SwaCacheIdeal.τ).loc Cert.SwaCacheIdeal.main_arg5)
      ∧ r.2.mem ((c.tc : Thread Cert.SwaCacheIdeal.nD Cert.SwaCacheIdeal.τ).loc Cert.SwaCacheIdeal.main_arg6) = m ((c.tc : Thread Cert.SwaCacheIdeal.nD Cert.SwaCacheIdeal.τ).loc Cert.SwaCacheIdeal.main_arg6))
      ∧ r.2.sem = fun _ => 0)

def quiescent_SwaCacheReferenceIdeal [hSwaCacheReferenceIdeal : Cert.SwaCacheReferenceIdeal.Facts] : Prop :=
  ∀ (m : (ℓ : Loc Cert.SwaCacheReferenceIdeal.nD Cert.SwaCacheReferenceIdeal.τ Cert.SwaCacheReferenceIdeal.sig) → Buf (Elt Ideal) ℓ) (g : Dev Cert.SwaCacheReferenceIdeal.nD → PrngReg), Pre_SwaCacheReferenceIdeal m →
    θ_run (Cert.SwaCacheReferenceIdeal.defs (F := Ideal)) (onTc (τ := Cert.SwaCacheReferenceIdeal.τ) (Cert.SwaCacheReferenceIdeal.main (F := Ideal))) ⟨m, fun _ => 0, g⟩ (fun r => (∀ c : Dev Cert.SwaCacheReferenceIdeal.nD,
      r.2.mem ((c.tc : Thread Cert.SwaCacheReferenceIdeal.nD Cert.SwaCacheReferenceIdeal.τ).loc Cert.SwaCacheReferenceIdeal.main_arg0) = m ((c.tc : Thread Cert.SwaCacheReferenceIdeal.nD Cert.SwaCacheReferenceIdeal.τ).loc Cert.SwaCacheReferenceIdeal.main_arg0)
      ∧ r.2.mem ((c.tc : Thread Cert.SwaCacheReferenceIdeal.nD Cert.SwaCacheReferenceIdeal.τ).loc Cert.SwaCacheReferenceIdeal.main_arg1) = m ((c.tc : Thread Cert.SwaCacheReferenceIdeal.nD Cert.SwaCacheReferenceIdeal.τ).loc Cert.SwaCacheReferenceIdeal.main_arg1)
      ∧ r.2.mem ((c.tc : Thread Cert.SwaCacheReferenceIdeal.nD Cert.SwaCacheReferenceIdeal.τ).loc Cert.SwaCacheReferenceIdeal.main_arg2) = m ((c.tc : Thread Cert.SwaCacheReferenceIdeal.nD Cert.SwaCacheReferenceIdeal.τ).loc Cert.SwaCacheReferenceIdeal.main_arg2)
      ∧ r.2.mem ((c.tc : Thread Cert.SwaCacheReferenceIdeal.nD Cert.SwaCacheReferenceIdeal.τ).loc Cert.SwaCacheReferenceIdeal.main_arg3) = m ((c.tc : Thread Cert.SwaCacheReferenceIdeal.nD Cert.SwaCacheReferenceIdeal.τ).loc Cert.SwaCacheReferenceIdeal.main_arg3)
      ∧ r.2.mem ((c.tc : Thread Cert.SwaCacheReferenceIdeal.nD Cert.SwaCacheReferenceIdeal.τ).loc Cert.SwaCacheReferenceIdeal.main_arg4) = m ((c.tc : Thread Cert.SwaCacheReferenceIdeal.nD Cert.SwaCacheReferenceIdeal.τ).loc Cert.SwaCacheReferenceIdeal.main_arg4)
      ∧ r.2.mem ((c.tc : Thread Cert.SwaCacheReferenceIdeal.nD Cert.SwaCacheReferenceIdeal.τ).loc Cert.SwaCacheReferenceIdeal.main_arg5) = m ((c.tc : Thread Cert.SwaCacheReferenceIdeal.nD Cert.SwaCacheReferenceIdeal.τ).loc Cert.SwaCacheReferenceIdeal.main_arg5)
      ∧ r.2.mem ((c.tc : Thread Cert.SwaCacheReferenceIdeal.nD Cert.SwaCacheReferenceIdeal.τ).loc Cert.SwaCacheReferenceIdeal.main_arg6) = m ((c.tc : Thread Cert.SwaCacheReferenceIdeal.nD Cert.SwaCacheReferenceIdeal.τ).loc Cert.SwaCacheReferenceIdeal.main_arg6))
      ∧ r.2.sem = fun _ => 0)

def quiescent_GlaState [hGlaState : Cert.GlaState.Facts] : Prop :=
  ∀ (m : (ℓ : Loc Cert.GlaState.nD Cert.GlaState.τ Cert.GlaState.sig) → Buf (Elt Bits) ℓ) (g : Dev Cert.GlaState.nD → PrngReg), Pre_GlaState m →
    θ_run (Cert.GlaState.defs (F := Bits)) (onTc (τ := Cert.GlaState.τ) (Cert.GlaState.main (F := Bits))) ⟨m, fun _ => 0, g⟩ (fun r => (∀ c : Dev Cert.GlaState.nD,
      r.2.mem ((c.tc : Thread Cert.GlaState.nD Cert.GlaState.τ).loc Cert.GlaState.main_arg0) = m ((c.tc : Thread Cert.GlaState.nD Cert.GlaState.τ).loc Cert.GlaState.main_arg0)
      ∧ r.2.mem ((c.tc : Thread Cert.GlaState.nD Cert.GlaState.τ).loc Cert.GlaState.main_arg1) = m ((c.tc : Thread Cert.GlaState.nD Cert.GlaState.τ).loc Cert.GlaState.main_arg1)
      ∧ r.2.mem ((c.tc : Thread Cert.GlaState.nD Cert.GlaState.τ).loc Cert.GlaState.main_arg2) = m ((c.tc : Thread Cert.GlaState.nD Cert.GlaState.τ).loc Cert.GlaState.main_arg2)
      ∧ r.2.mem ((c.tc : Thread Cert.GlaState.nD Cert.GlaState.τ).loc Cert.GlaState.main_arg3) = m ((c.tc : Thread Cert.GlaState.nD Cert.GlaState.τ).loc Cert.GlaState.main_arg3)
      ∧ r.2.mem ((c.tc : Thread Cert.GlaState.nD Cert.GlaState.τ).loc Cert.GlaState.main_arg4) = m ((c.tc : Thread Cert.GlaState.nD Cert.GlaState.τ).loc Cert.GlaState.main_arg4))
      ∧ r.2.sem = fun _ => 0)

def quiescent_GlaStateIdeal [hGlaStateIdeal : Cert.GlaStateIdeal.Facts] : Prop :=
  ∀ (m : (ℓ : Loc Cert.GlaStateIdeal.nD Cert.GlaStateIdeal.τ Cert.GlaStateIdeal.sig) → Buf (Elt Ideal) ℓ) (g : Dev Cert.GlaStateIdeal.nD → PrngReg), Pre_GlaStateIdeal m →
    θ_run (Cert.GlaStateIdeal.defs (F := Ideal)) (onTc (τ := Cert.GlaStateIdeal.τ) (Cert.GlaStateIdeal.main (F := Ideal))) ⟨m, fun _ => 0, g⟩ (fun r => (∀ c : Dev Cert.GlaStateIdeal.nD,
      r.2.mem ((c.tc : Thread Cert.GlaStateIdeal.nD Cert.GlaStateIdeal.τ).loc Cert.GlaStateIdeal.main_arg0) = m ((c.tc : Thread Cert.GlaStateIdeal.nD Cert.GlaStateIdeal.τ).loc Cert.GlaStateIdeal.main_arg0)
      ∧ r.2.mem ((c.tc : Thread Cert.GlaStateIdeal.nD Cert.GlaStateIdeal.τ).loc Cert.GlaStateIdeal.main_arg1) = m ((c.tc : Thread Cert.GlaStateIdeal.nD Cert.GlaStateIdeal.τ).loc Cert.GlaStateIdeal.main_arg1)
      ∧ r.2.mem ((c.tc : Thread Cert.GlaStateIdeal.nD Cert.GlaStateIdeal.τ).loc Cert.GlaStateIdeal.main_arg2) = m ((c.tc : Thread Cert.GlaStateIdeal.nD Cert.GlaStateIdeal.τ).loc Cert.GlaStateIdeal.main_arg2)
      ∧ r.2.mem ((c.tc : Thread Cert.GlaStateIdeal.nD Cert.GlaStateIdeal.τ).loc Cert.GlaStateIdeal.main_arg3) = m ((c.tc : Thread Cert.GlaStateIdeal.nD Cert.GlaStateIdeal.τ).loc Cert.GlaStateIdeal.main_arg3)
      ∧ r.2.mem ((c.tc : Thread Cert.GlaStateIdeal.nD Cert.GlaStateIdeal.τ).loc Cert.GlaStateIdeal.main_arg4) = m ((c.tc : Thread Cert.GlaStateIdeal.nD Cert.GlaStateIdeal.τ).loc Cert.GlaStateIdeal.main_arg4))
      ∧ r.2.sem = fun _ => 0)

def quiescent_GlaStateReferenceIdeal [hGlaStateReferenceIdeal : Cert.GlaStateReferenceIdeal.Facts] : Prop :=
  ∀ (m : (ℓ : Loc Cert.GlaStateReferenceIdeal.nD Cert.GlaStateReferenceIdeal.τ Cert.GlaStateReferenceIdeal.sig) → Buf (Elt Ideal) ℓ) (g : Dev Cert.GlaStateReferenceIdeal.nD → PrngReg), Pre_GlaStateReferenceIdeal m →
    θ_run (Cert.GlaStateReferenceIdeal.defs (F := Ideal)) (onTc (τ := Cert.GlaStateReferenceIdeal.τ) (Cert.GlaStateReferenceIdeal.main (F := Ideal))) ⟨m, fun _ => 0, g⟩ (fun r => (∀ c : Dev Cert.GlaStateReferenceIdeal.nD,
      r.2.mem ((c.tc : Thread Cert.GlaStateReferenceIdeal.nD Cert.GlaStateReferenceIdeal.τ).loc Cert.GlaStateReferenceIdeal.main_arg0) = m ((c.tc : Thread Cert.GlaStateReferenceIdeal.nD Cert.GlaStateReferenceIdeal.τ).loc Cert.GlaStateReferenceIdeal.main_arg0)
      ∧ r.2.mem ((c.tc : Thread Cert.GlaStateReferenceIdeal.nD Cert.GlaStateReferenceIdeal.τ).loc Cert.GlaStateReferenceIdeal.main_arg1) = m ((c.tc : Thread Cert.GlaStateReferenceIdeal.nD Cert.GlaStateReferenceIdeal.τ).loc Cert.GlaStateReferenceIdeal.main_arg1)
      ∧ r.2.mem ((c.tc : Thread Cert.GlaStateReferenceIdeal.nD Cert.GlaStateReferenceIdeal.τ).loc Cert.GlaStateReferenceIdeal.main_arg2) = m ((c.tc : Thread Cert.GlaStateReferenceIdeal.nD Cert.GlaStateReferenceIdeal.τ).loc Cert.GlaStateReferenceIdeal.main_arg2)
      ∧ r.2.mem ((c.tc : Thread Cert.GlaStateReferenceIdeal.nD Cert.GlaStateReferenceIdeal.τ).loc Cert.GlaStateReferenceIdeal.main_arg3) = m ((c.tc : Thread Cert.GlaStateReferenceIdeal.nD Cert.GlaStateReferenceIdeal.τ).loc Cert.GlaStateReferenceIdeal.main_arg3)
      ∧ r.2.mem ((c.tc : Thread Cert.GlaStateReferenceIdeal.nD Cert.GlaStateReferenceIdeal.τ).loc Cert.GlaStateReferenceIdeal.main_arg4) = m ((c.tc : Thread Cert.GlaStateReferenceIdeal.nD Cert.GlaStateReferenceIdeal.τ).loc Cert.GlaStateReferenceIdeal.main_arg4))
      ∧ r.2.sem = fun _ => 0)

def preserves_Kernel_KernelIdeal : Prop :=
  True

def algebraic_KernelIdeal_ReferenceIdeal_pre_expert_runs [hKernelIdeal : Cert.KernelIdeal.Facts] [hReferenceIdeal : Cert.ReferenceIdeal.Facts] [hPre_expert_runs : Cert.Pre_expert_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_expert_runs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FinalPrompt_FinalPromptIdeal : Prop :=
  True

def algebraic_FinalPromptIdeal_FinalPromptReferenceIdeal [hFinalPromptIdeal : Cert.FinalPromptIdeal.Facts] [hFinalPromptReferenceIdeal : Cert.FinalPromptReferenceIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptReferenceIdeal.nD Cert.FinalPromptReferenceIdeal.τ Cert.FinalPromptReferenceIdeal.sig) → Buf (Elt Ideal) ℓ) (g' : Dev Cert.FinalPromptReferenceIdeal.nD → PrngReg), Pre_FinalPromptIdeal m →
    (∀ c : Dev Cert.FinalPromptIdeal.nD,
      m' ((c.tc : Thread Cert.FinalPromptReferenceIdeal.nD Cert.FinalPromptReferenceIdeal.τ).loc Cert.FinalPromptReferenceIdeal.main_arg0) = m ((c.tc : Thread Cert.FinalPromptIdeal.nD Cert.FinalPromptIdeal.τ).loc Cert.FinalPromptIdeal.main_arg0)
      ∧ m' ((c.tc : Thread Cert.FinalPromptReferenceIdeal.nD Cert.FinalPromptReferenceIdeal.τ).loc Cert.FinalPromptReferenceIdeal.main_arg1) = m ((c.tc : Thread Cert.FinalPromptIdeal.nD Cert.FinalPromptIdeal.τ).loc Cert.FinalPromptIdeal.main_arg1)
      ∧ m' ((c.tc : Thread Cert.FinalPromptReferenceIdeal.nD Cert.FinalPromptReferenceIdeal.τ).loc Cert.FinalPromptReferenceIdeal.main_arg2) = m ((c.tc : Thread Cert.FinalPromptIdeal.nD Cert.FinalPromptIdeal.τ).loc Cert.FinalPromptIdeal.main_arg2)) →
    ∃ (v0 : (c : Dev Cert.FinalPromptIdeal.nD) → Buf (Elt Ideal) ((c.tc : Thread Cert.FinalPromptIdeal.nD Cert.FinalPromptIdeal.τ).loc Cert.FinalPromptIdeal.main_v1)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v1) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
          ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2))
      ∧ θ_run (Cert.FinalPromptReferenceIdeal.defs (F := Ideal)) (onTc (τ := Cert.FinalPromptReferenceIdeal.τ) (Cert.FinalPromptReferenceIdeal.main (F := Ideal))) ⟨m', fun _ => 0, g'⟩ (fun r => ∀ c : Dev Cert.FinalPromptReferenceIdeal.nD,
          r.2.mem ((c.tc : Thread Cert.FinalPromptReferenceIdeal.nD Cert.FinalPromptReferenceIdeal.τ).loc Cert.FinalPromptReferenceIdeal.main_v15) = v0 c
          ∧ r.2.mem ((c.tc : Thread Cert.FinalPromptReferenceIdeal.nD Cert.FinalPromptReferenceIdeal.τ).loc Cert.FinalPromptReferenceIdeal.main_arg0) = m' ((c.tc : Thread Cert.FinalPromptReferenceIdeal.nD Cert.FinalPromptReferenceIdeal.τ).loc Cert.FinalPromptReferenceIdeal.main_arg0)
          ∧ r.2.mem ((c.tc : Thread Cert.FinalPromptReferenceIdeal.nD Cert.FinalPromptReferenceIdeal.τ).loc Cert.FinalPromptReferenceIdeal.main_arg1) = m' ((c.tc : Thread Cert.FinalPromptReferenceIdeal.nD Cert.FinalPromptReferenceIdeal.τ).loc Cert.FinalPromptReferenceIdeal.main_arg1)
          ∧ r.2.mem ((c.tc : Thread Cert.FinalPromptReferenceIdeal.nD Cert.FinalPromptReferenceIdeal.τ).loc Cert.FinalPromptReferenceIdeal.main_arg2) = m' ((c.tc : Thread Cert.FinalPromptReferenceIdeal.nD Cert.FinalPromptReferenceIdeal.τ).loc Cert.FinalPromptReferenceIdeal.main_arg2))

def preserves_FinalSample_FinalSampleIdeal : Prop :=
  True

def algebraic_FinalSampleIdeal_FinalSampleReferenceIdeal [hFinalSampleIdeal : Cert.FinalSampleIdeal.Facts] [hFinalSampleReferenceIdeal : Cert.FinalSampleReferenceIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleReferenceIdeal.nD Cert.FinalSampleReferenceIdeal.τ Cert.FinalSampleReferenceIdeal.sig) → Buf (Elt Ideal) ℓ) (g' : Dev Cert.FinalSampleReferenceIdeal.nD → PrngReg), Pre_FinalSampleIdeal m →
    (∀ c : Dev Cert.FinalSampleIdeal.nD,
      m' ((c.tc : Thread Cert.FinalSampleReferenceIdeal.nD Cert.FinalSampleReferenceIdeal.τ).loc Cert.FinalSampleReferenceIdeal.main_arg0) = m ((c.tc : Thread Cert.FinalSampleIdeal.nD Cert.FinalSampleIdeal.τ).loc Cert.FinalSampleIdeal.main_arg0)
      ∧ m' ((c.tc : Thread Cert.FinalSampleReferenceIdeal.nD Cert.FinalSampleReferenceIdeal.τ).loc Cert.FinalSampleReferenceIdeal.main_arg1) = m ((c.tc : Thread Cert.FinalSampleIdeal.nD Cert.FinalSampleIdeal.τ).loc Cert.FinalSampleIdeal.main_arg1)
      ∧ m' ((c.tc : Thread Cert.FinalSampleReferenceIdeal.nD Cert.FinalSampleReferenceIdeal.τ).loc Cert.FinalSampleReferenceIdeal.main_arg2) = m ((c.tc : Thread Cert.FinalSampleIdeal.nD Cert.FinalSampleIdeal.τ).loc Cert.FinalSampleIdeal.main_arg2)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2))
      ∧ θ_run (Cert.FinalSampleReferenceIdeal.defs (F := Ideal)) (onTc (τ := Cert.FinalSampleReferenceIdeal.τ) (Cert.FinalSampleReferenceIdeal.main (F := Ideal))) ⟨m', fun _ => 0, g'⟩ (fun r => ∀ c : Dev Cert.FinalSampleReferenceIdeal.nD,
          r.2.mem ((c.tc : Thread Cert.FinalSampleReferenceIdeal.nD Cert.FinalSampleReferenceIdeal.τ).loc Cert.FinalSampleReferenceIdeal.main_v15) = v0 c
          ∧ r.2.mem ((c.tc : Thread Cert.FinalSampleReferenceIdeal.nD Cert.FinalSampleReferenceIdeal.τ).loc Cert.FinalSampleReferenceIdeal.main_arg0) = m' ((c.tc : Thread Cert.FinalSampleReferenceIdeal.nD Cert.FinalSampleReferenceIdeal.τ).loc Cert.FinalSampleReferenceIdeal.main_arg0)
          ∧ r.2.mem ((c.tc : Thread Cert.FinalSampleReferenceIdeal.nD Cert.FinalSampleReferenceIdeal.τ).loc Cert.FinalSampleReferenceIdeal.main_arg1) = m' ((c.tc : Thread Cert.FinalSampleReferenceIdeal.nD Cert.FinalSampleReferenceIdeal.τ).loc Cert.FinalSampleReferenceIdeal.main_arg1)
          ∧ r.2.mem ((c.tc : Thread Cert.FinalSampleReferenceIdeal.nD Cert.FinalSampleReferenceIdeal.τ).loc Cert.FinalSampleReferenceIdeal.main_arg2) = m' ((c.tc : Thread Cert.FinalSampleReferenceIdeal.nD Cert.FinalSampleReferenceIdeal.τ).loc Cert.FinalSampleReferenceIdeal.main_arg2))

def preserves_BandCache_BandCacheIdeal : Prop :=
  True

def algebraic_BandCacheIdeal_BandCacheReferenceIdeal [hBandCacheIdeal : Cert.BandCacheIdeal.Facts] [hBandCacheReferenceIdeal : Cert.BandCacheReferenceIdeal.Facts] : Prop :=
  ∀ (m : (ℓ : Loc Cert.BandCacheIdeal.nD Cert.BandCacheIdeal.τ Cert.BandCacheIdeal.sig) → Buf (Elt Ideal) ℓ) (g : Dev Cert.BandCacheIdeal.nD → PrngReg)
    (m' : (ℓ : Loc Cert.BandCacheReferenceIdeal.nD Cert.BandCacheReferenceIdeal.τ Cert.BandCacheReferenceIdeal.sig) → Buf (Elt Ideal) ℓ) (g' : Dev Cert.BandCacheReferenceIdeal.nD → PrngReg), Pre_BandCacheIdeal m →
    (∀ c : Dev Cert.BandCacheIdeal.nD,
      m' ((c.tc : Thread Cert.BandCacheReferenceIdeal.nD Cert.BandCacheReferenceIdeal.τ).loc Cert.BandCacheReferenceIdeal.main_arg0) = m ((c.tc : Thread Cert.BandCacheIdeal.nD Cert.BandCacheIdeal.τ).loc Cert.BandCacheIdeal.main_arg0)
      ∧ m' ((c.tc : Thread Cert.BandCacheReferenceIdeal.nD Cert.BandCacheReferenceIdeal.τ).loc Cert.BandCacheReferenceIdeal.main_arg1) = m ((c.tc : Thread Cert.BandCacheIdeal.nD Cert.BandCacheIdeal.τ).loc Cert.BandCacheIdeal.main_arg1)
      ∧ m' ((c.tc : Thread Cert.BandCacheReferenceIdeal.nD Cert.BandCacheReferenceIdeal.τ).loc Cert.BandCacheReferenceIdeal.main_arg2) = m ((c.tc : Thread Cert.BandCacheIdeal.nD Cert.BandCacheIdeal.τ).loc Cert.BandCacheIdeal.main_arg2)
      ∧ m' ((c.tc : Thread Cert.BandCacheReferenceIdeal.nD Cert.BandCacheReferenceIdeal.τ).loc Cert.BandCacheReferenceIdeal.main_arg3) = m ((c.tc : Thread Cert.BandCacheIdeal.nD Cert.BandCacheIdeal.τ).loc Cert.BandCacheIdeal.main_arg3)
      ∧ m' ((c.tc : Thread Cert.BandCacheReferenceIdeal.nD Cert.BandCacheReferenceIdeal.τ).loc Cert.BandCacheReferenceIdeal.main_arg4) = m ((c.tc : Thread Cert.BandCacheIdeal.nD Cert.BandCacheIdeal.τ).loc Cert.BandCacheIdeal.main_arg4)
      ∧ m' ((c.tc : Thread Cert.BandCacheReferenceIdeal.nD Cert.BandCacheReferenceIdeal.τ).loc Cert.BandCacheReferenceIdeal.main_arg5) = m ((c.tc : Thread Cert.BandCacheIdeal.nD Cert.BandCacheIdeal.τ).loc Cert.BandCacheIdeal.main_arg5)) →
    ∃ (v0 : (c : Dev Cert.BandCacheIdeal.nD) → Buf (Elt Ideal) ((c.tc : Thread Cert.BandCacheIdeal.nD Cert.BandCacheIdeal.τ).loc Cert.BandCacheIdeal.main_v21)) (v1 : (c : Dev Cert.BandCacheIdeal.nD) → Buf (Elt Ideal) ((c.tc : Thread Cert.BandCacheIdeal.nD Cert.BandCacheIdeal.τ).loc Cert.BandCacheIdeal.main_v29)) (v2 : (c : Dev Cert.BandCacheIdeal.nD) → Buf (Elt Ideal) ((c.tc : Thread Cert.BandCacheIdeal.nD Cert.BandCacheIdeal.τ).loc Cert.BandCacheIdeal.main_v39)) (v3 : (c : Dev Cert.BandCacheIdeal.nD) → Buf (Elt Ideal) ((c.tc : Thread Cert.BandCacheIdeal.nD Cert.BandCacheIdeal.τ).loc Cert.BandCacheIdeal.main_v43)),
      θ_run (Cert.BandCacheIdeal.defs (F := Ideal)) (onTc (τ := Cert.BandCacheIdeal.τ) (Cert.BandCacheIdeal.main (F := Ideal))) ⟨m, fun _ => 0, g⟩ (fun r => ∀ c : Dev Cert.BandCacheIdeal.nD,
          r.2.mem ((c.tc : Thread Cert.BandCacheIdeal.nD Cert.BandCacheIdeal.τ).loc Cert.BandCacheIdeal.main_v21) = v0 c
          ∧ r.2.mem ((c.tc : Thread Cert.BandCacheIdeal.nD Cert.BandCacheIdeal.τ).loc Cert.BandCacheIdeal.main_v29) = v1 c
          ∧ r.2.mem ((c.tc : Thread Cert.BandCacheIdeal.nD Cert.BandCacheIdeal.τ).loc Cert.BandCacheIdeal.main_v39) = v2 c
          ∧ r.2.mem ((c.tc : Thread Cert.BandCacheIdeal.nD Cert.BandCacheIdeal.τ).loc Cert.BandCacheIdeal.main_v43) = v3 c
          ∧ r.2.mem ((c.tc : Thread Cert.BandCacheIdeal.nD Cert.BandCacheIdeal.τ).loc Cert.BandCacheIdeal.main_arg0) = m ((c.tc : Thread Cert.BandCacheIdeal.nD Cert.BandCacheIdeal.τ).loc Cert.BandCacheIdeal.main_arg0)
          ∧ r.2.mem ((c.tc : Thread Cert.BandCacheIdeal.nD Cert.BandCacheIdeal.τ).loc Cert.BandCacheIdeal.main_arg1) = m ((c.tc : Thread Cert.BandCacheIdeal.nD Cert.BandCacheIdeal.τ).loc Cert.BandCacheIdeal.main_arg1)
          ∧ r.2.mem ((c.tc : Thread Cert.BandCacheIdeal.nD Cert.BandCacheIdeal.τ).loc Cert.BandCacheIdeal.main_arg2) = m ((c.tc : Thread Cert.BandCacheIdeal.nD Cert.BandCacheIdeal.τ).loc Cert.BandCacheIdeal.main_arg2)
          ∧ r.2.mem ((c.tc : Thread Cert.BandCacheIdeal.nD Cert.BandCacheIdeal.τ).loc Cert.BandCacheIdeal.main_arg3) = m ((c.tc : Thread Cert.BandCacheIdeal.nD Cert.BandCacheIdeal.τ).loc Cert.BandCacheIdeal.main_arg3)
          ∧ r.2.mem ((c.tc : Thread Cert.BandCacheIdeal.nD Cert.BandCacheIdeal.τ).loc Cert.BandCacheIdeal.main_arg4) = m ((c.tc : Thread Cert.BandCacheIdeal.nD Cert.BandCacheIdeal.τ).loc Cert.BandCacheIdeal.main_arg4)
          ∧ r.2.mem ((c.tc : Thread Cert.BandCacheIdeal.nD Cert.BandCacheIdeal.τ).loc Cert.BandCacheIdeal.main_arg5) = m ((c.tc : Thread Cert.BandCacheIdeal.nD Cert.BandCacheIdeal.τ).loc Cert.BandCacheIdeal.main_arg5))
      ∧ θ_run (Cert.BandCacheReferenceIdeal.defs (F := Ideal)) (onTc (τ := Cert.BandCacheReferenceIdeal.τ) (Cert.BandCacheReferenceIdeal.main (F := Ideal))) ⟨m', fun _ => 0, g'⟩ (fun r => ∀ c : Dev Cert.BandCacheReferenceIdeal.nD,
          r.2.mem ((c.tc : Thread Cert.BandCacheReferenceIdeal.nD Cert.BandCacheReferenceIdeal.τ).loc Cert.BandCacheReferenceIdeal.main_v47) = v0 c
          ∧ r.2.mem ((c.tc : Thread Cert.BandCacheReferenceIdeal.nD Cert.BandCacheReferenceIdeal.τ).loc Cert.BandCacheReferenceIdeal.main_v49) = v1 c
          ∧ r.2.mem ((c.tc : Thread Cert.BandCacheReferenceIdeal.nD Cert.BandCacheReferenceIdeal.τ).loc Cert.BandCacheReferenceIdeal.main_v51) = v2 c
          ∧ r.2.mem ((c.tc : Thread Cert.BandCacheReferenceIdeal.nD Cert.BandCacheReferenceIdeal.τ).loc Cert.BandCacheReferenceIdeal.main_v53) = v3 c
          ∧ r.2.mem ((c.tc : Thread Cert.BandCacheReferenceIdeal.nD Cert.BandCacheReferenceIdeal.τ).loc Cert.BandCacheReferenceIdeal.main_arg0) = m' ((c.tc : Thread Cert.BandCacheReferenceIdeal.nD Cert.BandCacheReferenceIdeal.τ).loc Cert.BandCacheReferenceIdeal.main_arg0)
          ∧ r.2.mem ((c.tc : Thread Cert.BandCacheReferenceIdeal.nD Cert.BandCacheReferenceIdeal.τ).loc Cert.BandCacheReferenceIdeal.main_arg1) = m' ((c.tc : Thread Cert.BandCacheReferenceIdeal.nD Cert.BandCacheReferenceIdeal.τ).loc Cert.BandCacheReferenceIdeal.main_arg1)
          ∧ r.2.mem ((c.tc : Thread Cert.BandCacheReferenceIdeal.nD Cert.BandCacheReferenceIdeal.τ).loc Cert.BandCacheReferenceIdeal.main_arg2) = m' ((c.tc : Thread Cert.BandCacheReferenceIdeal.nD Cert.BandCacheReferenceIdeal.τ).loc Cert.BandCacheReferenceIdeal.main_arg2)
          ∧ r.2.mem ((c.tc : Thread Cert.BandCacheReferenceIdeal.nD Cert.BandCacheReferenceIdeal.τ).loc Cert.BandCacheReferenceIdeal.main_arg3) = m' ((c.tc : Thread Cert.BandCacheReferenceIdeal.nD Cert.BandCacheReferenceIdeal.τ).loc Cert.BandCacheReferenceIdeal.main_arg3)
          ∧ r.2.mem ((c.tc : Thread Cert.BandCacheReferenceIdeal.nD Cert.BandCacheReferenceIdeal.τ).loc Cert.BandCacheReferenceIdeal.main_arg4) = m' ((c.tc : Thread Cert.BandCacheReferenceIdeal.nD Cert.BandCacheReferenceIdeal.τ).loc Cert.BandCacheReferenceIdeal.main_arg4)
          ∧ r.2.mem ((c.tc : Thread Cert.BandCacheReferenceIdeal.nD Cert.BandCacheReferenceIdeal.τ).loc Cert.BandCacheReferenceIdeal.main_arg5) = m' ((c.tc : Thread Cert.BandCacheReferenceIdeal.nD Cert.BandCacheReferenceIdeal.τ).loc Cert.BandCacheReferenceIdeal.main_arg5))

def preserves_SwaCache_SwaCacheIdeal : Prop :=
  True

def algebraic_SwaCacheIdeal_SwaCacheReferenceIdeal [hSwaCacheIdeal : Cert.SwaCacheIdeal.Facts] [hSwaCacheReferenceIdeal : Cert.SwaCacheReferenceIdeal.Facts] : Prop :=
  ∀ (m : (ℓ : Loc Cert.SwaCacheIdeal.nD Cert.SwaCacheIdeal.τ Cert.SwaCacheIdeal.sig) → Buf (Elt Ideal) ℓ) (g : Dev Cert.SwaCacheIdeal.nD → PrngReg)
    (m' : (ℓ : Loc Cert.SwaCacheReferenceIdeal.nD Cert.SwaCacheReferenceIdeal.τ Cert.SwaCacheReferenceIdeal.sig) → Buf (Elt Ideal) ℓ) (g' : Dev Cert.SwaCacheReferenceIdeal.nD → PrngReg), Pre_SwaCacheIdeal m →
    (∀ c : Dev Cert.SwaCacheIdeal.nD,
      m' ((c.tc : Thread Cert.SwaCacheReferenceIdeal.nD Cert.SwaCacheReferenceIdeal.τ).loc Cert.SwaCacheReferenceIdeal.main_arg0) = m ((c.tc : Thread Cert.SwaCacheIdeal.nD Cert.SwaCacheIdeal.τ).loc Cert.SwaCacheIdeal.main_arg0)
      ∧ m' ((c.tc : Thread Cert.SwaCacheReferenceIdeal.nD Cert.SwaCacheReferenceIdeal.τ).loc Cert.SwaCacheReferenceIdeal.main_arg1) = m ((c.tc : Thread Cert.SwaCacheIdeal.nD Cert.SwaCacheIdeal.τ).loc Cert.SwaCacheIdeal.main_arg1)
      ∧ m' ((c.tc : Thread Cert.SwaCacheReferenceIdeal.nD Cert.SwaCacheReferenceIdeal.τ).loc Cert.SwaCacheReferenceIdeal.main_arg2) = m ((c.tc : Thread Cert.SwaCacheIdeal.nD Cert.SwaCacheIdeal.τ).loc Cert.SwaCacheIdeal.main_arg2)
      ∧ m' ((c.tc : Thread Cert.SwaCacheReferenceIdeal.nD Cert.SwaCacheReferenceIdeal.τ).loc Cert.SwaCacheReferenceIdeal.main_arg3) = m ((c.tc : Thread Cert.SwaCacheIdeal.nD Cert.SwaCacheIdeal.τ).loc Cert.SwaCacheIdeal.main_arg3)
      ∧ m' ((c.tc : Thread Cert.SwaCacheReferenceIdeal.nD Cert.SwaCacheReferenceIdeal.τ).loc Cert.SwaCacheReferenceIdeal.main_arg4) = m ((c.tc : Thread Cert.SwaCacheIdeal.nD Cert.SwaCacheIdeal.τ).loc Cert.SwaCacheIdeal.main_arg4)
      ∧ m' ((c.tc : Thread Cert.SwaCacheReferenceIdeal.nD Cert.SwaCacheReferenceIdeal.τ).loc Cert.SwaCacheReferenceIdeal.main_arg5) = m ((c.tc : Thread Cert.SwaCacheIdeal.nD Cert.SwaCacheIdeal.τ).loc Cert.SwaCacheIdeal.main_arg5)
      ∧ m' ((c.tc : Thread Cert.SwaCacheReferenceIdeal.nD Cert.SwaCacheReferenceIdeal.τ).loc Cert.SwaCacheReferenceIdeal.main_arg6) = m ((c.tc : Thread Cert.SwaCacheIdeal.nD Cert.SwaCacheIdeal.τ).loc Cert.SwaCacheIdeal.main_arg6)) →
    ∃ (v0 : (c : Dev Cert.SwaCacheIdeal.nD) → Buf (Elt Ideal) ((c.tc : Thread Cert.SwaCacheIdeal.nD Cert.SwaCacheIdeal.τ).loc Cert.SwaCacheIdeal.main_v80)) (v1 : (c : Dev Cert.SwaCacheIdeal.nD) → Buf (Elt Ideal) ((c.tc : Thread Cert.SwaCacheIdeal.nD Cert.SwaCacheIdeal.τ).loc Cert.SwaCacheIdeal.main_v90)) (v2 : (c : Dev Cert.SwaCacheIdeal.nD) → Buf (Elt Ideal) ((c.tc : Thread Cert.SwaCacheIdeal.nD Cert.SwaCacheIdeal.τ).loc Cert.SwaCacheIdeal.main_v106)) (v3 : (c : Dev Cert.SwaCacheIdeal.nD) → Buf (Elt Ideal) ((c.tc : Thread Cert.SwaCacheIdeal.nD Cert.SwaCacheIdeal.τ).loc Cert.SwaCacheIdeal.main_v110)),
      θ_run (Cert.SwaCacheIdeal.defs (F := Ideal)) (onTc (τ := Cert.SwaCacheIdeal.τ) (Cert.SwaCacheIdeal.main (F := Ideal))) ⟨m, fun _ => 0, g⟩ (fun r => ∀ c : Dev Cert.SwaCacheIdeal.nD,
          r.2.mem ((c.tc : Thread Cert.SwaCacheIdeal.nD Cert.SwaCacheIdeal.τ).loc Cert.SwaCacheIdeal.main_v80) = v0 c
          ∧ r.2.mem ((c.tc : Thread Cert.SwaCacheIdeal.nD Cert.SwaCacheIdeal.τ).loc Cert.SwaCacheIdeal.main_v90) = v1 c
          ∧ r.2.mem ((c.tc : Thread Cert.SwaCacheIdeal.nD Cert.SwaCacheIdeal.τ).loc Cert.SwaCacheIdeal.main_v106) = v2 c
          ∧ r.2.mem ((c.tc : Thread Cert.SwaCacheIdeal.nD Cert.SwaCacheIdeal.τ).loc Cert.SwaCacheIdeal.main_v110) = v3 c
          ∧ r.2.mem ((c.tc : Thread Cert.SwaCacheIdeal.nD Cert.SwaCacheIdeal.τ).loc Cert.SwaCacheIdeal.main_arg0) = m ((c.tc : Thread Cert.SwaCacheIdeal.nD Cert.SwaCacheIdeal.τ).loc Cert.SwaCacheIdeal.main_arg0)
          ∧ r.2.mem ((c.tc : Thread Cert.SwaCacheIdeal.nD Cert.SwaCacheIdeal.τ).loc Cert.SwaCacheIdeal.main_arg1) = m ((c.tc : Thread Cert.SwaCacheIdeal.nD Cert.SwaCacheIdeal.τ).loc Cert.SwaCacheIdeal.main_arg1)
          ∧ r.2.mem ((c.tc : Thread Cert.SwaCacheIdeal.nD Cert.SwaCacheIdeal.τ).loc Cert.SwaCacheIdeal.main_arg2) = m ((c.tc : Thread Cert.SwaCacheIdeal.nD Cert.SwaCacheIdeal.τ).loc Cert.SwaCacheIdeal.main_arg2)
          ∧ r.2.mem ((c.tc : Thread Cert.SwaCacheIdeal.nD Cert.SwaCacheIdeal.τ).loc Cert.SwaCacheIdeal.main_arg3) = m ((c.tc : Thread Cert.SwaCacheIdeal.nD Cert.SwaCacheIdeal.τ).loc Cert.SwaCacheIdeal.main_arg3)
          ∧ r.2.mem ((c.tc : Thread Cert.SwaCacheIdeal.nD Cert.SwaCacheIdeal.τ).loc Cert.SwaCacheIdeal.main_arg4) = m ((c.tc : Thread Cert.SwaCacheIdeal.nD Cert.SwaCacheIdeal.τ).loc Cert.SwaCacheIdeal.main_arg4)
          ∧ r.2.mem ((c.tc : Thread Cert.SwaCacheIdeal.nD Cert.SwaCacheIdeal.τ).loc Cert.SwaCacheIdeal.main_arg5) = m ((c.tc : Thread Cert.SwaCacheIdeal.nD Cert.SwaCacheIdeal.τ).loc Cert.SwaCacheIdeal.main_arg5)
          ∧ r.2.mem ((c.tc : Thread Cert.SwaCacheIdeal.nD Cert.SwaCacheIdeal.τ).loc Cert.SwaCacheIdeal.main_arg6) = m ((c.tc : Thread Cert.SwaCacheIdeal.nD Cert.SwaCacheIdeal.τ).loc Cert.SwaCacheIdeal.main_arg6))
      ∧ θ_run (Cert.SwaCacheReferenceIdeal.defs (F := Ideal)) (onTc (τ := Cert.SwaCacheReferenceIdeal.τ) (Cert.SwaCacheReferenceIdeal.main (F := Ideal))) ⟨m', fun _ => 0, g'⟩ (fun r => ∀ c : Dev Cert.SwaCacheReferenceIdeal.nD,
          r.2.mem ((c.tc : Thread Cert.SwaCacheReferenceIdeal.nD Cert.SwaCacheReferenceIdeal.τ).loc Cert.SwaCacheReferenceIdeal.main_v138) = v0 c
          ∧ r.2.mem ((c.tc : Thread Cert.SwaCacheReferenceIdeal.nD Cert.SwaCacheReferenceIdeal.τ).loc Cert.SwaCacheReferenceIdeal.main_v140) = v1 c
          ∧ r.2.mem ((c.tc : Thread Cert.SwaCacheReferenceIdeal.nD Cert.SwaCacheReferenceIdeal.τ).loc Cert.SwaCacheReferenceIdeal.main_v142) = v2 c
          ∧ r.2.mem ((c.tc : Thread Cert.SwaCacheReferenceIdeal.nD Cert.SwaCacheReferenceIdeal.τ).loc Cert.SwaCacheReferenceIdeal.main_v144) = v3 c
          ∧ r.2.mem ((c.tc : Thread Cert.SwaCacheReferenceIdeal.nD Cert.SwaCacheReferenceIdeal.τ).loc Cert.SwaCacheReferenceIdeal.main_arg0) = m' ((c.tc : Thread Cert.SwaCacheReferenceIdeal.nD Cert.SwaCacheReferenceIdeal.τ).loc Cert.SwaCacheReferenceIdeal.main_arg0)
          ∧ r.2.mem ((c.tc : Thread Cert.SwaCacheReferenceIdeal.nD Cert.SwaCacheReferenceIdeal.τ).loc Cert.SwaCacheReferenceIdeal.main_arg1) = m' ((c.tc : Thread Cert.SwaCacheReferenceIdeal.nD Cert.SwaCacheReferenceIdeal.τ).loc Cert.SwaCacheReferenceIdeal.main_arg1)
          ∧ r.2.mem ((c.tc : Thread Cert.SwaCacheReferenceIdeal.nD Cert.SwaCacheReferenceIdeal.τ).loc Cert.SwaCacheReferenceIdeal.main_arg2) = m' ((c.tc : Thread Cert.SwaCacheReferenceIdeal.nD Cert.SwaCacheReferenceIdeal.τ).loc Cert.SwaCacheReferenceIdeal.main_arg2)
          ∧ r.2.mem ((c.tc : Thread Cert.SwaCacheReferenceIdeal.nD Cert.SwaCacheReferenceIdeal.τ).loc Cert.SwaCacheReferenceIdeal.main_arg3) = m' ((c.tc : Thread Cert.SwaCacheReferenceIdeal.nD Cert.SwaCacheReferenceIdeal.τ).loc Cert.SwaCacheReferenceIdeal.main_arg3)
          ∧ r.2.mem ((c.tc : Thread Cert.SwaCacheReferenceIdeal.nD Cert.SwaCacheReferenceIdeal.τ).loc Cert.SwaCacheReferenceIdeal.main_arg4) = m' ((c.tc : Thread Cert.SwaCacheReferenceIdeal.nD Cert.SwaCacheReferenceIdeal.τ).loc Cert.SwaCacheReferenceIdeal.main_arg4)
          ∧ r.2.mem ((c.tc : Thread Cert.SwaCacheReferenceIdeal.nD Cert.SwaCacheReferenceIdeal.τ).loc Cert.SwaCacheReferenceIdeal.main_arg5) = m' ((c.tc : Thread Cert.SwaCacheReferenceIdeal.nD Cert.SwaCacheReferenceIdeal.τ).loc Cert.SwaCacheReferenceIdeal.main_arg5)
          ∧ r.2.mem ((c.tc : Thread Cert.SwaCacheReferenceIdeal.nD Cert.SwaCacheReferenceIdeal.τ).loc Cert.SwaCacheReferenceIdeal.main_arg6) = m' ((c.tc : Thread Cert.SwaCacheReferenceIdeal.nD Cert.SwaCacheReferenceIdeal.τ).loc Cert.SwaCacheReferenceIdeal.main_arg6))

def preserves_GlaState_GlaStateIdeal : Prop :=
  True

def algebraic_GlaStateIdeal_GlaStateReferenceIdeal [hGlaStateIdeal : Cert.GlaStateIdeal.Facts] [hGlaStateReferenceIdeal : Cert.GlaStateReferenceIdeal.Facts] : Prop :=
  ∀ (m : (ℓ : Loc Cert.GlaStateIdeal.nD Cert.GlaStateIdeal.τ Cert.GlaStateIdeal.sig) → Buf (Elt Ideal) ℓ) (g : Dev Cert.GlaStateIdeal.nD → PrngReg)
    (m' : (ℓ : Loc Cert.GlaStateReferenceIdeal.nD Cert.GlaStateReferenceIdeal.τ Cert.GlaStateReferenceIdeal.sig) → Buf (Elt Ideal) ℓ) (g' : Dev Cert.GlaStateReferenceIdeal.nD → PrngReg), Pre_GlaStateIdeal m →
    (∀ c : Dev Cert.GlaStateIdeal.nD,
      m' ((c.tc : Thread Cert.GlaStateReferenceIdeal.nD Cert.GlaStateReferenceIdeal.τ).loc Cert.GlaStateReferenceIdeal.main_arg0) = m ((c.tc : Thread Cert.GlaStateIdeal.nD Cert.GlaStateIdeal.τ).loc Cert.GlaStateIdeal.main_arg0)
      ∧ m' ((c.tc : Thread Cert.GlaStateReferenceIdeal.nD Cert.GlaStateReferenceIdeal.τ).loc Cert.GlaStateReferenceIdeal.main_arg1) = m ((c.tc : Thread Cert.GlaStateIdeal.nD Cert.GlaStateIdeal.τ).loc Cert.GlaStateIdeal.main_arg1)
      ∧ m' ((c.tc : Thread Cert.GlaStateReferenceIdeal.nD Cert.GlaStateReferenceIdeal.τ).loc Cert.GlaStateReferenceIdeal.main_arg2) = m ((c.tc : Thread Cert.GlaStateIdeal.nD Cert.GlaStateIdeal.τ).loc Cert.GlaStateIdeal.main_arg2)
      ∧ m' ((c.tc : Thread Cert.GlaStateReferenceIdeal.nD Cert.GlaStateReferenceIdeal.τ).loc Cert.GlaStateReferenceIdeal.main_arg3) = m ((c.tc : Thread Cert.GlaStateIdeal.nD Cert.GlaStateIdeal.τ).loc Cert.GlaStateIdeal.main_arg3)
      ∧ m' ((c.tc : Thread Cert.GlaStateReferenceIdeal.nD Cert.GlaStateReferenceIdeal.τ).loc Cert.GlaStateReferenceIdeal.main_arg4) = m ((c.tc : Thread Cert.GlaStateIdeal.nD Cert.GlaStateIdeal.τ).loc Cert.GlaStateIdeal.main_arg4)) →
    ∃ (v0 : (c : Dev Cert.GlaStateIdeal.nD) → Buf (Elt Ideal) ((c.tc : Thread Cert.GlaStateIdeal.nD Cert.GlaStateIdeal.τ).loc Cert.GlaStateIdeal.main_v30)),
      θ_run (Cert.GlaStateIdeal.defs (F := Ideal)) (onTc (τ := Cert.GlaStateIdeal.τ) (Cert.GlaStateIdeal.main (F := Ideal))) ⟨m, fun _ => 0, g⟩ (fun r => ∀ c : Dev Cert.GlaStateIdeal.nD,
          r.2.mem ((c.tc : Thread Cert.GlaStateIdeal.nD Cert.GlaStateIdeal.τ).loc Cert.GlaStateIdeal.main_v30) = v0 c
          ∧ r.2.mem ((c.tc : Thread Cert.GlaStateIdeal.nD Cert.GlaStateIdeal.τ).loc Cert.GlaStateIdeal.main_arg0) = m ((c.tc : Thread Cert.GlaStateIdeal.nD Cert.GlaStateIdeal.τ).loc Cert.GlaStateIdeal.main_arg0)
          ∧ r.2.mem ((c.tc : Thread Cert.GlaStateIdeal.nD Cert.GlaStateIdeal.τ).loc Cert.GlaStateIdeal.main_arg1) = m ((c.tc : Thread Cert.GlaStateIdeal.nD Cert.GlaStateIdeal.τ).loc Cert.GlaStateIdeal.main_arg1)
          ∧ r.2.mem ((c.tc : Thread Cert.GlaStateIdeal.nD Cert.GlaStateIdeal.τ).loc Cert.GlaStateIdeal.main_arg2) = m ((c.tc : Thread Cert.GlaStateIdeal.nD Cert.GlaStateIdeal.τ).loc Cert.GlaStateIdeal.main_arg2)
          ∧ r.2.mem ((c.tc : Thread Cert.GlaStateIdeal.nD Cert.GlaStateIdeal.τ).loc Cert.GlaStateIdeal.main_arg3) = m ((c.tc : Thread Cert.GlaStateIdeal.nD Cert.GlaStateIdeal.τ).loc Cert.GlaStateIdeal.main_arg3)
          ∧ r.2.mem ((c.tc : Thread Cert.GlaStateIdeal.nD Cert.GlaStateIdeal.τ).loc Cert.GlaStateIdeal.main_arg4) = m ((c.tc : Thread Cert.GlaStateIdeal.nD Cert.GlaStateIdeal.τ).loc Cert.GlaStateIdeal.main_arg4))
      ∧ θ_run (Cert.GlaStateReferenceIdeal.defs (F := Ideal)) (onTc (τ := Cert.GlaStateReferenceIdeal.τ) (Cert.GlaStateReferenceIdeal.main (F := Ideal))) ⟨m', fun _ => 0, g'⟩ (fun r => ∀ c : Dev Cert.GlaStateReferenceIdeal.nD,
          r.2.mem ((c.tc : Thread Cert.GlaStateReferenceIdeal.nD Cert.GlaStateReferenceIdeal.τ).loc Cert.GlaStateReferenceIdeal.main_v32) = v0 c
          ∧ r.2.mem ((c.tc : Thread Cert.GlaStateReferenceIdeal.nD Cert.GlaStateReferenceIdeal.τ).loc Cert.GlaStateReferenceIdeal.main_arg0) = m' ((c.tc : Thread Cert.GlaStateReferenceIdeal.nD Cert.GlaStateReferenceIdeal.τ).loc Cert.GlaStateReferenceIdeal.main_arg0)
          ∧ r.2.mem ((c.tc : Thread Cert.GlaStateReferenceIdeal.nD Cert.GlaStateReferenceIdeal.τ).loc Cert.GlaStateReferenceIdeal.main_arg1) = m' ((c.tc : Thread Cert.GlaStateReferenceIdeal.nD Cert.GlaStateReferenceIdeal.τ).loc Cert.GlaStateReferenceIdeal.main_arg1)
          ∧ r.2.mem ((c.tc : Thread Cert.GlaStateReferenceIdeal.nD Cert.GlaStateReferenceIdeal.τ).loc Cert.GlaStateReferenceIdeal.main_arg2) = m' ((c.tc : Thread Cert.GlaStateReferenceIdeal.nD Cert.GlaStateReferenceIdeal.τ).loc Cert.GlaStateReferenceIdeal.main_arg2)
          ∧ r.2.mem ((c.tc : Thread Cert.GlaStateReferenceIdeal.nD Cert.GlaStateReferenceIdeal.τ).loc Cert.GlaStateReferenceIdeal.main_arg3) = m' ((c.tc : Thread Cert.GlaStateReferenceIdeal.nD Cert.GlaStateReferenceIdeal.τ).loc Cert.GlaStateReferenceIdeal.main_arg3)
          ∧ r.2.mem ((c.tc : Thread Cert.GlaStateReferenceIdeal.nD Cert.GlaStateReferenceIdeal.τ).loc Cert.GlaStateReferenceIdeal.main_arg4) = m' ((c.tc : Thread Cert.GlaStateReferenceIdeal.nD Cert.GlaStateReferenceIdeal.τ).loc Cert.GlaStateReferenceIdeal.main_arg4))

def Claim : Prop :=
  ∃ (hKernel : Cert.Kernel.Facts) (hKernelIdeal : Cert.KernelIdeal.Facts) (hReferenceIdeal : Cert.ReferenceIdeal.Facts) (hFinalPrompt : Cert.FinalPrompt.Facts) (hFinalPromptIdeal : Cert.FinalPromptIdeal.Facts) (hFinalPromptReferenceIdeal : Cert.FinalPromptReferenceIdeal.Facts) (hFinalSample : Cert.FinalSample.Facts) (hFinalSampleIdeal : Cert.FinalSampleIdeal.Facts) (hFinalSampleReferenceIdeal : Cert.FinalSampleReferenceIdeal.Facts) (hBandCache : Cert.BandCache.Facts) (hBandCacheIdeal : Cert.BandCacheIdeal.Facts) (hBandCacheReferenceIdeal : Cert.BandCacheReferenceIdeal.Facts) (hSwaCache : Cert.SwaCache.Facts) (hSwaCacheIdeal : Cert.SwaCacheIdeal.Facts) (hSwaCacheReferenceIdeal : Cert.SwaCacheReferenceIdeal.Facts) (hGlaState : Cert.GlaState.Facts) (hGlaStateIdeal : Cert.GlaStateIdeal.Facts) (hGlaStateReferenceIdeal : Cert.GlaStateReferenceIdeal.Facts) (hPre_expert_ids : Cert.Pre_expert_ids.Facts) (hPre_expert_runs : Cert.Pre_expert_runs.Facts),
    quiescent_Kernel (hKernel := hKernel) (hPre_expert_ids := hPre_expert_ids)
    ∧ quiescent_KernelIdeal (hKernelIdeal := hKernelIdeal) (hPre_expert_ids := hPre_expert_ids)
    ∧ quiescent_KernelIdeal_pre_expert_runs (hKernelIdeal := hKernelIdeal) (hPre_expert_runs := hPre_expert_runs)
    ∧ quiescent_ReferenceIdeal (hReferenceIdeal := hReferenceIdeal)
    ∧ quiescent_ReferenceIdeal_pre_expert_runs (hReferenceIdeal := hReferenceIdeal) (hPre_expert_runs := hPre_expert_runs)
    ∧ quiescent_FinalPrompt (hFinalPrompt := hFinalPrompt)
    ∧ quiescent_FinalPromptIdeal (hFinalPromptIdeal := hFinalPromptIdeal)
    ∧ quiescent_FinalPromptReferenceIdeal (hFinalPromptReferenceIdeal := hFinalPromptReferenceIdeal)
    ∧ quiescent_FinalSample (hFinalSample := hFinalSample)
    ∧ quiescent_FinalSampleIdeal (hFinalSampleIdeal := hFinalSampleIdeal)
    ∧ quiescent_FinalSampleReferenceIdeal (hFinalSampleReferenceIdeal := hFinalSampleReferenceIdeal)
    ∧ quiescent_BandCache (hBandCache := hBandCache)
    ∧ quiescent_BandCacheIdeal (hBandCacheIdeal := hBandCacheIdeal)
    ∧ quiescent_BandCacheReferenceIdeal (hBandCacheReferenceIdeal := hBandCacheReferenceIdeal)
    ∧ quiescent_SwaCache (hSwaCache := hSwaCache)
    ∧ quiescent_SwaCacheIdeal (hSwaCacheIdeal := hSwaCacheIdeal)
    ∧ quiescent_SwaCacheReferenceIdeal (hSwaCacheReferenceIdeal := hSwaCacheReferenceIdeal)
    ∧ quiescent_GlaState (hGlaState := hGlaState)
    ∧ quiescent_GlaStateIdeal (hGlaStateIdeal := hGlaStateIdeal)
    ∧ quiescent_GlaStateReferenceIdeal (hGlaStateReferenceIdeal := hGlaStateReferenceIdeal)
    ∧ preserves_Kernel_KernelIdeal
    ∧ algebraic_KernelIdeal_ReferenceIdeal_pre_expert_runs (hKernelIdeal := hKernelIdeal) (hReferenceIdeal := hReferenceIdeal) (hPre_expert_runs := hPre_expert_runs)
    ∧ preserves_FinalPrompt_FinalPromptIdeal
    ∧ algebraic_FinalPromptIdeal_FinalPromptReferenceIdeal (hFinalPromptIdeal := hFinalPromptIdeal) (hFinalPromptReferenceIdeal := hFinalPromptReferenceIdeal)
    ∧ preserves_FinalSample_FinalSampleIdeal
    ∧ algebraic_FinalSampleIdeal_FinalSampleReferenceIdeal (hFinalSampleIdeal := hFinalSampleIdeal) (hFinalSampleReferenceIdeal := hFinalSampleReferenceIdeal)
    ∧ preserves_BandCache_BandCacheIdeal
    ∧ algebraic_BandCacheIdeal_BandCacheReferenceIdeal (hBandCacheIdeal := hBandCacheIdeal) (hBandCacheReferenceIdeal := hBandCacheReferenceIdeal)
    ∧ preserves_SwaCache_SwaCacheIdeal
    ∧ algebraic_SwaCacheIdeal_SwaCacheReferenceIdeal (hSwaCacheIdeal := hSwaCacheIdeal) (hSwaCacheReferenceIdeal := hSwaCacheReferenceIdeal)
    ∧ preserves_GlaState_GlaStateIdeal
    ∧ algebraic_GlaStateIdeal_GlaStateReferenceIdeal (hGlaStateIdeal := hGlaStateIdeal) (hGlaStateReferenceIdeal := hGlaStateReferenceIdeal)
-- ==== Pre_expert_ids.lean ====
abbrev S41984x2048 : Shape := ⟨2, ![41984, 2048]⟩
abbrev S164 : Shape := ⟨1, ![164]⟩
abbrev S32x2048x512 : Shape := ⟨3, ![32, 2048, 512]⟩
abbrev S32x512x2048 : Shape := ⟨3, ![32, 512, 2048]⟩
abbrev S_ : Shape := ⟨0, ![]⟩

class Facts : Prop where
  bcast_S_S164 : S_.BroadcastsInDim S164 (![] : Fin 0 → Fin S164.rank)

variable [Facts]

def fn {F : FTy → Type} [FloatOps F] (main_arg0 : FVec F S41984x2048 .bf16) (main_arg1 : IVec S164 32) (main_arg2 : IVec S164 32) (main_arg3 : FVec F S32x2048x512 .f32) (main_arg4 : FVec F S32x2048x512 .f32) (main_arg5 : FVec F S32x512x2048 .f32) : IVec S164 1 :=
  let main_c : IVec S_ 32 := constantI S_ 32 0#32
  let main_v0 : IVec S164 32 := broadcastInDim S164 ![] bcast_S_S164 main_c
  let main_v1 : IVec S164 1 := cmpi .sge main_arg1 main_v0
  let main_c_0 : IVec S_ 32 := constantI S_ 32 32#32
  let main_v2 : IVec S164 32 := broadcastInDim S164 ![] bcast_S_S164 main_c_0
  let main_v3 : IVec S164 1 := cmpi .slt main_arg1 main_v2
  let main_v4 : IVec S164 1 := andi main_v1 main_v3
  main_v4
-- ==== Pre_expert_runs.lean ====
abbrev S41984x2048 : Shape := ⟨2, ![41984, 2048]⟩
abbrev S164 : Shape := ⟨1, ![164]⟩
abbrev S32x2048x512 : Shape := ⟨3, ![32, 2048, 512]⟩
abbrev S32x512x2048 : Shape := ⟨3, ![32, 512, 2048]⟩
abbrev S_ : Shape := ⟨0, ![]⟩
abbrev S1 : Shape := ⟨1, ![1]⟩
abbrev S163 : Shape := ⟨1, ![163]⟩

class Facts : Prop where
  bcast_S_S1 : S_.BroadcastsInDim S1 (![] : Fin 0 → Fin S1.rank)
  slices_S164_S163_0 : S164.Slices ![0] S163
  concatenates_S1_S163_S164_d0 : Shape.Concatenates [S1, S163] S164 0
  bcast_S_S164 : S_.BroadcastsInDim S164 (![] : Fin 0 → Fin S164.rank)

variable [Facts]

def fn_part1 {F : FTy → Type} [FloatOps F] (main_v2 : IVec S164 32) (main_v13 : IVec S164 1) (main_v16 : IVec S164 1) (main_v17 : IVec S164 1) : IVec S164 1 :=
  let main_v18 : IVec S164 1 := ori main_v16 main_v17
  let main_c_5 : IVec S_ 32 := constantI S_ 32 0#32
  let main_v19 : IVec S164 32 := broadcastInDim S164 ![] bcast_S_S164 main_c_5
  let main_v20 : IVec S164 1 := cmpi .ne main_v2 main_v19
  let main_v21 : IVec S164 1 := ori main_v18 main_v20
  let main_v22 : IVec S164 1 := andi main_v13 main_v21
  main_v22

def fn {F : FTy → Type} [FloatOps F] (main_arg0 : FVec F S41984x2048 .bf16) (main_arg1 : IVec S164 32) (main_arg2 : IVec S164 32) (main_arg3 : FVec F S32x2048x512 .f32) (main_arg4 : FVec F S32x2048x512 .f32) (main_arg5 : FVec F S32x512x2048 .f32) : IVec S164 1 :=
  let main_c : IVec S_ 32 := constantI S_ 32 1#32
  let main_v0 : IVec S1 32 := broadcastInDim S1 ![] bcast_S_S1 main_c
  let main_v1 : IVec S163 32 := (extractStridedSlice S163 ![0] · slices_S164_S163_0) main_arg2
  let main_v2 : IVec S164 32 := (fun a b => concatenate S164 0 [⟨S1, a⟩, ⟨S163, b⟩] concatenates_S1_S163_S164_d0) main_v0 main_v1
  let main_c_0 : IVec S_ 32 := constantI S_ 32 0#32
  let main_v3 : IVec S1 32 := broadcastInDim S1 ![] bcast_S_S1 main_c_0
  let main_v4 : IVec S163 32 := (extractStridedSlice S163 ![0] · slices_S164_S163_0) main_arg1
  let main_v5 : IVec S164 32 := (fun a b => concatenate S164 0 [⟨S1, a⟩, ⟨S163, b⟩] concatenates_S1_S163_S164_d0) main_v3 main_v4
  let main_v6 : IVec S164 32 := iotaInDim S164 32 0
  let main_c_1 : IVec S_ 32 := constantI S_ 32 0#32
  let main_v7 : IVec S164 32 := broadcastInDim S164 ![] bcast_S_S164 main_c_1
  let main_v8 : IVec S164 1 := cmpi .eq main_v6 main_v7
  let main_c_2 : IVec S_ 32 := constantI S_ 32 0#32
  let main_v9 : IVec S164 32 := broadcastInDim S164 ![] bcast_S_S164 main_c_2
  let main_v10 : IVec S164 1 := cmpi .sge main_arg1 main_v9
  let main_c_3 : IVec S_ 32 := constantI S_ 32 32#32
  let main_v11 : IVec S164 32 := broadcastInDim S164 ![] bcast_S_S164 main_c_3
  let main_v12 : IVec S164 1 := cmpi .slt main_arg1 main_v11
  let main_v13 : IVec S164 1 := andi main_v10 main_v12
  let main_c_4 : IVec S_ 32 := constantI S_ 32 0#32
  let main_v14 : IVec S164 32 := broadcastInDim S164 ![] bcast_S_S164 main_c_4
  let main_v15 : IVec S164 1 := cmpi .eq main_arg2 main_v14
  let main_v16 : IVec S164 1 := ori main_v8 main_v15
  let main_v17 : IVec S164 1 := cmpi .ne main_arg1 main_v5
  fn_part1 (F := F) main_v2 main_v13 main_v16 main_v17
-- ==== Kernel.lean ====
abbrev S41984x2048 : Shape := ⟨2, ![41984, 2048]⟩
abbrev S164 : Shape := ⟨1, ![164]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S41984x2048, .bf16⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S41984x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S164, .i32⟩
  | .local _ .smem, ⟨1, _⟩ => ⟨S164, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .ne v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .ne v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S41984x2048 : Shape := ⟨2, ![41984, 2048]⟩
abbrev S164 : Shape := ⟨1, ![164]⟩
abbrev S32x2048x512 : Shape := ⟨3, ![32, 2048, 512]⟩
abbrev S32x512x2048 : Shape := ⟨3, ![32, 512, 2048]⟩
abbrev S164x256 : Shape := ⟨2, ![164, 256]⟩
abbrev S41984 : Shape := ⟨1, ![41984]⟩
abbrev S41984x1 : Shape := ⟨2, ![41984, 1]⟩
abbrev S32 : Shape := ⟨1, ![32]⟩
abbrev S1x32 : Shape := ⟨2, ![1, 32]⟩
abbrev S41984x32 : Shape := ⟨2, ![41984, 32]⟩
abbrev S_ : Shape := ⟨0, ![]⟩
abbrev S41984x32x512 : Shape := ⟨3, ![41984, 32, 512]⟩
abbrev S41984x32x1 : Shape := ⟨3, ![41984, 32, 1]⟩

abbrev nBuf : Space → Nat
  | .hbm => 40
  | .vmem => 0
  | .smem => 0
  | _ => 0

abbrev bufTy : (tb : Table) → Fin (tcTables nBuf tb) → BufTy
  | .hbm, ⟨0, _⟩ => ⟨S41984x2048, .bf16⟩
  | .hbm, ⟨1, _⟩ => ⟨S164, .i32⟩
  | .hbm, ⟨2, _⟩ => ⟨S164, .i32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S41984x2048, .f32⟩
  | .hbm, ⟨7, _⟩ => ⟨S164x256, .i32⟩
  | .hbm, ⟨8, _⟩ => ⟨S41984, .i32⟩
  | .hbm, ⟨9, _⟩ => ⟨S164x256, .i32⟩
  | .hbm, ⟨10, _⟩ => ⟨S41984, .i32⟩
  | .hbm, ⟨11, _⟩ => ⟨S41984x1, .i32⟩
  | .hbm, ⟨12, _⟩ => ⟨S32, .i32⟩
  | .hbm, ⟨13, _⟩ => ⟨S1x32, .i32⟩
  | .hbm, ⟨14, _⟩ => ⟨S41984x32, .i32⟩
  | .hbm, ⟨15, _⟩ => ⟨S41984x32, .i32⟩
  | .hbm, ⟨16, _⟩ => ⟨S41984x32, .i1⟩
  | .hbm, ⟨17, _⟩ => ⟨S41984x1, .i32⟩
  | .hbm, ⟨18, _⟩ => ⟨S_, .i32⟩
  | .hbm, ⟨19, _⟩ => ⟨S41984x1, .i32⟩
  | .hbm, ⟨20, _⟩ => ⟨S41984x1, .i1⟩
  | .hbm, ⟨21, _⟩ => ⟨S41984x32, .i1⟩
  | .hbm, ⟨22, _⟩ => ⟨S41984x32, .i1⟩
  | .hbm, ⟨23, _⟩ => ⟨S41984x32, .f32⟩
  | .hbm, ⟨24, _⟩ => ⟨S41984x32x512, .f32⟩
  | .hbm, ⟨25, _⟩ => ⟨S41984x32x512, .f32⟩
  | .hbm, ⟨26, _⟩ => ⟨S41984x32x512, .f32⟩
  | .hbm, ⟨27, _⟩ => ⟨S_, .f32⟩
  | .hbm, ⟨28, _⟩ => ⟨S41984x32x512, .f32⟩
  | .hbm, ⟨29, _⟩ => ⟨S41984x32x512, .f32⟩
  | .hbm, ⟨30, _⟩ => ⟨S_, .f32⟩
  | .hbm, ⟨31, _⟩ => ⟨S41984x32x512, .f32⟩
  | .hbm, ⟨32, _⟩ => ⟨S41984x32x512, .f32⟩
  | .hbm, ⟨33, _⟩ => ⟨S41984x32x512, .f32⟩
  | .hbm, ⟨34, _⟩ => ⟨S41984x32x512, .f32⟩
  | .hbm, ⟨35, _⟩ => ⟨S41984x32x512, .f32⟩
  | .hbm, ⟨36, _⟩ => ⟨S41984x32x1, .f32⟩
  | .hbm, ⟨37, _⟩ => ⟨S41984x32x512, .f32⟩
  | .hbm, ⟨38, _⟩ => ⟨S41984x32x512, .f32⟩
  | .hbm, ⟨39, _⟩ => ⟨S41984x2048, .f32⟩
  | _, _ => ⟨S41984x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== FinalPrompt.lean ====
abbrev S16896x2048 : Shape := ⟨2, ![16896, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalPromptReferenceIdeal.lean ====
abbrev S16896x2048 : Shape := ⟨2, ![16896, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FinalSample.lean ====
abbrev S16896x2048 : Shape := ⟨2, ![16896, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 4
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S2048, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== FinalSampleReferenceIdeal.lean ====
abbrev S16896x2048 : Shape := ⟨2, ![16896, 2048]⟩
abbrev S2048 : Shape := ⟨1, ![2048]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x2048, .f32⟩
  | .hbm, ⟨18, _⟩ => ⟨S512x2048, .f32⟩
  | .hbm, ⟨19, _⟩ => ⟨S1x2048, .f32⟩
  | .hbm, ⟨20, _⟩ => ⟨S512x2048, .f32⟩
  | .hbm, ⟨21, _⟩ => ⟨S512x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== BandCache.lean ====
abbrev S2x8192x2048 : Shape := ⟨3, ![2, 8192, 2048]⟩
abbrev S16x32x2048 : Shape := ⟨3, ![16, 32, 2048]⟩
abbrev S1x16x512x8x128 : Shape := ⟨5, ![1, 16, 512, 8, 128]⟩
abbrev S2x2048 : Shape := ⟨2, ![2, 2048]⟩
abbrev S1x2048x6160 : Shape := ⟨3, ![1, 2048, 6160]⟩
abbrev S16384x2048 : Shape := ⟨2, ![16384, 2048]⟩
abbrev S512x2048 : Shape := ⟨2, ![512, 2048]⟩
abbrev S2048x6160 : Shape := ⟨2, ![2048, 6160]⟩
abbrev S2048x3072 : Shape := ⟨2, ![2048, 3072]⟩
abbrev S2048x16 : Shape := ⟨2, ![2048, 16]⟩
abbrev S_ : Shape := ⟨0, ![]⟩
abbrev S2048x112 : Shape := ⟨2, ![2048, 112]⟩
abbrev S2048x6272 : Shape := ⟨2, ![2048, 6272]⟩
abbrev S16896x2048 : Shape := ⟨2, ![16896, 2048]⟩
abbrev S1x2048 : Shape := ⟨2, ![1, 2048]⟩
abbrev S2048 : Shape := ⟨1, ![2048]⟩
abbrev S16896x6272 : Shape := ⟨2, ![16896, 6272]⟩
abbrev S2048x896 : Shape := ⟨2, ![2048, 896]⟩
abbrev S512x896 : Shape := ⟨2, ![512, 896]⟩
abbrev S512 : Shape := ⟨1, ![512]⟩
abbrev S512x1 : Shape := ⟨2, ![512, 1]⟩
abbrev S512x1024 : Shape := ⟨2, ![512, 1024]⟩
abbrev S1x512x1024 : Shape := ⟨3, ![1, 512, 1024]⟩
abbrev S2x512x1024 : Shape := ⟨3, ![2, 512, 1024]⟩
abbrev S2x512x8x128 : Shape := ⟨4, ![2, 512, 8, 128]⟩
abbrev S1x2x512x8x128 : Shape := ⟨5, ![1, 2, 512, 8, 128]⟩
abbrev S16x32x8x128 : Shape := ⟨4, ![16, 32, 8, 128]⟩
abbrev S16x512x8x128 : Shape := ⟨4, ![16, 512, 8, 128]⟩
abbrev S16x544x8x128 : Shape := ⟨4, ![16, 544, 8, 128]⟩

abbrev nBuf : Space → Nat
  | .hbm => 51
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S16x32x2048, .f32⟩
  | .hbm, ⟨2, _⟩ => ⟨S1x16x512x8x128, .f32⟩
  | .hbm, ⟨3, _⟩ => ⟨S1x16x512x8x128, .f32⟩
  | .hbm, ⟨4, _⟩ => ⟨S2x2048, .f32⟩
  | .hbm, ⟨5, _⟩ => ⟨S1x2048x6160, .f32⟩
  | .hbm, ⟨6, _⟩ => ⟨S16384x2048, .f32⟩
  | .hbm, ⟨7, _⟩ => ⟨S512x2048, .f32⟩
  | .hbm, ⟨8, _⟩ => ⟨S2048x6160, .f32⟩
  | .hbm, ⟨9, _⟩ => ⟨S2048x3072, .f32⟩
  | .hbm, ⟨10, _⟩ => ⟨S2048x3072, .f32⟩
  | .hbm, ⟨11, _⟩ => ⟨S2048x16, .f32⟩
  | .hbm, ⟨12, _⟩ => ⟨S_, .f32⟩
  | .hbm, ⟨13, _⟩ => ⟨S2048x112, .f32⟩
  | .hbm, ⟨14, _⟩ => ⟨S2048x6272, .f32⟩
  | .hbm, ⟨15, _⟩ => ⟨S2048x6272, .bf16⟩
  | .hbm, ⟨16, _⟩ => ⟨S16896x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16896x6272, .bf16⟩
  | .hbm, ⟨21, _⟩ => ⟨S512x1024, .bf16⟩
  | .hbm, ⟨22, _⟩ => ⟨S512x1024, .bf16⟩
  | .hbm, ⟨23, _⟩ => ⟨S1x512x1024, .bf16⟩
  | .hbm, ⟨24, _⟩ => ⟨S1x512x1024, .bf16⟩
  | .hbm, ⟨25, _⟩ => ⟨S2x512x1024, .bf16⟩
  | .hbm, ⟨26, _⟩ => ⟨S2x512x1024, .f32⟩
  | .hbm, ⟨27, _⟩ => ⟨S2x512x8x128, .f32⟩
  | .hbm, ⟨28, _⟩ => ⟨S1x2x512x8x128, .f32⟩
  | .hbm, ⟨29, _⟩ => ⟨S512x1024, .bf16⟩
  | .hbm, ⟨30, _⟩ => ⟨S512x1024, .bf16⟩
  | .hbm, ⟨31, _⟩ => ⟨S1x512x1024, .bf16⟩
  | .hbm, ⟨32, _⟩ => ⟨S1x512x1024, .bf16⟩
  | .hbm, ⟨33, _⟩ => ⟨S2x512x1024, .bf16⟩
  | .hbm, ⟨34, _⟩ => ⟨S2x512x1024, .f32⟩
  | .hbm, ⟨35, _⟩ => ⟨S2x512x8x128, .f32⟩
  | .hbm, ⟨36, _⟩ => ⟨S1x2x512x8x128, .f32⟩
  | .hbm, ⟨37, _⟩ => ⟨S512x1024, .bf16⟩
  | .hbm, ⟨38, _⟩ => ⟨S512x1024, .f32⟩
  | .hbm, ⟨39, _⟩ => ⟨S16x32x8x128, .f32⟩
  | .hbm, ⟨40, _⟩ => ⟨S512x1024, .bf16⟩
  | .hbm, ⟨41, _⟩ => ⟨S512x1024, .f32⟩
  | .hbm, ⟨42, _⟩ => ⟨S16x32x8x128, .f32⟩
  | .hbm, ⟨43, _⟩ => ⟨S16x512x8x128, .f32⟩
  | .hbm, ⟨44, _⟩ => ⟨S16x544x8x128, .f32⟩
  | .hbm, ⟨45, _⟩ => ⟨S16x512x8x128, .f32⟩
  | .hbm, ⟨46, _⟩ => ⟨S1x16x512x8x128, .f32⟩
  | .hbm, ⟨47, _⟩ => ⟨S16x512x8x128, .f32⟩
  | .hbm, ⟨48, _⟩ => ⟨S16x544x8x128, .f32⟩
  | .hbm, ⟨49, _⟩ => ⟨S16x512x8x128, .f32⟩
  | .hbm, ⟨50, _⟩ => ⟨S1x16x512x8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S512x896, .bf16⟩
  | .local _ .vmem, ⟨6, _⟩ => ⟨S512x896, .bf16⟩
  | .local _ .vmem, ⟨7, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BandCacheReferenceIdeal.lean ====
abbrev S2x8192x2048 : Shape := ⟨3, ![2, 8192, 2048]⟩
abbrev S16x32x2048 : Shape := ⟨3, ![16, 32, 2048]⟩
abbrev S1x16x512x8x128 : Shape := ⟨5, ![1, 16, 512, 8, 128]⟩
abbrev S2x2048 : Shape := ⟨2, ![2, 2048]⟩
abbrev S1x2048x6160 : Shape := ⟨3, ![1, 2048, 6160]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6160 : Shape := ⟨2, ![2048, 6160]⟩
abbrev S2x8192x6160 : Shape := ⟨3, ![2, 8192, 6160]⟩
abbrev S2x8192x1024 : Shape := ⟨3, ![2, 8192, 1024]⟩
abbrev S2x8192x8x128 : Shape := ⟨4, ![2, 8192, 8, 128]⟩
abbrev S16x32 : Shape := ⟨2, ![16, 32]⟩
abbrev S16x32x1 : Shape := ⟨3, ![16, 32, 1]⟩
abbrev S16x32x6160 : Shape := ⟨3, ![16, 32, 6160]⟩
abbrev S16x32x1024 : Shape := ⟨3, ![16, 32, 1024]⟩
abbrev S16x32x8x128 : Shape := ⟨4, ![16, 32, 8, 128]⟩
abbrev S16x512x8x128 : Shape := ⟨4, ![16, 512, 8, 128]⟩
abbrev S16x544x8x128 : Shape := ⟨4, ![16, 544, 8, 128]⟩
abbrev S2x512x8x128 : Shape := ⟨4, ![2, 512, 8, 128]⟩
abbrev S1x2x512x8x128 : Shape := ⟨5, ![1, 2, 512, 8, 128]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16x32x2048, .f32⟩
  | .hbm, ⟨2, _⟩ => ⟨S1x16x512x8x128, .f32⟩
  | .hbm, ⟨3, _⟩ => ⟨S1x16x512x8x128, .f32⟩
  | .hbm, ⟨4, _⟩ => ⟨S2x2048, .f32⟩
  | .hbm, ⟨5, _⟩ => ⟨S1x2048x6160, .f32⟩
  | .hbm, ⟨6, _⟩ => ⟨S1x2048, .f32⟩
  | .hbm, ⟨7, _⟩ => ⟨S2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S2048x6160, .f32⟩
  | .hbm, ⟨25, _⟩ => ⟨S2x8192x6160, .f32⟩
  | .hbm, ⟨26, _⟩ => ⟨S2x8192x1024, .f32⟩
  | .hbm, ⟨27, _⟩ => ⟨S2x8192x8x128, .f32⟩
  | .hbm, ⟨28, _⟩ => ⟨S2x8192x1024, .f32⟩
  | .hbm, ⟨29, _⟩ => ⟨S2x8192x8x128, .f32⟩
  | .hbm, ⟨30, _⟩ => ⟨S1x2048, .f32⟩
  | .hbm, ⟨31, _⟩ => ⟨S2048, .f32⟩
  | .hbm, ⟨32, _⟩ => ⟨S16x32x2048, .f32⟩
  | .hbm, ⟨33, _⟩ => ⟨S_, .f32⟩
  | .hbm, ⟨34, _⟩ => ⟨S16x32, .f32⟩
  | .hbm, ⟨35, _⟩ => ⟨S16x32x1, .f32⟩
  | .hbm, ⟨36, _⟩ => ⟨S_, .f32⟩
  | .hbm, ⟨37, _⟩ => ⟨S16x32x1, .f32⟩
  | .hbm, ⟨38, _⟩ => ⟨S16x32x1, .f32⟩
  | .hbm, ⟨39, _⟩ => ⟨S_, .f32⟩
  | .hbm, ⟨40, _⟩ => ⟨S16x32x1, .f32⟩
  | .hbm, ⟨41, _⟩ => ⟨S16x32x1, .f32⟩
  | .hbm, ⟨42, _⟩ => ⟨S16x32x1, .f32⟩
  | .hbm, ⟨43, _⟩ => ⟨S16x32x2048, .f32⟩
  | .hbm, ⟨44, _⟩ => ⟨S16x32x2048, .f32⟩
  | .hbm, ⟨45, _⟩ => ⟨S1x1x2048, .f32⟩
  | .hbm, ⟨46, _⟩ => ⟨S16x32x2048, .f32⟩
  | .hbm, ⟨47, _⟩ => ⟨S16x32x2048, .f32⟩
  | .hbm, ⟨48, _⟩ => ⟨S2048x6160, .f32⟩
  | .hbm, ⟨49, _⟩ => ⟨S16x32x6160, .f32⟩
  | .hbm, ⟨50, _⟩ => ⟨S16x32x1024, .f32⟩
  | .hbm, ⟨51, _⟩ => ⟨S16x32x8x128, .f32⟩
  | .hbm, ⟨52, _⟩ => ⟨S16x32x1024, .f32⟩
  | .hbm, ⟨53, _⟩ => ⟨S16x32x8x128, .f32⟩
  | .hbm, ⟨54, _⟩ => ⟨S16x512x8x128, .f32⟩
  | .hbm, ⟨55, _⟩ => ⟨S16x544x8x128, .f32⟩
  | .hbm, ⟨56, _⟩ => ⟨S16x512x8x128, .f32⟩
  | .hbm, ⟨57, _⟩ => ⟨S16x544x8x128, .f32⟩
  | .hbm, ⟨58, _⟩ => ⟨S2x512x8x128, .f32⟩
  | .hbm, ⟨59, _⟩ => ⟨S1x2x512x8x128, .f32⟩
  | .hbm, ⟨60, _⟩ => ⟨S2x512x8x128, .f32⟩
  | .hbm, ⟨61, _⟩ => ⟨S1x2x512x8x128, .f32⟩
  | .hbm, ⟨62, _⟩ => ⟨S16x512x8x128, .f32⟩
  | .hbm, ⟨63, _⟩ => ⟨S1x16x512x8x128, .f32⟩
  | .hbm, ⟨64, _⟩ => ⟨S16x512x8x128, .f32⟩
  | .hbm, ⟨65, _⟩ => ⟨S1x16x512x8x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== SwaCache.lean ====
abbrev S16896x2048 : Shape := ⟨2, ![16896, 2048]⟩
abbrev S1x16x128x4x64 : Shape := ⟨5, ![1, 16, 128, 4, 64]⟩
abbrev S2x2048 : Shape := ⟨2, ![2, 2048]⟩
abbrev S1x2048x2560 : Shape := ⟨3, ![1, 2048, 2560]⟩
abbrev S1x2560 : Shape := ⟨2, ![1, 2560]⟩
abbrev S2048x2560 : Shape := ⟨2, ![2048, 2560]⟩
abbrev S2048x2048 : Shape := ⟨2, ![2048, 2048]⟩
abbrev S2048x256 : Shape := ⟨2, ![2048, 256]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S2048x3072 : Shape := ⟨2, ![2048, 3072]⟩
abbrev S2560 : Shape := ⟨1, ![2560]⟩
abbrev S2048 : Shape := ⟨1, ![2048]⟩
abbrev S256 : Shape := ⟨1, ![256]⟩
abbrev S4x1x64 : Shape := ⟨3, ![4, 1, 64]⟩
abbrev S4x2x64 : Shape := ⟨3, ![4, 2, 64]⟩
abbrev S512 : Shape := ⟨1, ![512]⟩
abbrev S3072 : Shape := ⟨1, ![3072]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S16x32 : Shape := ⟨2, ![16, 32]⟩
abbrev S16896 : Shape := ⟨1, ![16896]⟩
abbrev S1x2048 : Shape := ⟨2, ![1, 2048]⟩
abbrev S8 : Shape := ⟨1, ![8]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S1x3072 : Shape := ⟨2, ![1, 3072]⟩
abbrev S16896x3072 : Shape := ⟨2, ![16896, 3072]⟩
abbrev S512x2048 : Shape := ⟨2, ![512, 2048]⟩
abbrev S1x512 : Shape := ⟨2, ![1, 512]⟩
abbrev S512x128 : Shape := ⟨2, ![512, 128]⟩
abbrev S512x512 : Shape := ⟨2, ![512, 512]⟩
abbrev S512x1 : Shape := ⟨2, ![512, 1]⟩
abbrev S128x512 : Shape := ⟨2, ![128, 512]⟩
abbrev S1x128x512 : Shape := ⟨3, ![1, 128, 512]⟩
abbrev S2x128x512 : Shape := ⟨3, ![2, 128, 512]⟩
abbrev S2x128x4x2x64 : Shape := ⟨5, ![2, 128, 4, 2, 64]⟩
abbrev S2x128x4x1x64 : Shape := ⟨5, ![2, 128, 4, 1, 64]⟩
abbrev S2x128x4x64 : Shape := ⟨4, ![2, 128, 4, 64]⟩
abbrev S1x2x128x4x64 : Shape := ⟨5, ![1, 2, 128, 4, 64]⟩
abbrev S512x4x2x64 : Shape := ⟨4, ![512, 4, 2, 64]⟩
abbrev S512x4x1x64 : Shape := ⟨4, ![512, 4, 1, 64]⟩
abbrev S512x4x64 : Shape := ⟨3, ![512, 4, 64]⟩
abbrev S16x32x4x64 : Shape := ⟨4, ![16, 32, 4, 64]⟩
abbrev S16x128x4x64 : Shape := ⟨4, ![16, 128, 4, 64]⟩
abbrev S16x160x4x64 : Shape := ⟨4, ![16, 160, 4, 64]⟩

abbrev nBuf : Space → Nat
  | .hbm => 126
  | .vmem => 20
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S1x16x128x4x64, .f32⟩
  | .hbm, ⟨3, _⟩ => ⟨S1x16x128x4x64, .f32⟩
  | .hbm, ⟨4, _⟩ => ⟨S2x2048, .f32⟩
  | .hbm, ⟨5, _⟩ => ⟨S1x2048x2560, .f32⟩
  | .hbm, ⟨6, _⟩ => ⟨S1x2560, .f32⟩
  | .hbm, ⟨7, _⟩ => ⟨S2048x2560, .f32⟩
  | .hbm, ⟨8, _⟩ => ⟨S2048x2048, .f32⟩
  | .hbm, ⟨9, _⟩ => ⟨S2048x256, .f32⟩
  | .hbm, ⟨10, _⟩ => ⟨S2048x4x1x64, .f32⟩
  | .hbm, ⟨11, _⟩ => ⟨S2048x4x2x64, .f32⟩
  | .hbm, ⟨12, _⟩ => ⟨S2048x512, .f32⟩
  | .hbm, ⟨13, _⟩ => ⟨S2048x256, .f32⟩
  | .hbm, ⟨14, _⟩ => ⟨S2048x4x1x64, .f32⟩
  | .hbm, ⟨15, _⟩ => ⟨S2048x4x2x64, .f32⟩
  | .hbm, ⟨16, _⟩ => ⟨S2048x512, .f32⟩
  | .hbm, ⟨17, _⟩ => ⟨S2048x3072, .f32⟩
  | .hbm, ⟨18, _⟩ => ⟨S2048x3072, .bf16⟩
  | .hbm, ⟨19, _⟩ => ⟨S2560, .f32⟩
  | .hbm, ⟨20, _⟩ => ⟨S2048, .f32⟩
  | .hbm, ⟨21, _⟩ => ⟨S256, .f32⟩
  | .hbm, ⟨22, _⟩ => ⟨S4x1x64, .f32⟩
  | .hbm, ⟨23, _⟩ => ⟨S4x2x64, .f32⟩
  | .hbm, ⟨24, _⟩ => ⟨S512, .f32⟩
  | .hbm, ⟨25, _⟩ => ⟨S256, .f32⟩
  | .hbm, ⟨26, _⟩ => ⟨S4x1x64, .f32⟩
  | .hbm, ⟨27, _⟩ => ⟨S4x2x64, .f32⟩
  | .hbm, ⟨28, _⟩ => ⟨S512, .f32⟩
  | .hbm, ⟨29, _⟩ => ⟨S3072, .f32⟩
  | .hbm, ⟨30, _⟩ => ⟨S8192, .i32⟩
  | .hbm, ⟨31, _⟩ => ⟨S1x8192, .i32⟩
  | .hbm, ⟨32, _⟩ => ⟨S2x8192, .i32⟩
  | .hbm, ⟨33, _⟩ => ⟨S16384, .i32⟩
  | .hbm, ⟨34, _⟩ => ⟨S32, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S1x32, .i32⟩
  | .hbm, ⟨39, _⟩ => ⟨S16x32, .i32⟩
  | .hbm, ⟨40, _⟩ => ⟨S512, .i32⟩
  | .hbm, ⟨41, _⟩ => ⟨S16896, .i32⟩
  | .hbm, ⟨42, _⟩ => ⟨S1x2048, .f32⟩
  | .hbm, ⟨43, _⟩ => ⟨S2048, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S16896, .f32⟩
  | .hbm, ⟨56, _⟩ => ⟨S16896x1, .f32⟩
  | .hbm, ⟨57, _⟩ => ⟨S1x8, .f32⟩
  | .hbm, ⟨58, _⟩ => ⟨S16896x8, .f32⟩
  | .hbm, ⟨59, _⟩ => ⟨S16896x8, .f32⟩
  | .hbm, ⟨60, _⟩ => ⟨S16896x8, .f32⟩
  | .hbm, ⟨61, _⟩ => ⟨S16896x8, .f32⟩
  | .hbm, ⟨62, _⟩ => ⟨S16896x8, .f32⟩
  | .hbm, ⟨63, _⟩ => ⟨S_, .f32⟩
  | .hbm, ⟨64, _⟩ => ⟨S16896x48, .f32⟩
  | .hbm, ⟨65, _⟩ => ⟨S_, .f32⟩
  | .hbm, ⟨66, _⟩ => ⟨S16896x48, .f32⟩
  | .hbm, ⟨67, _⟩ => ⟨S_, .f32⟩
  | .hbm, ⟨68, _⟩ => ⟨S16896x8, .f32⟩
  | .hbm, ⟨69, _⟩ => ⟨S16896x64, .f32⟩
  | .hbm, ⟨70, _⟩ => ⟨S16896x64, .f32⟩
  | .hbm, ⟨71, _⟩ => ⟨S16896x8, .f32⟩
  | .hbm, ⟨72, _⟩ => ⟨S16896x64, .f32⟩
  | .hbm, ⟨73, _⟩ => ⟨S1x16896x1x64, .f32⟩
  | .hbm, ⟨74, _⟩ => ⟨S1x16896x2x64, .f32⟩
  | .hbm, ⟨75, _⟩ => ⟨S16896x128, .f32⟩
  | .hbm, ⟨76, _⟩ => ⟨S1x16896x1x64, .f32⟩
  | .hbm, ⟨77, _⟩ => ⟨S1x16896x2x64, .f32⟩
  | .hbm, ⟨78, _⟩ => ⟨S16896x128, .f32⟩
  | .hbm, ⟨79, _⟩ => ⟨S1x16896x1x64, .f32⟩
  | .hbm, ⟨80, _⟩ => ⟨S1x16896x2x64, .f32⟩
  | .hbm, ⟨81, _⟩ => ⟨S16896x128, .f32⟩
  | .hbm, ⟨82, _⟩ => ⟨S1x2048, .f32⟩
  | .hbm, ⟨83, _⟩ => ⟨S1x3072, .f32⟩
  | .hbm, ⟨84, _⟩ => ⟨S16896x2048, .f32⟩
  | .hbm, ⟨85, _⟩ => ⟨S16896x3072, .bf16⟩
  | .hbm, ⟨86, _⟩ => ⟨S128x512, .bf16⟩
  | .hbm, ⟨87, _⟩ => ⟨S128x512, .bf16⟩
  | .hbm, ⟨88, _⟩ => ⟨S1x128x512, .bf16⟩
  | .hbm, ⟨89, _⟩ => ⟨S1x128x512, .bf16⟩
  | .hbm, ⟨90, _⟩ => ⟨S2x128x512, .bf16⟩
  | .hbm, ⟨91, _⟩ => ⟨S2x128x512, .f32⟩
  | .hbm, ⟨92, _⟩ => ⟨S2x128x4x2x64, .f32⟩
  | .hbm, ⟨93, _⟩ => ⟨S2x128x4x1x64, .f32⟩
  | .hbm, ⟨94, _⟩ => ⟨S2x128x4x64, .f32⟩
  | .hbm, ⟨95, _⟩ => ⟨S1x2x128x4x64, .f32⟩
  | .hbm, ⟨96, _⟩ => ⟨S128x512, .bf16⟩
  | .hbm, ⟨97, _⟩ => ⟨S128x512, .bf16⟩
  | .hbm, ⟨98, _⟩ => ⟨S1x128x512, .bf16⟩
  | .hbm, ⟨99, _⟩ => ⟨S1x128x512, .bf16⟩
  | .hbm, ⟨100, _⟩ => ⟨S2x128x512, .bf16⟩
  | .hbm, ⟨101, _⟩ => ⟨S2x128x512, .f32⟩
  | .hbm, ⟨102, _⟩ => ⟨S2x128x4x2x64, .f32⟩
  | .hbm, ⟨103, _⟩ => ⟨S2x128x4x1x64, .f32⟩
  | .hbm, ⟨104, _⟩ => ⟨S2x128x4x64, .f32⟩
  | .hbm, ⟨105, _⟩ => ⟨S1x2x128x4x64, .f32⟩
  | .hbm, ⟨106, _⟩ => ⟨S512x512, .bf16⟩
  | .hbm, ⟨107, _⟩ => ⟨S512x512, .f32⟩
  | .hbm, ⟨108, _⟩ => ⟨S512x4x2x64, .f32⟩
  | .hbm, ⟨109, _⟩ => ⟨S512x4x1x64, .f32⟩
  | .hbm, ⟨110, _⟩ => ⟨S512x4x64, .f32⟩
  | .hbm, ⟨111, _⟩ => ⟨S16x32x4x64, .f32⟩
  | .hbm, ⟨112, _⟩ => ⟨S512x512, .bf16⟩
  | .hbm, ⟨113, _⟩ => ⟨S512x512, .f32⟩
  | .hbm, ⟨114, _⟩ => ⟨S512x4x2x64, .f32⟩
  | .hbm, ⟨115, _⟩ => ⟨S512x4x1x64, .f32⟩
  | .hbm, ⟨116, _⟩ => ⟨S512x4x64, .f32⟩
  | .hbm, ⟨117, _⟩ => ⟨S16x32x4x64, .f32⟩
  | .hbm, ⟨118, _⟩ => ⟨S16x128x4x64, .f32⟩
  | .hbm, ⟨119, _⟩ => ⟨S16x160x4x64, .f32⟩
  | .hbm, ⟨120, _⟩ => ⟨S16x128x4x64, .f32⟩
  | .hbm, ⟨121, _⟩ => ⟨S1x16x128x4x64, .f32⟩
  | .hbm, ⟨122, _⟩ => ⟨S16x128x4x64, .f32⟩
  | .hbm, ⟨123, _⟩ => ⟨S16x160x4x64, .f32⟩
  | .hbm, ⟨124, _⟩ => ⟨S16x128x4x64, .f32⟩
  | .hbm, ⟨125, _⟩ => ⟨S1x16x128x4x64, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x2048, .f32⟩
  | .local _ .vmem, ⟨16, _⟩ => ⟨S512x2048, .f32⟩
  | .local _ .vmem, ⟨17, _⟩ => ⟨S512x512, .bf16⟩
  | .local _ .vmem, ⟨18, _⟩ => ⟨S512x512, .bf16⟩
  | .local _ .vmem, ⟨19, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70_0 : Ref sig .tc := ⟨.hbm, 84, rfl⟩
abbrev main_v70_1 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![33, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c5_i32 : BitVec 32 := 5#32
  let v11 : BitVec 1 := Scalar.cmpi .slt arg1 c5_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c5_i32_7 : BitVec 32 := 5#32
  let v14 : BitVec 1 := Scalar.cmpi .sge arg1 c5_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SwaCacheReferenceIdeal.lean ====
abbrev S16896x2048 : Shape := ⟨2, ![16896, 2048]⟩
abbrev S1x16x128x4x64 : Shape := ⟨5, ![1, 16, 128, 4, 64]⟩
abbrev S2x2048 : Shape := ⟨2, ![2, 2048]⟩
abbrev S1x2048x2560 : Shape := ⟨3, ![1, 2048, 2560]⟩
abbrev S1x2560 : Shape := ⟨2, ![1, 2560]⟩
abbrev S16384x2048 : Shape := ⟨2, ![16384, 2048]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x2560 : Shape := ⟨2, ![2048, 2560]⟩
abbrev S2x8192x2560 : Shape := ⟨3, ![2, 8192, 2560]⟩
abbrev S2560 : Shape := ⟨1, ![2560]⟩
abbrev S1x1x2560 : Shape := ⟨3, ![1, 1, 2560]⟩
abbrev S8192 : Shape := ⟨1, ![8192]⟩
abbrev S2x8192x256 : Shape := ⟨3, ![2, 8192, 256]⟩
abbrev S2x8192x4x64 : Shape := ⟨4, ![2, 8192, 4, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x4x8 : Shape := ⟨4, ![2, 8192, 4, 8]⟩
abbrev S1x8192x1x8 : Shape := ⟨4, ![1, 8192, 1, 8]⟩
abbrev S2x8192x4x48 : Shape := ⟨4, ![2, 8192, 4, 48]⟩
abbrev S512x2048 : Shape := ⟨2, ![512, 2048]⟩
abbrev S16x32x2048 : Shape := ⟨3, ![16, 32, 2048]⟩
abbrev S16x32 : Shape := ⟨2, ![16, 32]⟩
abbrev S16x32x1 : Shape := ⟨3, ![16, 32, 1]⟩
abbrev S16x32x2560 : Shape := ⟨3, ![16, 32, 2560]⟩
abbrev S32 : Shape := ⟨1, ![32]⟩
abbrev S16x32x256 : Shape := ⟨3, ![16, 32, 256]⟩
abbrev S16x32x4x64 : Shape := ⟨4, ![16, 32, 4, 64]⟩
abbrev S32x1 : Shape := ⟨2, ![32, 1]⟩
abbrev S32x8 : Shape := ⟨2, ![32, 8]⟩
abbrev S32x1x8 : Shape := ⟨3, ![32, 1, 8]⟩
abbrev S16x32x4x8 : Shape := ⟨4, ![16, 32, 4, 8]⟩
abbrev S1x32x1x8 : Shape := ⟨4, ![1, 32, 1, 8]⟩
abbrev S16x32x4x48 : Shape := ⟨4, ![16, 32, 4, 48]⟩
abbrev S16x128x4x64 : Shape := ⟨4, ![16, 128, 4, 64]⟩
abbrev S16x160x4x64 : Shape := ⟨4, ![16, 160, 4, 64]⟩
abbrev S2x128x4x64 : Shape := ⟨4, ![2, 128, 4, 64]⟩
abbrev S1x2x128x4x64 : Shape := ⟨5, ![1, 2, 128, 4, 64]⟩

abbrev nBuf : Space → Nat
  | .hbm => 166
  | .vmem => 0
  | .smem => 0
  | _ => 0

abbrev hbmTy0_0 (i : Nat) : BufTy := match i % 128 with
  | 0 => ⟨S16896x2048, .f32⟩
  | 1 => ⟨S16896x2048, .f32⟩
  | 2 => ⟨S1x16x128x4x64, .f32⟩
  | 3 => ⟨S1x16x128x4x64, .f32⟩
  | 4 => ⟨S2x2048, .f32⟩
  | 5 => ⟨S1x2048x2560, .f32⟩
  | 6 => ⟨S1x2560, .f32⟩
  | 7 => ⟨S16896x2048, .f32⟩
  | 8 => ⟨S16384x2048, .f32⟩
  | 9 => ⟨S2x8192x2048, .f32⟩
  | 10 => ⟨S1x2048, .f32⟩
  | 11 => ⟨S2048, .f32⟩
  | 12 => ⟨S2x8192x2048, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x2048, .f32⟩
  | 24 => ⟨S2x8192x2048, .f32⟩
  | 25 => ⟨S1x1x2048, .f32⟩
  | 26 => ⟨S2x8192x2048, .f32⟩
  | 27 => ⟨S2x8192x2048, .f32⟩
  | 28 => ⟨S2048x2560, .f32⟩
  | 29 => ⟨S2x8192x2560, .f32⟩
  | 30 => ⟨S2560, .f32⟩
  | 31 => ⟨S1x1x2560, .f32⟩
  | 32 => ⟨S2x8192x2560, .f32⟩
  | 33 => ⟨S2x8192x2560, .f32⟩
  | 34 => ⟨S8192, .i32⟩
  | 35 => ⟨S_, .i32⟩
  | 36 => ⟨S8192, .i32⟩
  | 37 => ⟨S8192, .i32⟩
  | 38 => ⟨S2x8192x256, .f32⟩
  | 39 => ⟨S2x8192x4x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8192, .f32⟩
  | 52 => ⟨S8192x1, .f32⟩
  | 53 => ⟨S1x8, .f32⟩
  | 54 => ⟨S8192x8, .f32⟩
  | 55 => ⟨S8192x8, .f32⟩
  | 56 => ⟨S8192x8, .f32⟩
  | 57 => ⟨S8192x8, .f32⟩
  | 58 => ⟨S8192x1x8, .f32⟩
  | 59 => ⟨S8192x8, .f32⟩
  | 60 => ⟨S8192x1x8, .f32⟩
  | 61 => ⟨S2x8192x4x8, .f32⟩
  | 62 => ⟨S2x8192x4x8, .f32⟩
  | 63 => ⟨S1x8192x1x8, .f32⟩
  | 64 => ⟨S2x8192x4x8, .f32⟩
  | 65 => ⟨S2x8192x4x8, .f32⟩
  | 66 => ⟨S1x8192x1x8, .f32⟩
  | 67 => ⟨S2x8192x4x8, .f32⟩
  | 68 => ⟨S2x8192x4x8, .f32⟩
  | 69 => ⟨S2x8192x4x8, .f32⟩
  | 70 => ⟨S1x8192x1x8, .f32⟩
  | 71 => ⟨S2x8192x4x8, .f32⟩
  | 72 => ⟨S2x8192x4x8, .f32⟩
  | 73 => ⟨S1x8192x1x8, .f32⟩
  | 74 => ⟨S2x8192x4x8, .f32⟩
  | 75 => ⟨S2x8192x4x8, .f32⟩
  | 76 => ⟨S2x8192x4x8, .f32⟩
  | 77 => ⟨S2x8192x4x48, .f32⟩
  | 78 => ⟨S2x8192x4x64, .f32⟩
  | 79 => ⟨S2x8192x256, .f32⟩
  | 80 => ⟨S2x8192x4x64, .f32⟩
  | 81 => ⟨S512x2048, .f32⟩
  | 82 => ⟨S16x32x2048, .f32⟩
  | 83 => ⟨S1x2048, .f32⟩
  | 84 => ⟨S2048, .f32⟩
  | 85 => ⟨S16x32x2048, .f32⟩
  | 86 => ⟨S_, .f32⟩
  | 87 => ⟨S16x32, .f32⟩
  | 88 => ⟨S16x32x1, .f32⟩
  | 89 => ⟨S_, .f32⟩
  | 90 => ⟨S16x32x1, .f32⟩
  | 91 => ⟨S16x32x1, .f32⟩
  | 92 => ⟨S_, .f32⟩
  | 93 => ⟨S16x32x1, .f32⟩
  | 94 => ⟨S16x32x1, .f32⟩
  | 95 => ⟨S16x32x1, .f32⟩
  | 96 => ⟨S16x32x2048, .f32⟩
  | 97 => ⟨S16x32x2048, .f32⟩
  | 98 => ⟨S1x1x2048, .f32⟩
  | 99 => ⟨S16x32x2048, .f32⟩
  | 100 => ⟨S16x32x2048, .f32⟩
  | 101 => ⟨S2048x2560, .f32⟩
  | 102 => ⟨S16x32x2560, .f32⟩
  | 103 => ⟨S2560, .f32⟩
  | 104 => ⟨S1x1x2560, .f32⟩
  | 105 => ⟨S16x32x2560, .f32⟩
  | 106 => ⟨S16x32x2560, .f32⟩
  | 107 => ⟨S32, .i32⟩
  | 108 => ⟨S_, .i32⟩
  | 109 => ⟨S32, .i32⟩
  | 110 => ⟨S32, .i32⟩
  | 111 => ⟨S16x32x256, .f32⟩
  | 112 => ⟨S16x32x4x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S32, .f32⟩
  | 125 => ⟨S32x1, .f32⟩
  | 126 => ⟨S1x8, .f32⟩
  | 127 => ⟨S32x8, .f32⟩
  | _ => ⟨S16896x2048, .f32⟩

abbrev hbmTy0_1 (i : Nat) : BufTy := match i % 128 with
  | 0 => ⟨S32x8, .f32⟩
  | 1 => ⟨S32x8, .f32⟩
  | 2 => ⟨S32x8, .f32⟩
  | 3 => ⟨S32x1x8, .f32⟩
  | 4 => ⟨S32x8, .f32⟩
  | 5 => ⟨S32x1x8, .f32⟩
  | 6 => ⟨S16x32x4x8, .f32⟩
  | 7 => ⟨S16x32x4x8, .f32⟩
  | 8 => ⟨S1x32x1x8, .f32⟩
  | 9 => ⟨S16x32x4x8, .f32⟩
  | 10 => ⟨S16x32x4x8, .f32⟩
  | 11 => ⟨S1x32x1x8, .f32⟩
  | 12 => ⟨S16x32x4x8, .f32⟩
  | 13 => ⟨S16x32x4x8, .f32⟩
  | 14 => ⟨S16x32x4x8, .f32⟩
  | 15 => ⟨S1x32x1x8, .f32⟩
  | 16 => ⟨S16x32x4x8, .f32⟩
  | 17 => ⟨S16x32x4x8, .f32⟩
  | 18 => ⟨S1x32x1x8, .f32⟩
  | 19 => ⟨S16x32x4x8, .f32⟩
  | 20 => ⟨S16x32x4x8, .f32⟩
  | 21 => ⟨S16x32x4x8, .f32⟩
  | 22 => ⟨S16x32x4x48, .f32⟩
  | 23 => ⟨S16x32x4x64, .f32⟩
  | 24 => ⟨S16x32x256, .f32⟩
  | 25 => ⟨S16x32x4x64, .f32⟩
  | 26 => ⟨S16x128x4x64, .f32⟩
  | 27 => ⟨S16x160x4x64, .f32⟩
  | 28 => ⟨S16x128x4x64, .f32⟩
  | 29 => ⟨S16x160x4x64, .f32⟩
  | 30 => ⟨S2x128x4x64, .f32⟩
  | 31 => ⟨S1x2x128x4x64, .f32⟩
  | 32 => ⟨S2x128x4x64, .f32⟩
  | 33 => ⟨S1x2x128x4x64, .f32⟩
  | 34 => ⟨S16x128x4x64, .f32⟩
  | 35 => ⟨S1x16x128x4x64, .f32⟩
  | 36 => ⟨S16x128x4x64, .f32⟩
  | 37 => ⟨S1x16x128x4x64, .f32⟩
  | _ => ⟨S16896x2048, .f32⟩

abbrev hbmTy (i : Nat) : BufTy := match i / 128 with
  | 0 => hbmTy0_0 i
  | 1 => hbmTy0_1 i
  | _ => ⟨S16896x2048, .f32⟩

abbrev bufTy : (tb : Table) → Fin (tcTables nBuf tb) → BufTy
  | .hbm, ⟨i, _⟩ => hbmTy i
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_5 : Ref sig .tc := ⟨.hbm, 86, rfl⟩
abbrev main_v72 : Ref sig .tc := ⟨.hbm, 87, rfl⟩
abbrev main_v73 : Ref sig .tc := ⟨.hbm, 88, rfl⟩
abbrev main_cst_6 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_c_8 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_9 : Ref sig .tc := ⟨.hbm, 115, rfl⟩
abbrev main_v97 : Ref sig .tc := ⟨.hbm, 116, rfl⟩
abbrev main_v98 : Ref sig .tc := ⟨.hbm, 117, rfl⟩
abbrev main_cst_10 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩

abbrev nD : Nat := 1
abbrev τ : Topo := Topo.v7x

variable {F : FTy → Type} [FloatOps F]
-- ==== GlaState.lean ====
abbrev S16896x6272 : Shape := ⟨2, ![16896, 6272]⟩
abbrev S1x16x8x64x128 : Shape := ⟨5, ![1, 16, 8, 64, 128]⟩
abbrev S1x16x512 : Shape := ⟨3, ![1, 16, 512]⟩
abbrev S1x512 : Shape := ⟨2, ![1, 512]⟩
abbrev S1x128 : Shape := ⟨2, ![1, 128]⟩
abbrev S16x512 : Shape := ⟨2, ![16, 512]⟩
abbrev S512 : Shape := ⟨1, ![512]⟩
abbrev S128 : Shape := ⟨1, ![128]⟩
abbrev S16x8x64x128 : Shape := ⟨4, ![16, 8, 64, 128]⟩
abbrev S16x8x128x64 : Shape := ⟨4, ![16, 8, 128, 64]⟩
abbrev S16x4x2x128x64 : Shape := ⟨5, ![16, 4, 2, 128, 64]⟩
abbrev S16x4x1x128x64 : Shape := ⟨5, ![16, 4, 1, 128, 64]⟩
abbrev S16x4x128x64 : Shape := ⟨4, ![16, 4, 128, 64]⟩
abbrev S_ : Shape := ⟨0, ![]⟩
abbrev S16x4x128x128 : Shape := ⟨4, ![16, 4, 128, 128]⟩
abbrev S16x4x256x128 : Shape := ⟨4, ![16, 4, 256, 128]⟩
abbrev S128x512 : Shape := ⟨2, ![128, 512]⟩
abbrev S1 : Shape := ⟨1, ![1]⟩
abbrev S512x1024 : Shape := ⟨2, ![512, 1024]⟩
abbrev S32x512 : Shape := ⟨2, ![32, 512]⟩
abbrev S32x1024 : Shape := ⟨2, ![32, 1024]⟩
abbrev S32x128 : Shape := ⟨2, ![32, 128]⟩
abbrev S1x4x256x128 : Shape := ⟨4, ![1, 4, 256, 128]⟩
abbrev S4x256x128 : Shape := ⟨3, ![4, 256, 128]⟩
abbrev S32x32 : Shape := ⟨2, ![32, 32]⟩
abbrev S256x128 : Shape := ⟨2, ![256, 128]⟩
abbrev S32x256 : Shape := ⟨2, ![32, 256]⟩
abbrev S1x256x128 : Shape := ⟨3, ![1, 256, 128]⟩
abbrev S32 : Shape := ⟨1, ![32]⟩
abbrev S32x1 : Shape := ⟨2, ![32, 1]⟩

abbrev nBuf : Space → Nat
  | .hbm => 40
  | .vmem => 20
  | .smem => 0
  | _ => 0

abbrev bufTy : (tb : Table) → Fin (tcTables nBuf tb) → BufTy
  | .hbm, ⟨0, _⟩ => ⟨S16896x6272, .bf16⟩
  | .hbm, ⟨1, _⟩ => ⟨S1x16x8x64x128, .f32⟩
  | .hbm, ⟨2, _⟩ => ⟨S1x16x512, .f32⟩
  | .hbm, ⟨3, _⟩ => ⟨S1x512, .f32⟩
  | .hbm, ⟨4, _⟩ => ⟨S1x128, .f32⟩
  | .hbm, ⟨5, _⟩ => ⟨S16x512, .f32⟩
  | .hbm, ⟨6, _⟩ => ⟨S512, .f32⟩
  | .hbm, ⟨7, _⟩ => ⟨S128, .f32⟩
  | .hbm, ⟨8, _⟩ => ⟨S16x8x64x128, .f32⟩
  | .hbm, ⟨9, _⟩ => ⟨S16x8x128x64, .f32⟩
  | .hbm, ⟨10, _⟩ => ⟨S16x4x2x128x64, .f32⟩
  | .hbm, ⟨11, _⟩ => ⟨S16x4x1x128x64, .f32⟩
  | .hbm, ⟨12, _⟩ => ⟨S16x4x128x64, .f32⟩
  | .hbm, ⟨13, _⟩ => ⟨S_, .f32⟩
  | .hbm, ⟨14, _⟩ => ⟨S16x4x128x64, .f32⟩
  | .hbm, ⟨15, _⟩ => ⟨S16x4x1x128x64, .f32⟩
  | .hbm, ⟨16, _⟩ => ⟨S16x4x128x64, .f32⟩
  | .hbm, ⟨17, _⟩ => ⟨S16x4x128x128, .f32⟩
  | .hbm, ⟨18, _⟩ => ⟨S16x4x1x128x64, .f32⟩
  | .hbm, ⟨19, _⟩ => ⟨S16x4x128x64, .f32⟩
  | .hbm, ⟨20, _⟩ => ⟨S16x4x128x128, .f32⟩
  | .hbm, ⟨21, _⟩ => ⟨S16x4x256x128, .f32⟩
  | .hbm, ⟨22, _⟩ => ⟨S_, .f32⟩
  | .hbm, ⟨23, _⟩ => ⟨S128x512, .f32⟩
  | .hbm, ⟨24, _⟩ => ⟨S_, .i32⟩
  | .hbm, ⟨25, _⟩ => ⟨S1, .i32⟩
  | .hbm, ⟨26, _⟩ => ⟨S128x512, .f32⟩
  | .hbm, ⟨27, _⟩ => ⟨S128x512, .bf16⟩
  | .hbm, ⟨28, _⟩ => ⟨S1x512, .f32⟩
  | .hbm, ⟨29, _⟩ => ⟨S1x128, .f32⟩
  | .hbm, ⟨30, _⟩ => ⟨S512x1024, .bf16⟩
  | .hbm, ⟨31, _⟩ => ⟨S16x4x256x128, .f32⟩
  | .hbm, ⟨32, _⟩ => ⟨S16x4x128x64, .f32⟩
  | .hbm, ⟨33, _⟩ => ⟨S16x4x128x64, .f32⟩
  | .hbm, ⟨34, _⟩ => ⟨S16x4x1x128x64, .f32⟩
  | .hbm, ⟨35, _⟩ => ⟨S16x4x1x128x64, .f32⟩
  | .hbm, ⟨36, _⟩ => ⟨S16x4x2x128x64, .f32⟩
  | .hbm, ⟨37, _⟩ => ⟨S16x8x128x64, .f32⟩
  | .hbm, ⟨38, _⟩ => ⟨S16x8x64x128, .f32⟩
  | .hbm, ⟨39, _⟩ => ⟨S1x16x8x64x128, .f32⟩
  | .local _ .vmem, ⟨0, _⟩ => ⟨S32x512, .bf16⟩
  | .local _ .vmem, ⟨1, _⟩ => ⟨S32x512, .bf16⟩
  | .local _ .vmem, ⟨2, _⟩ => ⟨S32x512, .bf16⟩
  | .local _ .vmem, ⟨3, _⟩ => ⟨S32x512, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x128, .bf16⟩
  | .local _ .vmem, ⟨9, _⟩ => ⟨S32x128, .bf16⟩
  | .local _ .vmem, ⟨10, _⟩ => ⟨S128x512, .bf16⟩
  | .local _ .vmem, ⟨11, _⟩ => ⟨S1x512, .f32⟩
  | .local _ .vmem, ⟨12, _⟩ => ⟨S1x128, .f32⟩
  | .local _ .vmem, ⟨13, _⟩ => ⟨S1x4x256x128, .f32⟩
  | .local _ .vmem, ⟨14, _⟩ => ⟨S1x4x256x128, .f32⟩
  | .local _ .vmem, ⟨15, _⟩ => ⟨S32x1024, .bf16⟩
  | .local _ .vmem, ⟨16, _⟩ => ⟨S32x1024, .bf16⟩
  | .local _ .vmem, ⟨17, _⟩ => ⟨S1x4x256x128, .f32⟩
  | .local _ .vmem, ⟨18, _⟩ => ⟨S1x4x256x128, .f32⟩
  | .local _ .vmem, ⟨19, _⟩ => ⟨S4x256x128, .f32⟩
  | _, _ => ⟨S16896x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def k0_mult1 : BitVec 32 :=
  let c0_i32_9 : BitVec 32 := 0#32
  let c32_i32 : BitVec 32 := 32#32
  let v27 : BitVec 32 := Scalar.muli c0_i32_9 c32_i32
  v27
def k0_off1 : Fin 2 → Nat :=
  let c0_i32_9 : BitVec 32 := 0#32
  let c32_i32 : BitVec 32 := 32#32
  let v27 : BitVec 32 := Scalar.muli c0_i32_9 c32_i32
  let v28 : BitVec 32 := v27
  let v29 : Index := Scalar.indexCast v28
  let c0_10 : Index := 0#32
  ![v29.toNat, 0]
def k0_off2 : Fin 2 → Nat :=
  let c0_i32_9 : BitVec 32 := 0#32
  let c32_i32 : BitVec 32 := 32#32
  let v27 : BitVec 32 := Scalar.muli c0_i32_9 c32_i32
  let v28 : BitVec 32 := v27
  let v56 : Index := Scalar.indexCast v28
  let c0_19 : Index := 0#32
  ![v56.toNat, 0]
def k0_off3 : Fin 2 → Nat :=
  let c0_i32_9 : BitVec 32 := 0#32
  let c32_i32 : BitVec 32 := 32#32
  let v27 : BitVec 32 := Scalar.muli c0_i32_9 c32_i32
  let v28 : BitVec 32 := v27
  let v80 : Index := Scalar.indexCast v28
  let c0_23 : Index := 0#32
  ![v80.toNat, 0]
def k0_off4 : Fin 2 → Nat :=
  let c0_i32_9 : BitVec 32 := 0#32
  let c32_i32 : BitVec 32 := 32#32
  let v27 : BitVec 32 := Scalar.muli c0_i32_9 c32_i32
  let v28 : BitVec 32 := v27
  let v114 : Index := Scalar.indexCast v28
  let c0_40 : Index := 0#32
  ![v114.toNat, 0]
def k0_off5 : Fin 2 → Nat :=
  let c0_i32_9 : BitVec 32 := 0#32
  let c32_i32 : BitVec 32 := 32#32
  let v27 : BitVec 32 := Scalar.muli c0_i32_9 c32_i32
  let v28 : BitVec 32 := v27
  let v141 : Index := Scalar.indexCast v28
  let c128 : Index := 128#32
  ![v141.toNat, 128]
def k0_off6 : Fin 2 → Nat :=
  let c0_i32_9 : BitVec 32 := 0#32
  let c32_i32 : BitVec 32 := 32#32
  let v27 : BitVec 32 := Scalar.muli c0_i32_9 c32_i32
  let v28 : BitVec 32 := v27
  let v168 : Index := Scalar.indexCast v28
  let c256 : Index := 256#32
  ![v168.toNat, 256]
def k0_off7 : Fin 2 → Nat :=
  let c0_i32_9 : BitVec 32 := 0#32
  let c32_i32 : BitVec 32 := 32#32
  let v27 : BitVec 32 := Scalar.muli c0_i32_9 c32_i32
  let v28 : BitVec 32 := v27
  let v202 : Index := Scalar.indexCast v28
  let c256_68 : Index := 256#32
  ![v202.toNat, 256]
def k0_off8 : Fin 2 → Nat :=
  let c0_i32_9 : BitVec 32 := 0#32
  let c32_i32 : BitVec 32 := 32#32
  let v27 : BitVec 32 := Scalar.muli c0_i32_9 c32_i32
  let v28 : BitVec 32 := v27
  let v229 : Index := Scalar.indexCast v28
  let c384 : Index := 384#32
  ![v229.toNat, 384]
def k0_off9 : Fin 2 → Nat :=
  let c0_i32_9 : BitVec 32 := 0#32
  let c32_i32 : BitVec 32 := 32#32
  let v27 : BitVec 32 := Scalar.muli c0_i32_9 c32_i32
  let v28 : BitVec 32 := v27
  let v256 : Index := Scalar.indexCast v28
  let c512 : Index := 512#32
  ![v256.toNat, 512]
def k0_off10 : Fin 2 → Nat :=
  let c0_i32_9 : BitVec 32 := 0#32
  let c32_i32 : BitVec 32 := 32#32
  let v27 : BitVec 32 := Scalar.muli c0_i32_9 c32_i32
  let v28 : BitVec 32 := v27
  let v290 : Index := Scalar.indexCast v28
  let c512_96 : Index := 512#32
  ![v290.toNat, 512]
def k0_off11 : Fin 2 → Nat :=
  let c0_i32_9 : BitVec 32 := 0#32
  let c32_i32 : BitVec 32 := 32#32
  let v27 : BitVec 32 := Scalar.muli c0_i32_9 c32_i32
  let v28 : BitVec 32 := v27
  let v317 : Index := Scalar.indexCast v28
  let c640 : Index := 640#32
  ![v317.toNat, 640]
def k0_off12 : Fin 2 → Nat :=
  let c0_i32_9 : BitVec 32 := 0#32
  let c32_i32 : BitVec 32 := 32#32
  let v27 : BitVec 32 := Scalar.muli c0_i32_9 c32_i32
  let v28 : BitVec 32 := v27
  let v344 : Index := Scalar.indexCast v28
  let c768 : Index := 768#32
  ![v344.toNat, 768]
def k0_off13 : Fin 2 → Nat :=
  let c0_i32_9 : BitVec 32 := 0#32
  let c32_i32 : BitVec 32 := 32#32
  let v27 : BitVec 32 := Scalar.muli c0_i32_9 c32_i32
  let v28 : BitVec 32 := v27
  let v378 : Index := Scalar.indexCast v28
  let c768_124 : Index := 768#32
  ![v378.toNat, 768]
def k0_off14 : Fin 2 → Nat :=
  let c0_i32_9 : BitVec 32 := 0#32
  let c32_i32 : BitVec 32 := 32#32
  let v27 : BitVec 32 := Scalar.muli c0_i32_9 c32_i32
  let v28 : BitVec 32 := v27
  let v405 : Index := Scalar.indexCast v28
  let c896 : Index := 896#32
  ![v405.toNat, 896]
def k0_cond2 (i : grid0.Coords) : BitVec 1 :=
  let arg1 : BitVec 32 := BitVec.ofNat 32 (i 1).val
  let c0_i32_137 : BitVec 32 := 0#32
  let v430 : BitVec 1 := Scalar.cmpi .eq arg1 c0_i32_137
  let v431 : BitVec 32 := Scalar.extui v430
  let c0_i32_138 : BitVec 32 := 0#32
  let v432 : BitVec 1 := Scalar.cmpi .ne v431 c0_i32_138
  v432

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c48_i32 : BitVec 32 := 48#32
  let c0_i32 : BitVec 32 := 0#32
  ![v2.toNat, c48_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaStateReferenceIdeal.lean ====
abbrev S16896x6272 : Shape := ⟨2, ![16896, 6272]⟩
abbrev S1x16x8x64x128 : Shape := ⟨5, ![1, 16, 8, 64, 128]⟩
abbrev S1x16x512 : Shape := ⟨3, ![1, 16, 512]⟩
abbrev S1x512 : Shape := ⟨2, ![1, 512]⟩
abbrev S1x128 : Shape := ⟨2, ![1, 128]⟩
abbrev S512x6272 : Shape := ⟨2, ![512, 6272]⟩
abbrev S16x32x6272 : Shape := ⟨3, ![16, 32, 6272]⟩
abbrev S16x32x512 : Shape := ⟨3, ![16, 32, 512]⟩
abbrev S16x32x8x64 : Shape := ⟨4, ![16, 32, 8, 64]⟩
abbrev S16x32x1024 : Shape := ⟨3, ![16, 32, 1024]⟩
abbrev S16x32x8x128 : Shape := ⟨4, ![16, 32, 8, 128]⟩
abbrev S16x32x16 : Shape := ⟨3, ![16, 32, 16]⟩
abbrev S16x512 : Shape := ⟨2, ![16, 512]⟩
abbrev S512 : Shape := ⟨1, ![512]⟩
abbrev S1x1x512 : Shape := ⟨3, ![1, 1, 512]⟩
abbrev S_ : Shape := ⟨0, ![]⟩
abbrev S16x1x8x64 : Shape := ⟨4, ![16, 1, 8, 64]⟩
abbrev S16x8x64x128 : Shape := ⟨4, ![16, 8, 64, 128]⟩
abbrev S16x8x64 : Shape := ⟨3, ![16, 8, 64]⟩
abbrev S16x8x64x1 : Shape := ⟨4, ![16, 8, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16896x6272, .bf16⟩
  | .hbm, ⟨1, _⟩ => ⟨S1x16x8x64x128, .f32⟩
  | .hbm, ⟨2, _⟩ => ⟨S1x16x512, .f32⟩
  | .hbm, ⟨3, _⟩ => ⟨S1x512, .f32⟩
  | .hbm, ⟨4, _⟩ => ⟨S1x128, .f32⟩
  | .hbm, ⟨5, _⟩ => ⟨S512x6272, .bf16⟩
  | .hbm, ⟨6, _⟩ => ⟨S512x6272, .f32⟩
  | .hbm, ⟨7, _⟩ => ⟨S16x32x6272, .f32⟩
  | .hbm, ⟨8, _⟩ => ⟨S16x32x512, .f32⟩
  | .hbm, ⟨9, _⟩ => ⟨S16x32x8x64, .f32⟩
  | .hbm, ⟨10, _⟩ => ⟨S16x32x1024, .f32⟩
  | .hbm, ⟨11, _⟩ => ⟨S16x32x8x128, .f32⟩
  | .hbm, ⟨12, _⟩ => ⟨S16x32x16, .f32⟩
  | .hbm, ⟨13, _⟩ => ⟨S16x512, .f32⟩
  | .hbm, ⟨14, _⟩ => ⟨S16x32x512, .f32⟩
  | .hbm, ⟨15, _⟩ => ⟨S512, .f32⟩
  | .hbm, ⟨16, _⟩ => ⟨S1x1x512, .f32⟩
  | .hbm, ⟨17, _⟩ => ⟨S16x32x512, .f32⟩
  | .hbm, ⟨18, _⟩ => ⟨S16x32x512, .f32⟩
  | .hbm, ⟨19, _⟩ => ⟨S16x32x512, .f32⟩
  | .hbm, ⟨20, _⟩ => ⟨S_, .f32⟩
  | .hbm, ⟨21, _⟩ => ⟨S16x32x512, .f32⟩
  | .hbm, ⟨22, _⟩ => ⟨S16x32x512, .f32⟩
  | .hbm, ⟨23, _⟩ => ⟨S16x32x512, .f32⟩
  | .hbm, ⟨24, _⟩ => ⟨S16x32x512, .f32⟩
  | .hbm, ⟨25, _⟩ => ⟨S16x32x512, .i1⟩
  | .hbm, ⟨26, _⟩ => ⟨S16x32x512, .f32⟩
  | .hbm, ⟨27, _⟩ => ⟨S16x32x512, .f32⟩
  | .hbm, ⟨28, _⟩ => ⟨S16x32x512, .f32⟩
  | .hbm, ⟨29, _⟩ => ⟨S16x32x512, .f32⟩
  | .hbm, ⟨30, _⟩ => ⟨S16x32x512, .f32⟩
  | .hbm, ⟨31, _⟩ => ⟨S16x32x512, .f32⟩
  | .hbm, ⟨32, _⟩ => ⟨S16x32x512, .f32⟩
  | .hbm, ⟨33, _⟩ => ⟨S16x32x512, .f32⟩
  | .hbm, ⟨34, _⟩ => ⟨S16x32x512, .f32⟩
  | .hbm, ⟨35, _⟩ => ⟨S16x32x8x64, .f32⟩
  | .hbm, ⟨36, _⟩ => ⟨S_, .f32⟩
  | .hbm, ⟨37, _⟩ => ⟨S16x32x8x64, .f32⟩
  | .hbm, ⟨38, _⟩ => ⟨S16x32x8x64, .f32⟩
  | .hbm, ⟨39, _⟩ => ⟨S_, .f32⟩
  | .hbm, ⟨40, _⟩ => ⟨S_, .f32⟩
  | .hbm, ⟨41, _⟩ => ⟨S16x32x8x64, .f32⟩
  | .hbm, ⟨42, _⟩ => ⟨S16x1x8x64, .f32⟩
  | .hbm, ⟨43, _⟩ => ⟨S16x32x8x64, .f32⟩
  | .hbm, ⟨44, _⟩ => ⟨S16x32x8x64, .f32⟩
  | .hbm, ⟨45, _⟩ => ⟨S16x32x8x64, .f32⟩
  | .hbm, ⟨46, _⟩ => ⟨S16x32x8x64, .f32⟩
  | .hbm, ⟨47, _⟩ => ⟨S16x8x64x128, .f32⟩
  | .hbm, ⟨48, _⟩ => ⟨S16x8x64, .f32⟩
  | .hbm, ⟨49, _⟩ => ⟨S16x8x64, .f32⟩
  | .hbm, ⟨50, _⟩ => ⟨S16x8x64x1, .f32⟩
  | .hbm, ⟨51, _⟩ => ⟨S16x8x64x128, .f32⟩
  | .hbm, ⟨52, _⟩ => ⟨S16x8x64x128, .f32⟩
  | .hbm, ⟨53, _⟩ => ⟨S16x8x64x128, .f32⟩
  | .hbm, ⟨54, _⟩ => ⟨S16x8x64x128, .f32⟩
  | .hbm, ⟨55, _⟩ => ⟨S1x16x8x64x128, .f32⟩
  | _, _ => ⟨S16896x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_call1_call0_cst : Ref sig .tc := ⟨.hbm, 39, rfl⟩
abbrev main_call1_call0_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Proof.ExpertRuns.lean ====
/-
  THE BODY'S THREE PATHS. The body of the expert call at a grid point, run on whole staging buffers over any float values:
  at a tile in use whose expert's weights are new, at a tile in use that keeps the weights held, and at a tile not in use.
-/
module

public import proofs.«01_k».proof.Proof.Gen.KernelIdeal.Skeleton
public import proofs.«01_k».proof.Proof.Gen.KernelIdeal.Flash.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body per control path, on symbolic staging memrefs: a subtype the run finds -/

/-- One staging buffer of output window 4, through which its contents are stated (`View.read_writes_of_cover`). -/
abbrev VO0_4 : View sig .tc .vmem S256x2048 .f32 := (Memref.whole cc0_stg4_0 : Memref sig .tc .vmem S256x2048 .f32).view

set_option backward.proofsInPublic true in
set_option maxHeartbeats 8000000 in
/-- PATH A (points 0): what the body leaves — per stored output its pieces (last first), per scratch its
    contents — WITH the proof that, on whole staging memrefs, from the inputs at their blocks, the tables, the outputs
    (4: stored) and the scratches (0: covered, 1: covered, 2: covered), under the path's decisions as
    hypotheses over the words the body reads (`hc0`; `k0_h2`; `k0_h3`), the body runs to the continuation holding all of it as stated. The
    skeleton (`Gen.*_eq_skeleton`) run by `sl_exec`, loops of literal trip count unrolled by the run, the others by `sl_unroll`. -/
noncomputable def bodyRun_A (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (hc0 : (Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1) (k0_h2 : k0_cond2 (View.readAt (Elt F) (tbM0_1).view (Rect.unit (s := S164) (k0_off1 i) S1.size (k0_off1_inb i)).toLoadRect T1 (Shape.Idx.first (numel1_S1.symm ▸ Nat.one_pos))) = 1#1) (k0_h3 : ¬(k0_cond3 (View.readAt (Elt F) (tbM0_1).view (Rect.unit (s := S164) (k0_off1 i) S1.size (k0_off1_inb i)).toLoadRect T1 (Shape.Idx.first (numel1_S1.symm ▸ Nat.one_pos))) = 1#1)) :
    Σ' (out0 : List (View.Piece (Elt F) S256x2048 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := F)) Variants.none c none) Set.univ (cc0_moe i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) K => by
    unfold owns
    rw [cc0_moe_eq_skeleton]; unfold cc0_moe_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ = _; exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- Path A's pieces for output 4 tile its block (1 store of `S256x2048`: the kernel evaluates the tiling, Lib/Ring.lean `Piece.tiledL`). -/
theorem bodyCover_A (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (hc0 : (Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1) (k0_h2 : k0_cond2 (View.readAt (Elt F) (tbM0_1).view (Rect.unit (s := S164) (k0_off1 i) S1.size (k0_off1_inb i)).toLoadRect T1 (Shape.Idx.first (numel1_S1.symm ▸ Nat.one_pos))) = 1#1) (k0_h3 : ¬(k0_cond3 (View.readAt (Elt F) (tbM0_1).view (Rect.unit (s := S164) (k0_off1 i) S1.size (k0_off1_inb i)).toLoadRect T1 (Shape.Idx.first (numel1_S1.symm ▸ Nat.one_pos))) = 1#1)) (y : S256x2048.Idx) :
    ∃ pc ∈ (bodyRun_A c i arg3 harg3 arg4 harg4 arg5 harg5 arg6 harg6 arg7 harg7 T0 T1 x0 x1 x2 x3 hc0 k0_h2 k0_h3).1, y ∈ pc.1.set :=
  View.cover_of_tiledL (bodyRun_A c i arg3 harg3 arg4 harg4 arg5 harg5 arg6 harg6 arg7 harg7 T0 T1 x0 x1 x2 x3 hc0 k0_h2 k0_h3).1 S256x2048.size (by sl_kernel_rfl) y

/-- What path A leaves in output 4's staging buffer: its pieces read back over junk. -/
def bodyOut_A (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (hc0 : (Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1) (k0_h2 : k0_cond2 (View.readAt (Elt F) (tbM0_1).view (Rect.unit (s := S164) (k0_off1 i) S1.size (k0_off1_inb i)).toLoadRect T1 (Shape.Idx.first (numel1_S1.symm ▸ Nat.one_pos))) = 1#1) (k0_h3 : ¬(k0_cond3 (View.readAt (Elt F) (tbM0_1).view (Rect.unit (s := S164) (k0_off1 i) S1.size (k0_off1_inb i)).toLoadRect T1 (Shape.Idx.first (numel1_S1.symm ▸ Nat.one_pos))) = 1#1)) : (S256x2048.Idx → Elt F .f32) :=
  VO0_4.read (Elt F) (VO0_4.writes (Elt F) VO0_4.junk (bodyRun_A c i arg3 harg3 arg4 harg4 arg5 harg5 arg6 harg6 arg7 harg7 T0 T1 x0 x1 x2 x3 hc0 k0_h2 k0_h3).1)

set_option backward.proofsInPublic true in
set_option maxHeartbeats 8000000 in
/-- PATH B (points 1): what the body leaves — per stored output its pieces (last first), per scratch its
    contents — WITH the proof that, on whole staging memrefs, from the inputs at their blocks, the tables, the outputs
    (4: stored) and the scratches (0: carried, 1: carried, 2: carried), under the path's decisions as
    hypotheses over the words the body reads (`hc0`; `k0_h2`; `k0_h3`), the body runs to the continuation holding all of it as stated. The
    skeleton (`Gen.*_eq_skeleton`) run by `sl_exec`, loops of literal trip count unrolled by the run, the others by `sl_unroll`. -/
noncomputable def bodyRun_B (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬((Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1)) (k0_h2 : k0_cond2 (View.readAt (Elt F) (tbM0_1).view (Rect.unit (s := S164) (k0_off1 i) S1.size (k0_off1_inb i)).toLoadRect T1 (Shape.Idx.first (numel1_S1.symm ▸ Nat.one_pos))) = 1#1) (k0_h3 : ¬(k0_cond3 (View.readAt (Elt F) (tbM0_1).view (Rect.unit (s := S164) (k0_off1 i) S1.size (k0_off1_inb i)).toLoadRect T1 (Shape.Idx.first (numel1_S1.symm ▸ Nat.one_pos))) = 1#1)) :
    Σ' (out0 : List (View.Piece (Elt F) S256x2048 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := F)) Variants.none c none) Set.univ (cc0_moe i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_moe_eq_skeleton]; unfold cc0_moe_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ = _; exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- Path B's pieces for output 4 tile its block (1 store of `S256x2048`: the kernel evaluates the tiling, Lib/Ring.lean `Piece.tiledL`). -/
theorem bodyCover_B (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬((Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1)) (k0_h2 : k0_cond2 (View.readAt (Elt F) (tbM0_1).view (Rect.unit (s := S164) (k0_off1 i) S1.size (k0_off1_inb i)).toLoadRect T1 (Shape.Idx.first (numel1_S1.symm ▸ Nat.one_pos))) = 1#1) (k0_h3 : ¬(k0_cond3 (View.readAt (Elt F) (tbM0_1).view (Rect.unit (s := S164) (k0_off1 i) S1.size (k0_off1_inb i)).toLoadRect T1 (Shape.Idx.first (numel1_S1.symm ▸ Nat.one_pos))) = 1#1)) (y : S256x2048.Idx) :
    ∃ pc ∈ (bodyRun_B c i arg3 harg3 arg4 harg4 arg5 harg5 arg6 harg6 arg7 harg7 T0 T1 x0 x1 x2 x3 xa0 xa1 xa2 hc0 k0_h2 k0_h3).1, y ∈ pc.1.set :=
  View.cover_of_tiledL (bodyRun_B c i arg3 harg3 arg4 harg4 arg5 harg5 arg6 harg6 arg7 harg7 T0 T1 x0 x1 x2 x3 xa0 xa1 xa2 hc0 k0_h2 k0_h3).1 S256x2048.size (by sl_kernel_rfl) y

/-- What path B leaves in output 4's staging buffer: its pieces read back over junk. -/
def bodyOut_B (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬((Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1)) (k0_h2 : k0_cond2 (View.readAt (Elt F) (tbM0_1).view (Rect.unit (s := S164) (k0_off1 i) S1.size (k0_off1_inb i)).toLoadRect T1 (Shape.Idx.first (numel1_S1.symm ▸ Nat.one_pos))) = 1#1) (k0_h3 : ¬(k0_cond3 (View.readAt (Elt F) (tbM0_1).view (Rect.unit (s := S164) (k0_off1 i) S1.size (k0_off1_inb i)).toLoadRect T1 (Shape.Idx.first (numel1_S1.symm ▸ Nat.one_pos))) = 1#1)) : (S256x2048.Idx → Elt F .f32) :=
  VO0_4.read (Elt F) (VO0_4.writes (Elt F) VO0_4.junk (bodyRun_B c i arg3 harg3 arg4 harg4 arg5 harg5 arg6 harg6 arg7 harg7 T0 T1 x0 x1 x2 x3 xa0 xa1 xa2 hc0 k0_h2 k0_h3).1)

set_option backward.proofsInPublic true in
set_option maxHeartbeats 8000000 in
/-- PATH C (points 2, 3, … 163: 162 of 164): what the body leaves — per stored output its pieces (last first), per scratch its
    contents — WITH the proof that, on whole staging memrefs, from the inputs at their blocks, the tables, the outputs
    (4: stored) and the scratches (0: any, 1: any, 2: any), under the path's decisions as
    hypotheses over the words the body reads (`hc0`; `k0_h2`; `k0_h3`), the body runs to the continuation holding all of it as stated. The
    skeleton (`Gen.*_eq_skeleton`) run by `sl_exec`, loops of literal trip count unrolled by the run, the others by `sl_unroll`. -/
noncomputable def bodyRun_C (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬((Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1)) (k0_h2 : ¬(k0_cond2 (View.readAt (Elt F) (tbM0_1).view (Rect.unit (s := S164) (k0_off1 i) S1.size (k0_off1_inb i)).toLoadRect T1 (Shape.Idx.first (numel1_S1.symm ▸ Nat.one_pos))) = 1#1)) (k0_h3 : k0_cond3 (View.readAt (Elt F) (tbM0_1).view (Rect.unit (s := S164) (k0_off1 i) S1.size (k0_off1_inb i)).toLoadRect T1 (Shape.Idx.first (numel1_S1.symm ▸ Nat.one_pos))) = 1#1) :
    Σ' (out0 : List (View.Piece (Elt F) S256x2048 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := F)) Variants.none c none) Set.univ (cc0_moe i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_moe_eq_skeleton]; unfold cc0_moe_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ = _); exact k0_h2) | (guard_target = k0_cond3 _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- Path C's pieces for output 4 tile its block (1 store of `S256x2048`: the kernel evaluates the tiling, Lib/Ring.lean `Piece.tiledL`). -/
theorem bodyCover_C (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬((Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1)) (k0_h2 : ¬(k0_cond2 (View.readAt (Elt F) (tbM0_1).view (Rect.unit (s := S164) (k0_off1 i) S1.size (k0_off1_inb i)).toLoadRect T1 (Shape.Idx.first (numel1_S1.symm ▸ Nat.one_pos))) = 1#1)) (k0_h3 : k0_cond3 (View.readAt (Elt F) (tbM0_1).view (Rect.unit (s := S164) (k0_off1 i) S1.size (k0_off1_inb i)).toLoadRect T1 (Shape.Idx.first (numel1_S1.symm ▸ Nat.one_pos))) = 1#1) (y : S256x2048.Idx) :
    ∃ pc ∈ (bodyRun_C c i arg3 harg3 arg4 harg4 arg5 harg5 arg6 harg6 arg7 harg7 T0 T1 x0 x1 x2 x3 xa0 xa1 xa2 hc0 k0_h2 k0_h3).1, y ∈ pc.1.set :=
  View.cover_of_tiledL (bodyRun_C c i arg3 harg3 arg4 harg4 arg5 harg5 arg6 harg6 arg7 harg7 T0 T1 x0 x1 x2 x3 xa0 xa1 xa2 hc0 k0_h2 k0_h3).1 S256x2048.size (by sl_kernel_rfl) y

/-- What path C leaves in output 4's staging buffer: its pieces read back over junk. -/
def bodyOut_C (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬((Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1)) (k0_h2 : ¬(k0_cond2 (View.readAt (Elt F) (tbM0_1).view (Rect.unit (s := S164) (k0_off1 i) S1.size (k0_off1_inb i)).toLoadRect T1 (Shape.Idx.first (numel1_S1.symm ▸ Nat.one_pos))) = 1#1)) (k0_h3 : k0_cond3 (View.readAt (Elt F) (tbM0_1).view (Rect.unit (s := S164) (k0_off1 i) S1.size (k0_off1_inb i)).toLoadRect T1 (Shape.Idx.first (numel1_S1.symm ▸ Nat.one_pos))) = 1#1) : (S256x2048.Idx → Elt F .f32) :=
  VO0_4.read (Elt F) (VO0_4.writes (Elt F) VO0_4.junk (bodyRun_C c i arg3 harg3 arg4 harg4 arg5 harg5 arg6 harg6 arg7 harg7 T0 T1 x0 x1 x2 x3 xa0 xa1 xa2 hc0 k0_h2 k0_h3).1)

end Cert.KernelIdeal.Moe

end
-- ==== Proof.ExpertTables.lean ====
/-
  THE TABLES OF THE EXPERT CALL. Two tables of 164 words reach the pipeline before its grid: the expert of each tile
  of 256 rows, and whether the tile is in use. This module reads their words at a grid point, and takes the pipeline
  at any tables whose experts are experts.
-/
module

public import proofs.«01_k».proof.Proof.ExpertRuns
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.KernelIdeal.Moe

open Cert.KernelIdeal Cert.KernelIdeal.Gen
open Idealize.ShloMosaic
open Idealize.ShloMosaic.TcCoe

variable {F : FTy → Type} [FloatOps F]

/-- The tile a grid point works on, as an index of a table. -/
def tileIdx (n : Fin 164) : S164.Idx := fun | ⟨0, _⟩ => n

/-- The word of a table at a tile. -/
def word (T : S164.Idx → BitVec 32) (n : Fin 164) : BitVec 32 := T (tileIdx n)

theorem off1_val : ∀ i : grid0.Coords, k0_off1 i 0 = (i 0).val := by decide +kernel
theorem off2_val : ∀ i : grid0.Coords, k0_off2 i 0 = (i 0).val - 1 := by decide +kernel

/-- The tile before, the first tile's being itself. -/
def prevTile (n : Fin 164) : Fin 164 := ⟨n.val - 1, by omega⟩

theorem readAt_off1 (T : S164.Idx → BitVec 32) (i : grid0.Coords) :
    View.readAt (Elt F) (tbM0_1).view (Rect.unit (s := S164) (k0_off1 i) S1.size (k0_off1_inb i)).toLoadRect T
      (Shape.Idx.first (numel1_S1.symm ▸ Nat.one_pos)) = word T (i 0) := by
  unfold word
  show T _ = T _
  congr 1
  funext a
  fin_cases a
  apply Fin.ext
  show k0_off1 i 0 + 1 * 0 = _
  rw [off1_val]
  rfl

theorem readAt_off1' (T : S164.Idx → BitVec 32) (i : grid0.Coords) :
    View.readAt (Elt F) (tbM0_0).view (Rect.unit (s := S164) (k0_off1 i) S1.size (k0_off1_inb i)).toLoadRect T
      (Shape.Idx.first (numel1_S1.symm ▸ Nat.one_pos)) = word T (i 0) := by
  unfold word
  show T _ = T _
  congr 1
  funext a
  fin_cases a
  apply Fin.ext
  show k0_off1 i 0 + 1 * 0 = _
  rw [off1_val]
  rfl

theorem readAt_off2 (T : S164.Idx → BitVec 32) (i : grid0.Coords) :
    View.readAt (Elt F) (tbM0_0).view (Rect.unit (s := S164) (k0_off2 i) S1.size (k0_off2_inb i)).toLoadRect T
      (Shape.Idx.first (numel1_S1.symm ▸ Nat.one_pos)) = word T (prevTile (i 0)) := by
  unfold word
  show T _ = T _
  congr 1
  funext a
  fin_cases a
  apply Fin.ext
  show k0_off2 i 0 + 1 * 0 = _
  rw [off2_val]
  rfl

theorem ne_bit {x y : BitVec 32} (h : x ≠ y) : Scalar.cmpi .ne x y = 1#1 := by
  show BitVec.ofBool (x != y) = 1#1
  rw [bne_iff_ne.mpr h]; rfl
theorem ne_bit_self (x : BitVec 32) : Scalar.cmpi .ne x x = 0#1 := by
  show BitVec.ofBool (x != x) = 0#1
  rw [bne_self_eq_false]; rfl
theorem eq_bit {x y : BitVec 32} (h : x ≠ y) : Scalar.cmpi .eq x y = 0#1 := by
  show BitVec.ofBool (x == y) = 0#1
  rw [beq_eq_false_iff_ne.mpr h]; rfl
theorem eq_bit_self (x : BitVec 32) : Scalar.cmpi .eq x x = 1#1 := by
  show BitVec.ofBool (x == x) = 1#1
  rw [beq_self_eq_true]; rfl

/-- The kernel's test for new weights: the tile is in use, and it is the first or the tile before is another expert's. -/
def Loads (T0 T1 : S164.Idx → BitVec 32) (n : Fin 164) : Prop :=
  word T1 n ≠ 0#32 ∧ (n.val = 0 ∨ word T0 n ≠ word T0 (prevTile n))

instance (T0 T1 : S164.Idx → BitVec 32) (n : Fin 164) : Decidable (Loads T0 T1 n) := by unfold Loads; infer_instance

theorem cond0_iff (T0 T1 : S164.Idx → BitVec 32) (i : grid0.Coords) :
    (Scalar.cmpi .ne (Scalar.extui (Scalar.andi (Scalar.cmpi .ne (View.readAt (Elt F) (tbM0_1).view (Rect.unit (s := S164) (k0_off1 i) S1.size (k0_off1_inb i)).toLoadRect T1 (Shape.Idx.first (numel1_S1.symm ▸ Nat.one_pos))) 0#32) (Scalar.ori (Scalar.cmpi .eq (BitVec.ofNat 32 (i 0).val) 0#32) (Scalar.cmpi .ne (View.readAt (Elt F) (tbM0_0).view (Rect.unit (s := S164) (k0_off1 i) S1.size (k0_off1_inb i)).toLoadRect T0 (Shape.Idx.first (numel1_S1.symm ▸ Nat.one_pos))) (View.readAt (Elt F) (tbM0_0).view (Rect.unit (s := S164) (k0_off2 i) S1.size (k0_off2_inb i)).toLoadRect T0 (Shape.Idx.first (numel1_S1.symm ▸ Nat.one_pos))))))) 0#32) = 1#1
      ↔ Loads T0 T1 (i 0) := by
  rw [readAt_off1, readAt_off1', readAt_off2]
  unfold Loads
  have hz : ∀ i : grid0.Coords, BitVec.ofNat 32 (i 0).val = 0#32 ↔ (i 0).val = 0 := by decide +kernel
  rw [← hz i]
  generalize word T1 (i 0) = a
  generalize word T0 (i 0) = b
  generalize word T0 (prevTile (i 0)) = d
  generalize BitVec.ofNat 32 (i 0).val = e
  have hd : ∀ p q r : BitVec 1, Scalar.cmpi .ne (Scalar.extui (Scalar.andi p (Scalar.ori q r))) 0#32 = 1#1 ↔ p = 1#1 ∧ (q = 1#1 ∨ r = 1#1) := by decide
  rw [hd]
  have hne : ∀ x y : BitVec 32, Scalar.cmpi .ne x y = 1#1 ↔ x ≠ y := fun x y =>
    ⟨fun h e => by rw [e, ne_bit_self] at h; exact absurd h (by decide), ne_bit⟩
  have heq : ∀ x y : BitVec 32, Scalar.cmpi .eq x y = 1#1 ↔ x = y := fun x y =>
    ⟨fun h => by by_contra e; rw [eq_bit e] at h; exact absurd h (by decide), fun e => by rw [e, eq_bit_self]⟩
  rw [hne, heq, hne]

theorem cond2_iff (T1 : S164.Idx → BitVec 32) (i : grid0.Coords) :
    k0_cond2 (View.readAt (Elt F) (tbM0_1).view (Rect.unit (s := S164) (k0_off1 i) S1.size (k0_off1_inb i)).toLoadRect T1 (Shape.Idx.first (numel1_S1.symm ▸ Nat.one_pos))) = 1#1
      ↔ word T1 (i 0) ≠ 0#32 := by
  rw [readAt_off1]
  unfold k0_cond2
  by_cases h1 : word T1 (i 0) = 0#32
  · rw [h1]; decide
  · simp only [ne_bit h1]; exact ⟨fun _ => h1, fun _ => by decide⟩

theorem cond3_iff (T1 : S164.Idx → BitVec 32) (i : grid0.Coords) :
    k0_cond3 (View.readAt (Elt F) (tbM0_1).view (Rect.unit (s := S164) (k0_off1 i) S1.size (k0_off1_inb i)).toLoadRect T1 (Shape.Idx.first (numel1_S1.symm ▸ Nat.one_pos))) = 1#1
      ↔ word T1 (i 0) = 0#32 := by
  rw [readAt_off1]
  unfold k0_cond3
  by_cases h1 : word T1 (i 0) = 0#32
  · rw [h1]; decide
  · simp only [ne_bit h1]; exact ⟨fun h => absurd h (by decide), fun h => absurd h h1⟩

/-! ## The tables in range -/

/-- Every tile's expert is one of the 32. -/
def InRange (T0 : S164.Idx → BitVec 32) : Prop := ∀ n, (word T0 n).toNat < 32

/-- The tables' contents, as the pipeline takes them. -/
def tables (T0 T1 : S164.Idx → BitVec 32) : pre0.Contents (Elt F) := fun | ⟨0, _⟩ => T0 | ⟨1, _⟩ => T1 | ⟨_ + 2, h⟩ => absurd h (by simp)

variable (T0 T1 : S164.Idx → BitVec 32)

theorem index1 (i : grid0.Coords) : cc0_transform_1 k0_off1_inb numel1_S1 (tables (F := F) T0 T1) i = ![(word T0 (i 0)).toNat, 0, 0] := by
  rw [← readAt_off1' (F := F)]; rfl

theorem index2 (i : grid0.Coords) : cc0_transform_2 k0_off1_inb numel1_S1 (tables (F := F) T0 T1) i = ![(word T0 (i 0)).toNat, 0, 0] := by
  rw [← readAt_off1' (F := F)]; rfl

theorem index3 (i : grid0.Coords) : cc0_transform_3 k0_off1_inb numel1_S1 (tables (F := F) T0 T1) i = ![(word T0 (i 0)).toNat, 0, 0] := by
  rw [← readAt_off1' (F := F)]; rfl

theorem ok_tables (h : InRange T0) : ok0 (F := F) (tables T0 T1) := by
  refine ⟨fun i => ⟨?_, .inl rfl⟩, fun i => ⟨?_, .inl rfl⟩, fun i => ⟨?_, .inl rfl⟩⟩
  all_goals
    have hn := h (i 0)
    first | rw [index1] | rw [index2] | rw [index3]
    revert hn
    generalize (word T0 (i 0)).toNat = n
    intro hn a
    fin_cases a
    · exact (show (n + 1) * 1 ≤ 32 from by omega)
    · exact (show (0 + 1) * _ ≤ _ from by decide)
    · exact (show (0 + 1) * _ ≤ _ from by decide)

/-- The tables admitted, and the pipeline at them. -/
def adm (h : InRange T0) : (pcfg0 (F := F)).Adm := ⟨tables (F := F) T0 T1, ok_tables (F := F) T0 T1 h⟩
abbrev cfgT (h : InRange T0) : Pipeline.Cfg sig Λ₀ := cfg0 (F := F) (adm (F := F) T0 T1 h)

end Cert.KernelIdeal.Moe

end
-- ==== Proof.ExpertPaths.lean ====
module

public import proofs.«01_k».proof.Proof.ExpertTables
public import Idealize.ShloMosaic.Lib.Pipeline.Value

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic

variable {F : FTy → Type} [FloatOps F]

variable (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S164.Idx → Elt F .i32)) (T1 : (S164.Idx → Elt F .i32))
     (x0 : (S256x2048.Idx → Elt F .bf16)) (x1 : (S1x2048x512.Idx → Elt F .f32)) (x2 : (S1x2048x512.Idx → Elt F .f32)) (x3 : (S1x512x2048.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2))

theorem read_whole_scratch {Val : EltTy → Type} {κ : Kind} (b : Ref sig κ) (f : (View.whole b).ty.Contents Val) :
    (View.whole b).read Val f = f := rfl

theorem zero2 : ∀ a, (![0, 0] : Fin 2 → ℕ) a = 0 := by decide
theorem zero3 : ∀ a, (![0, 0, 0] : Fin 3 → ℕ) a = 0 := by decide

/-- A tile in use whose expert is new: the tile through the expert's weights, just cast and stored. -/
theorem out_A (hc0) (h2) (h3) : bodyOut_A c i arg3 harg3 arg4 harg4 arg5 harg5 arg6 harg6 arg7 harg7 T0 T1 x0 x1 x2 x3 hc0 h2 h3 = k0_pay4 (F := F) x0 (k0_pay1 x1) (k0_pay2 x2) (k0_pay3 x3) := by
  unfold bodyOut_A
  rw [View.read_writes_eq_canon _ _ _ (bodyCover_A c i arg3 harg3 arg4 harg4 arg5 harg5 arg6 harg6 arg7 harg7 T0 T1 x0 x1 x2 x3 hc0 h2 h3)]
  unfold bodyRun_A
  dsimp only
  sl_unfold_words
  rw [View.canon_cons_unit_lit _ _ _ (by decide)]
  simp only [View.readAt_eq_ld, View.read_rep]
  rw [View.ld_unit_lit _ x0 (by decide), View.ld_unit_lit _ x1 (by decide), View.ld_unit_lit _ x2 (by decide),
    View.ld_unit_lit _ x3 (by decide), View.readCov_unit_lit _ _ _ (by decide), View.readCov_unit_lit _ _ _ (by decide),
    View.readCov_unit_lit _ _ _ (by decide)]

/-- A tile in use of the expert before: the tile through the weights that the scratch buffers hold. -/
theorem out_B (hc0) (h2) (h3) : bodyOut_B c i arg3 harg3 arg4 harg4 arg5 harg5 arg6 harg6 arg7 harg7 T0 T1 x0 x1 x2 x3 xa0 xa1 xa2 hc0 h2 h3 = k0_pay4 (F := F) x0 xa0 xa1 xa2 := by
  unfold bodyOut_B
  rw [View.read_writes_eq_canon _ _ _ (bodyCover_B c i arg3 harg3 arg4 harg4 arg5 harg5 arg6 harg6 arg7 harg7 T0 T1 x0 x1 x2 x3 xa0 xa1 xa2 hc0 h2 h3)]
  unfold bodyRun_B
  dsimp only
  sl_unfold_words
  rw [View.canon_cons_unit_lit _ _ _ (by decide)]
  simp only [View.readAt_eq_ld, View.read_rep]
  rw [View.ld_unit_lit _ x0 (by decide), View.ld_unit_lit _ _ (by decide), View.ld_unit_lit _ _ (by decide),
    View.ld_unit_lit _ _ (by decide)]
  have e0 : scM0_0.view.read (Elt F) xa0 = xa0 := rfl
  have e1 : scM0_1.view.read (Elt F) xa1 = xa1 := rfl
  have e2 : scM0_2.view.read (Elt F) xa2 = xa2 := rfl
  rw [e0, e1, e2]

/-- A tile not in use: zeros. -/
theorem out_C (hc0) (h2) (h3) : bodyOut_C c i arg3 harg3 arg4 harg4 arg5 harg5 arg6 harg6 arg7 harg7 T0 T1 x0 x1 x2 x3 xa0 xa1 xa2 hc0 h2 h3 = k0_pay5 (F := F) := by
  unfold bodyOut_C
  rw [View.read_writes_eq_canon _ _ _ (bodyCover_C c i arg3 harg3 arg4 harg4 arg5 harg5 arg6 harg6 arg7 harg7 T0 T1 x0 x1 x2 x3 xa0 xa1 xa2 hc0 h2 h3)]
  unfold bodyRun_C
  dsimp only
  sl_unfold_words
  rw [View.canon_cons_unit_lit _ _ _ (by decide)]

theorem scratch0_A (hc0) (h2) (h3) : (bodyRun_A c i arg3 harg3 arg4 harg4 arg5 harg5 arg6 harg6 arg7 harg7 T0 T1 x0 x1 x2 x3 hc0 h2 h3).2.1 = k0_pay1 (F := F) x1 := by
  unfold bodyRun_A
  dsimp only
  sl_unfold_words
  refine (read_whole_scratch cc0_scratch0 _).symm.trans ?_
  rw [View.read_writes_junk_eq_canon]
  refine (View.canon_cons_unit_lit (S := S2048x512) _ _ _ (by decide)).trans ?_
  simp only [View.readAt_eq_ld, View.read_rep]
  rw [View.ld_unit_lit _ x1 (by decide)]

theorem scratch0_B (hc0) (h2) (h3) : (bodyRun_B c i arg3 harg3 arg4 harg4 arg5 harg5 arg6 harg6 arg7 harg7 T0 T1 x0 x1 x2 x3 xa0 xa1 xa2 hc0 h2 h3).2.1 = xa0 := rfl

theorem scratch0_C (hc0) (h2) (h3) : (bodyRun_C c i arg3 harg3 arg4 harg4 arg5 harg5 arg6 harg6 arg7 harg7 T0 T1 x0 x1 x2 x3 xa0 xa1 xa2 hc0 h2 h3).2.1 = xa0 := rfl

theorem scratch1_A (hc0) (h2) (h3) : (bodyRun_A c i arg3 harg3 arg4 harg4 arg5 harg5 arg6 harg6 arg7 harg7 T0 T1 x0 x1 x2 x3 hc0 h2 h3).2.2.1 = k0_pay2 (F := F) x2 := by
  unfold bodyRun_A
  dsimp only
  sl_unfold_words
  refine (read_whole_scratch cc0_scratch1 _).symm.trans ?_
  rw [View.read_writes_junk_eq_canon]
  refine (View.canon_cons_unit_lit (S := S2048x512) _ _ _ (by decide)).trans ?_
  simp only [View.readAt_eq_ld, View.read_rep]
  rw [View.ld_unit_lit _ x2 (by decide)]

theorem scratch1_B (hc0) (h2) (h3) : (bodyRun_B c i arg3 harg3 arg4 harg4 arg5 harg5 arg6 harg6 arg7 harg7 T0 T1 x0 x1 x2 x3 xa0 xa1 xa2 hc0 h2 h3).2.2.1 = xa1 := rfl

theorem scratch1_C (hc0) (h2) (h3) : (bodyRun_C c i arg3 harg3 arg4 harg4 arg5 harg5 arg6 harg6 arg7 harg7 T0 T1 x0 x1 x2 x3 xa0 xa1 xa2 hc0 h2 h3).2.2.1 = xa1 := rfl

theorem scratch2_A (hc0) (h2) (h3) : (bodyRun_A c i arg3 harg3 arg4 harg4 arg5 harg5 arg6 harg6 arg7 harg7 T0 T1 x0 x1 x2 x3 hc0 h2 h3).2.2.2.1 = k0_pay3 (F := F) x3 := by
  unfold bodyRun_A
  dsimp only
  sl_unfold_words
  refine (read_whole_scratch cc0_scratch2 _).symm.trans ?_
  rw [View.read_writes_junk_eq_canon]
  refine (View.canon_cons_unit_lit (S := S512x2048) _ _ _ (by decide)).trans ?_
  simp only [View.readAt_eq_ld, View.read_rep]
  rw [View.ld_unit_lit _ x3 (by decide)]

theorem scratch2_B (hc0) (h2) (h3) : (bodyRun_B c i arg3 harg3 arg4 harg4 arg5 harg5 arg6 harg6 arg7 harg7 T0 T1 x0 x1 x2 x3 xa0 xa1 xa2 hc0 h2 h3).2.2.2.1 = xa2 := rfl

theorem scratch2_C (hc0) (h2) (h3) : (bodyRun_C c i arg3 harg3 arg4 harg4 arg5 harg5 arg6 harg6 arg7 harg7 T0 T1 x0 x1 x2 x3 xa0 xa1 xa2 hc0 h2 h3).2.2.2.1 = xa2 := rfl

end Cert.KernelIdeal.Moe

end
-- ==== Proof.ExpertFrame.lean ====
/-
  THE EXPERT CALL RUNS. The pipeline at the tables that the memory holds, of any contents whose experts are experts: the body
  at each grid point by its three paths, the launch, and what the run leaves. The invariant holds of the three scratch buffers
  that after a tile in use they hold its expert's weights; the output's block at each point is the tile's value.
-/
module

public import proofs.«01_k».proof.Proof.ExpertPaths
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Tactic
public import Idealize.ShloMosaic.Adequacy

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tables in the launch memory. -/
def T0 : S164.Idx → BitVec 32 := m (((0 : Dev nD) : Thread nD τ).loc main_arg1)
def T1 : S164.Idx → BitVec 32 := m (((0 : Dev nD) : Thread nD τ).loc main_arg2)

variable (h : InRange (T0 m))

/-- The pipeline at them. -/
abbrev cfgA : Cfg sig Λ₀ := cfgT (F := F) (T0 m) (T1 m) h
abbrev crd (t : Fin (cfgA m h).N) : (cfgA m h).grid.Coords := (cfgA m h).grid.coords t

abbrev ms0 (t : Fin (cfgA m h).N) : Memref sig .tc .vmem S256x2048 .bf16 := spec0_0.stage ((cfgA m h).slots t (0 : Fin 5))
abbrev hs0 (t : Fin (cfgA m h).N) : (ms0 m h t).IsWhole := hstage0_0 (((cfgA m h).slots t (0 : Fin 5)).cast nbuf0_0)
abbrev ms1 (t : Fin (cfgA m h).N) : Memref sig .tc .vmem S1x2048x512 .f32 := spec0_1.stage ((cfgA m h).slots t (1 : Fin 5))
abbrev hs1 (t : Fin (cfgA m h).N) : (ms1 m h t).IsWhole := hstage0_1 (((cfgA m h).slots t (1 : Fin 5)).cast nbuf0_1)
abbrev ms2 (t : Fin (cfgA m h).N) : Memref sig .tc .vmem S1x2048x512 .f32 := spec0_2.stage ((cfgA m h).slots t (2 : Fin 5))
abbrev hs2 (t : Fin (cfgA m h).N) : (ms2 m h t).IsWhole := hstage0_2 (((cfgA m h).slots t (2 : Fin 5)).cast nbuf0_2)
abbrev ms3 (t : Fin (cfgA m h).N) : Memref sig .tc .vmem S1x512x2048 .f32 := spec0_3.stage ((cfgA m h).slots t (3 : Fin 5))
abbrev hs3 (t : Fin (cfgA m h).N) : (ms3 m h t).IsWhole := hstage0_3 (((cfgA m h).slots t (3 : Fin 5)).cast nbuf0_3)
abbrev ms4 (t : Fin (cfgA m h).N) : Memref sig .tc .vmem S256x2048 .f32 := spec0_4.stage ((cfgA m h).slots t (4 : Fin 5))
abbrev hs4 (t : Fin (cfgA m h).N) : (ms4 m h t).IsWhole := hstage0_4 (((cfgA m h).slots t (4 : Fin 5)).cast nbuf0_4)

/-- A window's block at a point, read off its array at launch. -/
def iblk (c : Dev nD) (w : Fin (cfgA m h).W) (t : Fin (cfgA m h).N) : (((cfgA m h).win w).xblock (crd m h t)).Idx → Elt F ((cfgA m h).win w).elt :=
  (((cfgA m h).win w).blk t).view.read (Elt F) (m (((cfgA m h).win w).arr.view.loc (c : Thread nD τ)))

theorem crd_val (t : Fin (cfgA m h).N) : (crd m h t 0).val = t.val := by
  have hg : ∀ t : Fin grid0.N, (grid0.coords t 0).val = t.val := by decide +kernel
  exact hg t

/-! ## The experts' weights -/

/-- An expert's weights, as the blocks of the three arrays. -/
def gateAt (c : Dev nD) (e : ℕ) : S1x2048x512.Idx → Elt F .f32 :=
  fun j => (m ((c : Thread nD τ).loc main_arg3) : S32x2048x512.Idx → Elt F .f32) fun | ⟨0, _⟩ => ⟨e % 32, Nat.mod_lt _ (by decide)⟩ | ⟨1, _⟩ => j 1 | ⟨2, _⟩ => j 2
def upAt (c : Dev nD) (e : ℕ) : S1x2048x512.Idx → Elt F .f32 :=
  fun j => (m ((c : Thread nD τ).loc main_arg4) : S32x2048x512.Idx → Elt F .f32) fun | ⟨0, _⟩ => ⟨e % 32, Nat.mod_lt _ (by decide)⟩ | ⟨1, _⟩ => j 1 | ⟨2, _⟩ => j 2
def downAt (c : Dev nD) (e : ℕ) : S1x512x2048.Idx → Elt F .f32 :=
  fun j => (m ((c : Thread nD τ).loc main_arg5) : S32x512x2048.Idx → Elt F .f32) fun | ⟨0, _⟩ => ⟨e % 32, Nat.mod_lt _ (by decide)⟩ | ⟨1, _⟩ => j 1 | ⟨2, _⟩ => j 2

/-- The number of a tile's expert. -/
def expertOf (n : Fin 164) : ℕ := (word (T0 m) n).toNat

theorem iblk_gate (c : Dev nD) (t : Fin (cfgA m h).N) : iblk m h c (1 : Fin 5) t = gateAt m c (expertOf m (crd m h t 0)) := by
  funext j
  unfold iblk gateAt expertOf
  rw [View.read_apply]
  show (m ((c : Thread nD τ).loc main_arg3) : S32x2048x512.Idx → Elt F .f32) _ = (m ((c : Thread nD τ).loc main_arg3) : S32x2048x512.Idx → Elt F .f32) _
  refine congrArg _ (funext fun a => Fin.ext ?_)
  have hb := Window.rect_emb_val ((cfgA m h).win (1 : Fin 5)) t j a
  have hi := congrFun (index1 (F := F) (T0 m) (T1 m) (crd m h t)) a
  have hn := h (crd m h t 0)
  refine (hb.trans (congrArg (fun n => n * ((cfgA m h).win (1 : Fin 5)).size a + (j a : ℕ)) hi)).trans ?_
  have h0 : (j 0 : ℕ) = 0 := Nat.lt_one_iff.mp (j 0).isLt
  fin_cases a
  · show (word (T0 m) (crd m h t 0)).toNat * 1 + (j 0 : ℕ) = (word (T0 m) (crd m h t 0)).toNat % 32
    rw [h0, Nat.mod_eq_of_lt hn, Nat.mul_one, Nat.add_zero]
  · show 0 * _ + (j 1 : ℕ) = (j 1 : ℕ)
    rw [Nat.zero_mul, Nat.zero_add]
  · show 0 * _ + (j 2 : ℕ) = (j 2 : ℕ)
    rw [Nat.zero_mul, Nat.zero_add]
theorem iblk_up (c : Dev nD) (t : Fin (cfgA m h).N) : iblk m h c (2 : Fin 5) t = upAt m c (expertOf m (crd m h t 0)) := by
  funext j
  unfold iblk upAt expertOf
  rw [View.read_apply]
  show (m ((c : Thread nD τ).loc main_arg4) : S32x2048x512.Idx → Elt F .f32) _ = (m ((c : Thread nD τ).loc main_arg4) : S32x2048x512.Idx → Elt F .f32) _
  refine congrArg _ (funext fun a => Fin.ext ?_)
  have hb := Window.rect_emb_val ((cfgA m h).win (2 : Fin 5)) t j a
  have hi := congrFun (index2 (F := F) (T0 m) (T1 m) (crd m h t)) a
  have hn := h (crd m h t 0)
  refine (hb.trans (congrArg (fun n => n * ((cfgA m h).win (2 : Fin 5)).size a + (j a : ℕ)) hi)).trans ?_
  have h0 : (j 0 : ℕ) = 0 := Nat.lt_one_iff.mp (j 0).isLt
  fin_cases a
  · show (word (T0 m) (crd m h t 0)).toNat * 1 + (j 0 : ℕ) = (word (T0 m) (crd m h t 0)).toNat % 32
    rw [h0, Nat.mod_eq_of_lt hn, Nat.mul_one, Nat.add_zero]
  · show 0 * _ + (j 1 : ℕ) = (j 1 : ℕ)
    rw [Nat.zero_mul, Nat.zero_add]
  · show 0 * _ + (j 2 : ℕ) = (j 2 : ℕ)
    rw [Nat.zero_mul, Nat.zero_add]
theorem iblk_down (c : Dev nD) (t : Fin (cfgA m h).N) : iblk m h c (3 : Fin 5) t = downAt m c (expertOf m (crd m h t 0)) := by
  funext j
  unfold iblk downAt expertOf
  rw [View.read_apply]
  show (m ((c : Thread nD τ).loc main_arg5) : S32x512x2048.Idx → Elt F .f32) _ = (m ((c : Thread nD τ).loc main_arg5) : S32x512x2048.Idx → Elt F .f32) _
  refine congrArg _ (funext fun a => Fin.ext ?_)
  have hb := Window.rect_emb_val ((cfgA m h).win (3 : Fin 5)) t j a
  have hi := congrFun (index3 (F := F) (T0 m) (T1 m) (crd m h t)) a
  have hn := h (crd m h t 0)
  refine (hb.trans (congrArg (fun n => n * ((cfgA m h).win (3 : Fin 5)).size a + (j a : ℕ)) hi)).trans ?_
  have h0 : (j 0 : ℕ) = 0 := Nat.lt_one_iff.mp (j 0).isLt
  fin_cases a
  · show (word (T0 m) (crd m h t 0)).toNat * 1 + (j 0 : ℕ) = (word (T0 m) (crd m h t 0)).toNat % 32
    rw [h0, Nat.mod_eq_of_lt hn, Nat.mul_one, Nat.add_zero]
  · show 0 * _ + (j 1 : ℕ) = (j 1 : ℕ)
    rw [Nat.zero_mul, Nat.zero_add]
  · show 0 * _ + (j 2 : ℕ) = (j 2 : ℕ)
    rw [Nat.zero_mul, Nat.zero_add]

/-- A tile in use that follows a tile of the same expert follows a tile in use. -/
def Runs : Prop := ∀ n : Fin 164, word (T1 m) n ≠ 0#32 → n.val = 0 ∨ word (T0 m) n ≠ word (T0 m) (prevTile n) ∨ word (T1 m) (prevTile n) ≠ 0#32

/-- The tile's output from its rows: by its expert's weights if it is in use, zeros if not. -/
def tileOut (c : Dev nD) (n : Fin 164) (x : S256x2048.Idx → Elt F .bf16) : S256x2048.Idx → Elt F .f32 :=
  if word (T1 m) n = 0#32 then k0_pay5 (F := F)
  else k0_pay4 (F := F) x (k0_pay1 (F := F) (gateAt m c (expertOf m n))) (k0_pay2 (F := F) (upAt m c (expertOf m n))) (k0_pay3 (F := F) (downAt m c (expertOf m n)))

/-- After a tile in use the scratch buffers hold its expert's weights. -/
def Inv (c : Dev nD) (k : ℕ) (a0 : Buf (Elt F) ((c : Thread nD τ).loc cc0_scratch0)) (a1 : Buf (Elt F) ((c : Thread nD τ).loc cc0_scratch1)) (a2 : Buf (Elt F) ((c : Thread nD τ).loc cc0_scratch2)) : Prop :=
  Runs m → ∀ n : Fin 164, k = n.val + 1 → word (T1 m) n ≠ 0#32 →
    a0 = k0_pay1 (F := F) (gateAt m c (expertOf m n)) ∧ a1 = k0_pay2 (F := F) (upAt m c (expertOf m n)) ∧ a2 = k0_pay3 (F := F) (downAt m c (expertOf m n))

/-- What the output's staging buffer holds after a point. -/
def Rl (c : Dev nD) (w : Fin (cfgA m h).W) (t : Fin (cfgA m h).N) (X : ((cfgA m h).win w).block.Idx → Elt F ((cfgA m h).win w).elt) : Prop :=
  match w, X with
  | ⟨0, _⟩, _ => True
  | ⟨1, _⟩, _ => True
  | ⟨2, _⟩, _ => True
  | ⟨3, _⟩, _ => True
  | ⟨4, _⟩, X => Runs m → X = tileOut m c (crd m h t 0) (iblk m h c (0 : Fin 5) t)

theorem tileOut_used (c : Dev nD) (n : Fin 164) (x) (hu : word (T1 m) n ≠ 0#32) : tileOut m c n x =
    k0_pay4 (F := F) x (k0_pay1 (F := F) (gateAt m c (expertOf m n))) (k0_pay2 (F := F) (upAt m c (expertOf m n))) (k0_pay3 (F := F) (downAt m c (expertOf m n))) := if_neg hu
theorem tileOut_unused (c : Dev nD) (n : Fin 164) (x) (hu : word (T1 m) n = 0#32) : tileOut m c n x = k0_pay5 (F := F) := if_pos hu

theorem rl_of (c : Dev nD) (t : Fin (cfgA m h).N) {X : S256x2048.Idx → Elt F .f32}
    (hX : Runs m → X = tileOut m c (crd m h t 0) (iblk m h c (0 : Fin 5) t)) : Rl m h c (4 : Fin 5) t X := hX

theorem inv_load (c : Dev nD) (t : Fin (cfgA m h).N) {a0 a1 a2}
    (e0 : a0 = k0_pay1 (F := F) (iblk m h c (1 : Fin 5) t)) (e1 : a1 = k0_pay2 (F := F) (iblk m h c (2 : Fin 5) t)) (e2 : a2 = k0_pay3 (F := F) (iblk m h c (3 : Fin 5) t)) :
    Inv m c (t.val + 1) a0 a1 a2 := by
  intro hr n hn hu
  have e : n = crd m h t 0 := Fin.ext (by rw [crd_val]; omega)
  rw [iblk_gate] at e0; rw [iblk_up] at e1; rw [iblk_down] at e2
  rw [e]; exact ⟨e0, e1, e2⟩

/-- At a tile in use that loads nothing, the scratch buffers hold its expert's weights already. -/
theorem held_of_keep (c : Dev nD) (t : Fin (cfgA m h).N) {a0 a1 a2} (hr : Runs m)
    (hI : Inv m c t.val a0 a1 a2) (hl : ¬ Loads (T0 m) (T1 m) (crd m h t 0)) (hu : word (T1 m) (crd m h t 0) ≠ 0#32) :
    a0 = k0_pay1 (F := F) (gateAt m c (expertOf m (crd m h t 0))) ∧ a1 = k0_pay2 (F := F) (upAt m c (expertOf m (crd m h t 0))) ∧ a2 = k0_pay3 (F := F) (downAt m c (expertOf m (crd m h t 0))) := by
  have hl' : ¬ ((crd m h t 0).val = 0) ∧ word (T0 m) (crd m h t 0) = word (T0 m) (prevTile (crd m h t 0)) := by
    unfold Loads at hl
    constructor
    · intro e; exact hl ⟨hu, .inl e⟩
    · by_contra e; exact hl ⟨hu, .inr e⟩
  have hp : word (T1 m) (prevTile (crd m h t 0)) ≠ 0#32 := by
    rcases hr _ hu with e | e | e
    · exact absurd e hl'.1
    · exact absurd hl'.2 e
    · exact e
  have hk : t.val = (prevTile (crd m h t 0)).val + 1 := by
    have := crd_val m h t
    have h0 := hl'.1
    show t.val = (crd m h t 0).val - 1 + 1
    omega
  have he : expertOf m (crd m h t 0) = expertOf m (prevTile (crd m h t 0)) := by unfold expertOf; rw [hl'.2]
  rw [he]
  exact hI hr _ hk hp

theorem inv_keep (c : Dev nD) (t : Fin (cfgA m h).N) {a0 a1 a2}
    (hI : Inv m c t.val a0 a1 a2) (hl : ¬ Loads (T0 m) (T1 m) (crd m h t 0)) : Inv m c (t.val + 1) a0 a1 a2 := by
  intro hr n hn hu
  have e : n = crd m h t 0 := Fin.ext (by rw [crd_val]; omega)
  rw [e] at hu ⊢
  exact held_of_keep m h c t hr hI hl hu

theorem inv_zero (c : Dev nD) {a0 a1 a2} : Inv m c 0 a0 a1 a2 := fun _ n hn => absurd hn (by omega)

/-! ## The proof data -/

/-- Before a point: the three scratch buffers, the invariant of them, and the body's halves of the tables. -/
def Phi (c : Dev nD) (t : Fin ((cfgA m h).N + 1)) : sProp 𝕄 :=
  iprop((∃ a0 a1 a2, ⌜Inv m c t.val a0 a1 a2⌝ ∗ (scM0_0.view.loc (c : Thread nD τ) ↦{fullShare} a0) ∗ (scM0_1.view.loc (c : Thread nD τ) ↦{fullShare} a1) ∗ (scM0_2.view.loc (c : Thread nD τ) ↦{fullShare} a2))
    ∗ (tbM0_0.view.loc (c : Thread nD τ) ↦{fullShare.right} T0 m) ∗ (tbM0_1.view.loc (c : Thread nD τ) ↦{fullShare.right} T1 m) ∗ ∃ r, prngReg c r)

def dat (c : Dev nD) : Dat τ (Elt F) Unit ℕ (UR sig nD τ) ℕ (cfgA m h) c where
  A w := m (((cfgA m h).win w).arr.view.loc (c : Thread nD τ))
  after w t := match w with
    | ⟨0, _⟩ => iblk m h c (0 : Fin 5) t
    | ⟨1, _⟩ => iblk m h c (1 : Fin 5) t
    | ⟨2, _⟩ => iblk m h c (2 : Fin 5) t
    | ⟨3, _⟩ => iblk m h c (3 : Fin 5) t
    | ⟨4, _⟩ => k0_pay5 (F := F)
  Φ t := Phi m h c t
  q _ := fullShare
  owed _ := 0

/-- The output is the one window held to a relation. -/
def fgt : Fin 5 → Bool
  | ⟨4, _⟩ => true
  | ⟨_, _⟩ => false

theorem after_0 (c : Dev nD) (t : Fin (cfgA m h).N) : (dat m h c).after (0 : Fin 5) t = iblk m h c (0 : Fin 5) t := rfl
theorem before_0 (c : Dev nD) (t : Fin (cfgA m h).N) (d) : (dat m h c).before (0 : Fin 5) t d = iblk m h c (0 : Fin 5) t :=
  ((dat m h c).before_in_eq_fetched (0 : Fin 5) rfl (fun _ => rfl) (fun _ _ _ => rfl) (fun t => by rw [after_0]; unfold Dat.blockOf iblk; rfl) t d).trans
    (by unfold Dat.fetched Dat.blockOf iblk; rfl)
theorem after_1 (c : Dev nD) (t : Fin (cfgA m h).N) : (dat m h c).after (1 : Fin 5) t = iblk m h c (1 : Fin 5) t := rfl
theorem before_1 (c : Dev nD) (t : Fin (cfgA m h).N) (d) : (dat m h c).before (1 : Fin 5) t d = iblk m h c (1 : Fin 5) t :=
  ((dat m h c).before_in_eq_fetched (1 : Fin 5) rfl (fun _ => rfl) (fun _ _ _ => rfl) (fun t => by rw [after_1]; unfold Dat.blockOf iblk; rfl) t d).trans
    (by unfold Dat.fetched Dat.blockOf iblk; rfl)
theorem after_2 (c : Dev nD) (t : Fin (cfgA m h).N) : (dat m h c).after (2 : Fin 5) t = iblk m h c (2 : Fin 5) t := rfl
theorem before_2 (c : Dev nD) (t : Fin (cfgA m h).N) (d) : (dat m h c).before (2 : Fin 5) t d = iblk m h c (2 : Fin 5) t :=
  ((dat m h c).before_in_eq_fetched (2 : Fin 5) rfl (fun _ => rfl) (fun _ _ _ => rfl) (fun t => by rw [after_2]; unfold Dat.blockOf iblk; rfl) t d).trans
    (by unfold Dat.fetched Dat.blockOf iblk; rfl)
theorem after_3 (c : Dev nD) (t : Fin (cfgA m h).N) : (dat m h c).after (3 : Fin 5) t = iblk m h c (3 : Fin 5) t := rfl
theorem before_3 (c : Dev nD) (t : Fin (cfgA m h).N) (d) : (dat m h c).before (3 : Fin 5) t d = iblk m h c (3 : Fin 5) t :=
  ((dat m h c).before_in_eq_fetched (3 : Fin 5) rfl (fun _ => rfl) (fun _ _ _ => rfl) (fun t => by rw [after_3]; unfold Dat.blockOf iblk; rfl) t d).trans
    (by unfold Dat.fetched Dat.blockOf iblk; rfl)

/-- The body at a point on its staging buffers, as the pipeline calls it. -/
abbrev bodyAt (t : Fin (cfgA m h).N) : Prog (TpuEff nD τ sig (Elt F) Λ₀ .tc) PUnit :=
  cc0_moe (crd m h t) (Memref.whole main_arg1) (Memref.isWhole_whole _) (Memref.whole main_arg2) (Memref.isWhole_whole _) (ms0 m h t) (hs0 m h t) (ms1 m h t) (hs1 m h t) (ms2 m h t) (hs2 m h t) (ms3 m h t) (hs3 m h t) (ms4 m h t) (hs4 m h t) (Memref.whole cc0_scratch0) (Memref.isWhole_whole _) (Memref.whole cc0_scratch1) (Memref.isWhole_whole _) (Memref.whole cc0_scratch2) (Memref.isWhole_whole _)

set_option maxHeartbeats 4000000 in
/-- The body at a point, by the three paths. -/
theorem body_at (c : Dev nD) (t : Fin (cfgA m h).N) :
    iprop(Phi m h c t.castSucc ∗ (dat m h c).owesAt () t.castSucc
        ∗ owns (c : Thread nD τ) (ms0 m h t) fullShare (iblk m h c (0 : Fin 5) t)
        ∗ owns (c : Thread nD τ) (ms1 m h t) fullShare (iblk m h c (1 : Fin 5) t)
        ∗ owns (c : Thread nD τ) (ms2 m h t) fullShare (iblk m h c (2 : Fin 5) t)
        ∗ owns (c : Thread nD τ) (ms3 m h t) fullShare (iblk m h c (3 : Fin 5) t)
        ∗ (∃ Y, owns (c : Thread nD τ) (ms4 m h t) fullShare Y))
      ⊢ wp frame (wpE (defs₀ (F := F)) Variants.none c none) Set.univ (bodyAt m h t) fun _ =>
          iprop(Phi m h c t.succ ∗ (dat m h c).owesAt () t.castSucc
        ∗ owns (c : Thread nD τ) (ms0 m h t) fullShare (iblk m h c (0 : Fin 5) t)
        ∗ owns (c : Thread nD τ) (ms1 m h t) fullShare (iblk m h c (1 : Fin 5) t)
        ∗ owns (c : Thread nD τ) (ms2 m h t) fullShare (iblk m h c (2 : Fin 5) t)
        ∗ owns (c : Thread nD τ) (ms3 m h t) fullShare (iblk m h c (3 : Fin 5) t)
        ∗ (∃ X, ⌜Rl m h c (4 : Fin 5) t X⌝ ∗ owns (c : Thread nD τ) (ms4 m h t) fullShare X)) := by
  by_cases hl : Loads (T0 m) (T1 m) (crd m h t 0)
  · have hu : word (T1 m) (crd m h t 0) ≠ 0#32 := hl.1
    have hc0 := (cond0_iff (F := F) (T0 m) (T1 m) (crd m h t)).mpr hl
    have hc2 := (cond2_iff (F := F) (T1 m) (crd m h t)).mpr hu
    have hc3 := mt (cond3_iff (F := F) (T1 m) (crd m h t)).mp hu
    unfold Phi
    iintro ⟨⟨⟨%a0, %a1, %a2, %hI, HS0, HS1, HS2⟩, HT0, HT1, Hp⟩, Ho, H0, H1, H2, H3, ⟨%Y, H4⟩⟩
    iapply ((bodyRun_A c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) hc0 hc2 hc3).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1 Hp]
    · isplitl [HS0 HS1 HS2]
      · iexists _, _, _
        isplitr [HS0 HS1 HS2]
        · ipureintro; exact inv_load m h c t (scratch0_A c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) hc0 hc2 hc3) (scratch1_A c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) hc0 hc2 hc3) (scratch2_A c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) hc0 hc2 hc3)
        isplitl [HS0]; · iexact HS0
        isplitl [HS1]; · iexact HS1
        iexact HS2
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists (bodyOut_A c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) hc0 hc2 hc3)
    isplitr [H4]
    · ipureintro; exact rl_of m h c t fun _ => by rw [out_A, iblk_gate, iblk_up, iblk_down, tileOut_used m c _ _ hu]
    unfold owns; iexists _; isplitr; swap
    · iexact H4
    · ipureintro; exact View.read_writes_of_cover _ _ _ _ _ (bodyCover_A c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) hc0 hc2 hc3)
  · by_cases hu : word (T1 m) (crd m h t 0) = 0#32
    · have hc0 := mt (cond0_iff (F := F) (T0 m) (T1 m) (crd m h t)).mp hl
      have hc2 := mt (cond2_iff (F := F) (T1 m) (crd m h t)).mp (not_not_intro hu)
      have hc3 := (cond3_iff (F := F) (T1 m) (crd m h t)).mpr hu
      unfold Phi
      iintro ⟨⟨⟨%a0, %a1, %a2, %hI, HS0, HS1, HS2⟩, HT0, HT1, Hp⟩, Ho, H0, H1, H2, H3, ⟨%Y, H4⟩⟩
      iapply ((bodyRun_C c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) a0 a1 a2 hc0 hc2 hc3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1 Hp]
      · isplitl [HS0 HS1 HS2]
        · iexists _, _, _
          isplitr [HS0 HS1 HS2]
          · ipureintro; exact inv_keep m h c t hI hl
          isplitl [HS0]; · iexact HS0
          isplitl [HS1]; · iexact HS1
          iexact HS2
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists (bodyOut_C c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) a0 a1 a2 hc0 hc2 hc3)
      isplitr [H4]
      · ipureintro; exact rl_of m h c t fun _ => by rw [out_C, tileOut_unused m c _ _ hu]
      unfold owns; iexists _; isplitr; swap
      · iexact H4
      · ipureintro; exact View.read_writes_of_cover _ _ _ _ _ (bodyCover_C c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) a0 a1 a2 hc0 hc2 hc3)
    · have hc0 := mt (cond0_iff (F := F) (T0 m) (T1 m) (crd m h t)).mp hl
      have hc2 := (cond2_iff (F := F) (T1 m) (crd m h t)).mpr hu
      have hc3 := mt (cond3_iff (F := F) (T1 m) (crd m h t)).mp hu
      unfold Phi
      iintro ⟨⟨⟨%a0, %a1, %a2, %hI, HS0, HS1, HS2⟩, HT0, HT1, Hp⟩, Ho, H0, H1, H2, H3, ⟨%Y, H4⟩⟩
      iapply ((bodyRun_B c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) a0 a1 a2 hc0 hc2 hc3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1 Hp]
      · isplitl [HS0 HS1 HS2]
        · iexists _, _, _
          isplitr [HS0 HS1 HS2]
          · ipureintro; exact inv_keep m h c t hI hl
          isplitl [HS0]; · iexact HS0
          isplitl [HS1]; · iexact HS1
          iexact HS2
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists (bodyOut_B c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) a0 a1 a2 hc0 hc2 hc3)
      isplitr [H4]
      · ipureintro; exact rl_of m h c t fun hr => by rw [out_B, tileOut_used m c _ _ hu, (held_of_keep m h c t hr hI hl hu).1, (held_of_keep m h c t hr hI hl hu).2.1, (held_of_keep m h c t hr hI hl hu).2.2]
      unfold owns; iexists _; isplitr; swap
      · iexact H4
      · ipureintro; exact View.read_writes_of_cover _ _ _ _ _ (bodyCover_B c (crd m h t) (ms0 m h t) (hs0 m h t) (ms1 m h t) (hs1 m h t) (ms2 m h t) (hs2 m h t) (ms3 m h t) (hs3 m h t) (ms4 m h t) (hs4 m h t) (T0 m) (T1 m) (iblk m h c (0 : Fin 5) t) (iblk m h c (1 : Fin 5) t) (iblk m h c (2 : Fin 5) t) (iblk m h c (3 : Fin 5) t) a0 a1 a2 hc0 hc2 hc3)

/-- The library's body obligation, the output held to the relation. -/
theorem obligation (c : Dev nD) : Pipeline.BodyObligationRel (dat m h c) (defs₀ (F := F)) Variants.none () Set.univ fgt (Rl m h c) := fun t => by
  rw [bigSep_W0, bigSep_W0]
  refine BIBase.Entails.trans ?_ (body_at m h c t)
  show iprop(Phi m h c t.castSucc ∗ (dat m h c).owesAt () t.castSucc
        ∗ (∃ d, owns (c : Thread nD τ) (ms0 m h t) fullShare ((dat m h c).before (0 : Fin 5) t d))
        ∗ (∃ d, owns (c : Thread nD τ) (ms1 m h t) fullShare ((dat m h c).before (1 : Fin 5) t d))
        ∗ (∃ d, owns (c : Thread nD τ) (ms2 m h t) fullShare ((dat m h c).before (2 : Fin 5) t d))
        ∗ (∃ d, owns (c : Thread nD τ) (ms3 m h t) fullShare ((dat m h c).before (3 : Fin 5) t d))
        ∗ (∃ Y, ⌜((dat m h c).toRRel fgt (Rl m h c)).Finds (4 : Fin 5) t Y⌝ ∗ owns (c : Thread nD τ) (ms4 m h t) fullShare Y)) ⊢ _
  simp only [before_0, before_1, before_2, before_3]
  iintro ⟨HP, Ho, ⟨%d0, H0⟩, ⟨%d1, H1⟩, ⟨%d2, H2⟩, ⟨%d3, H3⟩, ⟨%Y, -, H4⟩⟩
  isplitl [HP]; · iexact HP
  isplitl [Ho]; · iexact Ho
  isplitl [H0]; · iexact H0
  isplitl [H1]; · iexact H1
  isplitl [H2]; · iexact H2
  isplitl [H3]; · iexact H3
  iexists Y; iexact H4

/-! ## The launch -/

theorem share_eq (c : Dev nD) (w : Fin (cfgA m h).W) : (dat m h c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) : iprop(Pipeline.ΦA spec0 c ∗ Pipeline.ΦT pre0 (adm (F := F) (T0 m) (T1 m) h).1 c) ⊢ (Phi m h c 0 : sProp 𝕄) := by
  unfold Pipeline.ΦA Pipeline.ΦT
  rw [prefHeld_eq, scopedRest0_eq]
  unfold Phi
  iintro ⟨⟨⟨⟨%a0, HS0⟩, ⟨%a1, HS1⟩, ⟨%a2, HS2⟩⟩, Hp⟩, HT0, HT1⟩
  isplitl [HS0 HS1 HS2]
  · iexists a0, a1, a2
    isplitr [HS0 HS1 HS2]
    · ipureintro; exact inv_zero m c
    isplitl [HS0]; · iexact HS0
    isplitl [HS1]; · iexact HS1
    iexact HS2
  isplitl [HT0]; · iexact HT0
  isplitl [HT1]; · iexact HT1
  iexact Hp

theorem phi_exit (c : Dev nD) : (Phi m h c (Fin.last (cfgA m h).N) : sProp 𝕄) ⊢ Pipeline.ΦA spec0 c := by
  unfold Pipeline.ΦA
  rw [scopedRest0_eq]
  unfold Phi
  iintro ⟨⟨%a0, %a1, %a2, -, HS0, HS1, HS2⟩, -, -, Hp⟩
  isplitr [Hp]
  · isplitl [HS0]; · iexists a0; iexact HS0
    isplitl [HS1]; · iexists a1; iexact HS1
    iexists a2; iexact HS2
  iexact Hp

theorem tables_pre (c : Dev nD) (j : Fin 2) : m ((c : Thread nD τ).loc (pre0.ref j)) = (adm (F := F) (T0 m) (T1 m) h).1 j := by
  obtain rfl : c = 0 := Subsingleton.elim _ _
  fin_cases j <;> rfl

/-- The data the launch takes. -/
abbrev rdat (c : Dev nD) : RDat τ (Elt F) Unit ℕ (UR sig nD τ) ℕ (cfgA m h) c := (dat m h c).toRRel fgt (Rl m h c)

set_option backward.isDefEq.respectTransparency.types false in
set_option maxHeartbeats 4000000 in
/-- Every run ends, with the arrays as the data say and every counter at zero. -/
theorem run : θ_run (defs (F := F)) (onTc (τ := τ) (main (F := F))) (s₀ m ρ)
    (fun r => RDat.FramePost (cfgA m h) (rdat m h) (fun c b => m ((c : Thread nD τ).loc b)) r ∧ r.2.sem = fun _ => 0) :=
  RDat.θ_run_frameP_track (pcfgs (F := F)) (fun _ => adm (F := F) (T0 m) (T1 m) h) 0 launch0 defs₀ Variants.none (rdat m h) m ρ main
    (fun c => (obligation m h c).toRRel) (share_eq m h) (fun _ _ => rfl) (fun c b => m ((c : Thread nD τ).loc b))
    (fun c Q => by
      delta main; simp only [Prog.bind_lift, Prog.pure_eq_ret]
      iintro ⟨Hk, Hb⟩; iapply Hk; iexact Hb)
    (fun _ _ => rfl) (tables_pre m h) (phi_intro m h) (phi_exit m h)
    (Q' := fun r => RDat.FramePost (cfgA m h) (rdat m h) (fun c b => m ((c : Thread nD τ).loc b)) r ∧ r.2.sem = fun _ => 0) (hQ' := fun _ h => h)

end Cert.KernelIdeal.Moe

end
-- ==== Proof.ExpertMath.lean ====
/-
  THE EXPERT'S MATHEMATICS. One row through one expert's gated feed-forward over the extended reals, and that the kernel's
  value for a tile is this function row by row.
-/
module

public import proofs.«01_k».proof.Proof.Gen.KernelIdeal.Skeleton
public import Idealize.ShloMosaic.Lib.MatmulPlain
public import Idealize.ShloMosaic.Lib.ValueLayout
public import Idealize.ShloMosaic.Lib.IdealHost
public import Idealize.ShloMosaic.Lib.Pipeline.Value

@[expose] public section

set_option maxRecDepth 16384

noncomputable section

namespace Cert.KernelIdeal.Moe

open Cert.KernelIdeal Cert.KernelIdeal.Gen
open Idealize.ShloMosaic Idealize.ShloMosaic.ValueIdx
open scoped BigOperators

/-- The activation: a number times its logistic function. -/
def silu (g : EReal) : EReal := g * Ideal.div 1 (1 + Ideal.exp (-g))

/-- A row against a column of weights. -/
def against (x : Fin 2048 → EReal) (w : Fin 2048 → Fin 512 → EReal) (f : Fin 512) : EReal := ∑ k : Fin 2048, x k * w k f

/-- A row's hidden value: the activated gate times the up projection. -/
def hidden (x : Fin 2048 → EReal) (wg wu : Fin 2048 → Fin 512 → EReal) (f : Fin 512) : EReal :=
  silu (against x wg f) * against x wu f

/-- A row through an expert. -/
def feedForward (x : Fin 2048 → EReal) (wg wu : Fin 2048 → Fin 512 → EReal) (wd : Fin 512 → Fin 2048 → EReal) (d : Fin 2048) : EReal :=
  ∑ f : Fin 512, hidden x wg wu f * wd f d

theorem exp_nonneg (x : EReal) : 0 ≤ Ideal.exp x := by
  induction x with
  | bot => exact le_refl _
  | top => exact le_top
  | coe r => exact EReal.coe_nonneg.mpr (Real.exp_nonneg r)

/-- The logistic function's denominator is not zero. -/
theorem one_add_exp_ne (x : EReal) : (1 : EReal) + Ideal.exp x ≠ 0 := fun e => by
  have h : (1 : EReal) ≤ 1 + Ideal.exp x := le_add_of_nonneg_right (exp_nonneg x)
  rw [e] at h
  exact absurd h (not_le.mpr (by norm_num))

/-- The kernel divides by the denominator where the reference multiplies by its reciprocal. -/
theorem div_eq_silu (g : EReal) : Ideal.div g (1 + Ideal.exp (0 - g)) = silu g := by
  unfold silu Ideal.div
  rw [zero_sub, if_neg (one_add_exp_ne _), if_neg (one_add_exp_ne _), one_mul]

/-- A tile's rows through an expert whose weights are cast as the kernel casts them, at an entry. -/
theorem pay4_apply (x : S256x2048.Idx → EReal) (a1 a2 : S1x2048x512.Idx → EReal) (a3 : S1x512x2048.Idx → EReal) (r : Fin 256) (d : Fin 2048) :
    k0_pay4 (F := Ideal) x (k0_pay1 (F := Ideal) a1) (k0_pay2 (F := Ideal) a2) (k0_pay3 (F := Ideal) a3) (ix2 r d)
      = feedForward (fun k => x (ix2 r k)) (fun k f => a1 (ix3 0 k f)) (fun k f => a2 (ix3 0 k f)) (fun f e => a3 (ix3 0 f e)) d := by
  have e1 : ∀ k f, k0_pay1 (F := Ideal) a1 (ix2 k f) = a1 (ix3 0 k f) := fun k f => by
    unfold k0_pay1
    rw [shapeCast_self]
    exact shapeCast_1ab_ab_apply a1 _ k f
  have e2 : ∀ k f, k0_pay2 (F := Ideal) a2 (ix2 k f) = a2 (ix3 0 k f) := fun k f => by
    unfold k0_pay2
    rw [shapeCast_self]
    exact shapeCast_1ab_ab_apply a2 _ k f
  have e3 : ∀ k f, k0_pay3 (F := Ideal) a3 (ix2 k f) = a3 (ix3 0 k f) := fun k f => by
    unfold k0_pay3
    rw [shapeCast_self]
    exact shapeCast_1ab_ab_apply a3 _ k f
  unfold k0_pay4
  generalize k0_pay1 (F := Ideal) a1 = w1 at e1 ⊢
  generalize k0_pay2 (F := Ideal) a2 = w2 at e2 ⊢
  generalize k0_pay3 (F := Ideal) a3 = w3 at e3 ⊢
  have hd : dot_S256x2048_S2048x512_S256x512_1_0_0_1_n_n = DotDims.plain 256 2048 512 := rfl
  have hd' : dot_S256x512_S512x2048_S256x2048_1_0_0_1_n_n = DotDims.plain 256 512 2048 := rfl
  have m1 : ∀ f, matmul (F := Ideal) dot_S256x2048_S2048x512_S256x512_1_0_0_1_n_n none x w1 (constant S256x512 .f32 0x00000000#32) (ix2 r f)
      = against (fun k => x (ix2 r k)) (fun k f => a1 (ix3 0 k f)) f := fun f => by
    rw [hd]
    refine (Ideal.matmul_plain_apply none x w1 _ r f).trans ?_
    show Ideal.ofBits .f32 0x00000000#32 + _ = _
    rw [Ideal.ofBits_zero_f32, zero_add]
    exact Finset.sum_congr rfl fun k _ => by rw [e1]
  have m2 : ∀ f, matmul (F := Ideal) dot_S256x2048_S2048x512_S256x512_1_0_0_1_n_n none x w2 (constant S256x512 .f32 0x00000000#32) (ix2 r f)
      = against (fun k => x (ix2 r k)) (fun k f => a2 (ix3 0 k f)) f := fun f => by
    rw [hd]
    refine (Ideal.matmul_plain_apply none x w2 _ r f).trans ?_
    show Ideal.ofBits .f32 0x00000000#32 + _ = _
    rw [Ideal.ofBits_zero_f32, zero_add]
    exact Finset.sum_congr rfl fun k _ => by rw [e2]
  generalize matmul (F := Ideal) dot_S256x2048_S2048x512_S256x512_1_0_0_1_n_n none x w1 (constant S256x512 .f32 0x00000000#32) = g at m1 ⊢
  generalize matmul (F := Ideal) dot_S256x2048_S2048x512_S256x512_1_0_0_1_n_n none x w2 (constant S256x512 .f32 0x00000000#32) = u at m2 ⊢
  rw [hd']
  refine (Ideal.matmul_plain_apply none _ w3 _ r d).trans ?_
  show Ideal.ofBits .f32 0x00000000#32 + _ = _
  rw [Ideal.ofBits_zero_f32, zero_add]
  refine Finset.sum_congr rfl fun f _ => ?_
  rw [e3]
  refine congrArg (· * a3 (ix3 0 f d)) ?_
  show Ideal.div (g (ix2 r f)) (Ideal.ofBits .f32 0x3F800000#32 + Ideal.exp (Ideal.ofBits .f32 0x00000000#32 - g (ix2 r f))) * u (ix2 r f) = _
  rw [Ideal.ofBits_zero_f32, Ideal.ofBits_one_f32, div_eq_silu, m1, m2]
  rfl

/-- A tile not in use: zeros. -/
theorem pay5_apply (j : S256x2048.Idx) : k0_pay5 (F := Ideal) j = 0 := by
  show Ideal.ofBits .f32 0x00000000#32 = 0
  exact Ideal.ofBits_zero_f32

end Cert.KernelIdeal.Moe

end
-- ==== Proof.ExpertValue.lean ====
/-
  THE OUTPUT ARRAY. What the run leaves of its arguments at any float values, and over the extended reals the array that it
  leaves: every row through its tile's expert, and zeros for the rows of a tile not in use.
-/
module

public import proofs.«01_k».proof.Proof.ExpertFrame
public import proofs.«01_k».proof.Proof.ExpertMath
public import Idealize.ShloMosaic.Lib.Pipeline.ValueKit.Basic

@[expose] public section

set_option maxRecDepth 16384

noncomputable section

namespace Cert.KernelIdeal.Moe

open Cert.KernelIdeal Cert.KernelIdeal.Gen
open Idealize.ShloMosaic Idealize.ShloMosaic.ValueIdx
open Idealize.ShloMosaic.TcCoe
open Idealize.SL.Sem
open Idealize.ShloMosaic.Pipeline (Dat RDat Cfg Window)

section Args

variable {F : FTy → Type} [FloatOps F]
variable (m : (ℓ : Loc nD τ sig) → Buf (Elt F) ℓ) (h : InRange (T0 m))
variable {r : PUnit × MemSt nD τ sig (Elt F)}
  (hr : RDat.FramePost (cfgA m h) (rdat m h) (fun c b => m ((c : Thread nD τ).loc b)) r) (c : Dev nD)

include hr in
/-- The run leaves its six arguments as they were: four are arrays it reads blocks of, two the tables. -/
theorem args_kept :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨RDat.FramePost.arr_in hr c (0 : Fin 5) rfl, (hr c).2 main_arg1 (show main_arg1 ∈ Pipeline.restRefs sig spec0 by decide), (hr c).2 main_arg2 (show main_arg2 ∈ Pipeline.restRefs sig spec0 by decide),
    RDat.FramePost.arr_in hr c (1 : Fin 5) rfl, RDat.FramePost.arr_in hr c (2 : Fin 5) rfl, RDat.FramePost.arr_in hr c (3 : Fin 5) rfl⟩

end Args

section Value

variable (m : (ℓ : Loc nD τ sig) → Buf (Elt Ideal) ℓ) (h : InRange (T0 m)) (c : Dev nD)

/-- The rows of a device's first argument. -/
abbrev rows : S41984x2048.Idx → EReal := m ((c : Thread nD τ).loc main_arg0)

/-- The tile of a row. -/
def tileOf (n : Fin 41984) : Fin 164 := ⟨n.val / 256, by have := n.isLt; omega⟩

/-- The output at a row and a column: zero if the row's tile is not in use, else the row through its tile's expert. -/
def outAt (n : Fin 41984) (d : Fin 2048) : EReal :=
  if word (T1 m) (tileOf n) = 0#32 then 0
  else feedForward (fun k => rows m c (ix2 n k)) (fun k f => gateAt m c (expertOf m (tileOf n)) (ix3 0 k f))
    (fun k f => upAt m c (expertOf m (tileOf n)) (ix3 0 k f)) (fun f e => downAt m c (expertOf m (tileOf n)) (ix3 0 f e)) d

/-- The output array. -/
def moeOut : S41984x2048.Idx → EReal := fun i => outAt m c (i 0) (i 1)

/-- The rows' and the output's blocks at a point are those of the point's tile. -/
theorem index0_0 : ∀ i : grid0.Coords, cc0_transform_0 i = ![(i 0).val, 0] := by decide +kernel
theorem index4_0 : ∀ i : grid0.Coords, cc0_transform_4 i = ![(i 0).val, 0] := by decide +kernel

/-- The row of a tile. -/
def rowOf (t : Fin 164) (p : Fin 256) : Fin 41984 := ⟨t.val * 256 + p.val, by have := t.isLt; have := p.isLt; omega⟩

theorem tileOf_rowOf (t : Fin 164) (p : Fin 256) : tileOf (rowOf t p) = t :=
  Fin.ext (by show (t.val * 256 + p.val) / 256 = t.val; have := p.isLt; omega)

/-- The rows' block at a point: the tile's rows. -/
theorem iblk_rows (t : Fin (cfgA m h).N) (p : Fin 256) (k : Fin 2048) :
    iblk m h c (0 : Fin 5) t (ix2 p k) = rows m c (ix2 (rowOf (crd m h t 0) p) k) := by
  unfold iblk
  rw [View.read_apply]
  show rows m c _ = rows m c _
  refine congrArg _ (funext fun a => Fin.ext ?_)
  have hb := Window.rect_emb_val ((cfgA m h).win (0 : Fin 5)) t (ix2 p k) a
  have hi := congrFun (index0_0 (crd m h t)) a
  refine (hb.trans (congrArg (fun n => n * ((cfgA m h).win (0 : Fin 5)).size a + (ix2 p k a : ℕ)) hi)).trans ?_
  fin_cases a
  · rfl
  · show 0 * _ + k.val = k.val
    rw [Nat.zero_mul, Nat.zero_add]

/-- A tile's value at an entry is the output's. -/
theorem tileOut_apply (n : Fin 164) (x : S256x2048.Idx → EReal) (p : Fin 256) (d : Fin 2048)
    (hx : ∀ k, x (ix2 p k) = rows m c (ix2 (rowOf n p) k)) : tileOut m c n x (ix2 p d) = outAt m c (rowOf n p) d := by
  unfold outAt
  rw [tileOf_rowOf]
  by_cases hu : word (T1 m) n = 0#32
  · rw [tileOut_unused m c _ _ hu, if_pos hu]
    exact pay5_apply _
  · rw [tileOut_used m c _ _ hu, if_neg hu]
    refine (pay4_apply _ _ _ _ p d).trans ?_
    exact congrArg (fun x => feedForward x _ _ _ d) (funext hx)

/-- An index of the output is in a point's block when its row is the tile's. -/
theorem mem_blk4 (t : Fin (cfgA m h).N) (i : S41984x2048.Idx) (hi : (i 0 : ℕ) / 256 = t.val) :
    i ∈ (((cfgA m h).win (4 : Fin 5)).blk t).view.set := by
  show i ∈ ((View.whole main_v0).slice (((cfgA m h).win (4 : Fin 5)).rect t)).set
  rw [View.set_slice_whole]
  rw [Window.mem_rect_iff ((cfgA m h).win (4 : Fin 5)) t i rfl]
  intro a
  have hx := congrFun (index4_0 (crd m h t)) a
  have h1 : (i 1 : ℕ) < 2048 := (i 1).isLt
  have hc := crd_val m h t
  have hx' : ((cfgA m h).win (4 : Fin 5)).index t a = (![(crd m h t 0).val, 0] : Fin 2 → ℕ) a := hx
  rw [hx']
  fin_cases a
  · show (crd m h t 0).val * 256 ≤ (i 0 : ℕ) ∧ (i 0 : ℕ) < (crd m h t 0).val * 256 + 256
    omega
  · show 0 * 2048 ≤ (i 1 : ℕ) ∧ (i 1 : ℕ) < 0 * 2048 + 2048
    omega

/-- The output's block moves at every point, so every point writes it back. -/
theorem flush4 (t : Fin (cfgA m h).N) : ((cfgA m h).win (4 : Fin 5)).flush t = true := by
  have hN : (cfgA m h).N = 164 := N_0
  unfold Window.flush
  rw [Bool.and_eq_true]
  refine ⟨rfl, ?_⟩
  rw [Bool.or_eq_true, decide_eq_true_eq, decide_eq_true_eq]
  by_cases hl : t.val + 1 = (cfgA m h).N
  · exact .inl hl
  have ht : t.val + 1 < (cfgA m h).N := by have := t.isLt; omega
  refine .inr ⟨ht, fun e => ?_⟩
  have e0 : (crd m h ⟨t.val + 1, ht⟩ 0).val = (crd m h t 0).val :=
    ((congrFun (index4_0 (crd m h ⟨t.val + 1, ht⟩)) 0).symm.trans (congrFun e 0)).trans (congrFun (index4_0 (crd m h t)) 0)
  rw [crd_val, crd_val] at e0
  exact absurd e0 (Nat.succ_ne_self _)

/-- The points' blocks cover the output. -/
theorem cover4 (i : S41984x2048.Idx) : ∃ t : Fin (cfgA m h).N, ((cfgA m h).win (4 : Fin 5)).flush t = true
    ∧ i ∈ (((cfgA m h).win (4 : Fin 5)).blk t).view.set := by
  have h0 : (i 0 : ℕ) < 41984 := (i 0).isLt
  have hN : (cfgA m h).N = 164 := N_0
  exact ⟨⟨(i 0 : ℕ) / 256, by omega⟩, flush4 m h _, mem_blk4 m h _ i rfl⟩

/-- A point's block of the output array. -/
theorem moeOut_blk (t : Fin (cfgA m h).N) (p : Fin 256) (d : Fin 2048) :
    (((cfgA m h).win (4 : Fin 5)).blk t).view.read (Elt Ideal) (moeOut m c) (ix2 p d) = outAt m c (rowOf (crd m h t 0) p) d := by
  rw [View.read_apply]
  show moeOut m c _ = moeOut m c (ix2 (rowOf (crd m h t 0) p) d)
  refine congrArg _ (funext fun a => Fin.ext ?_)
  have hb := Window.rect_emb_val ((cfgA m h).win (4 : Fin 5)) t (ix2 p d) a
  have hi := congrFun (index4_0 (crd m h t)) a
  refine (hb.trans (congrArg (fun n => n * ((cfgA m h).win (4 : Fin 5)).size a + (ix2 p d a : ℕ)) hi)).trans ?_
  fin_cases a
  · rfl
  · show 0 * _ + d.val = d.val
    rw [Nat.zero_mul, Nat.zero_add]

/-- The run leaves the output array, if a tile in use that follows a tile of the same expert follows a tile in use. -/
theorem out_left (hruns : Runs m) {r : PUnit × MemSt nD τ sig (Elt Ideal)}
    (hr : RDat.FramePost (cfgA m h) (rdat m h) (fun c b => m ((c : Thread nD τ).loc b)) r) :
    r.2.mem ((c : Thread nD τ).loc main_v0) = moeOut m c := by
  obtain ⟨after, hL, hA⟩ := RDat.FramePost.exists_exact hr c
  refine (hA (4 : Fin 5)).trans ?_
  refine ((rdat m h c).withAfter after).arrAt_eq_of_cover (4 : Fin 5) (moeOut m c) (fun t ht => ?_) (cover4 m h)
  have hX : after (4 : Fin 5) t = tileOut m c (crd m h t 0) (iblk m h c (0 : Fin 5) t) :=
    Dat.toRRel_leaves (dat m h c) (fgt := fgt) (Rl := Rl m h c) (w := (4 : Fin 5)) rfl (hL (4 : Fin 5) t ht) hruns
  show ((cfgA m h).win (4 : Fin 5)).cut ((cfgA m h).grid.coords t) (after (4 : Fin 5) t) = _
  rw [hX]
  funext j
  rw [show j = ix2 (j 0) (j 1) from eq_ix2 j]
  refine Eq.trans ?_ (moeOut_blk m h c t (j 0) (j 1)).symm
  exact tileOut_apply m c _ _ (j 0) (j 1) (iblk_rows m h c t (j 0))

end Value

end Cert.KernelIdeal.Moe

end
-- ==== Proof.ExpertReference.lean ====
/-
  THE REFERENCE AT AN ENTRY. The dense reference sends every row through every expert and scales the hidden values by the
  row's gate; all the gates of a row are zero but its own expert's, so the sum over the experts is the one expert's.
-/
module

public import proofs.«01_k».proof.Proof.ExpertMath
public import proofs.«01_k».proof.Proof.Gen.ReferenceIdeal.Read
public import Idealize.ShloMosaic.Lib.StableHlo.Predicate

@[expose] public section

set_option maxRecDepth 16384

noncomputable section

namespace Cert.ReferenceIdeal.Moe

open Cert.ReferenceIdeal Cert.ReferenceIdeal.Gen Cert.ReferenceIdeal.Read
open Idealize.ShloMosaic Idealize.ShloMosaic.ValueIdx
open Cert.KernelIdeal.Moe (silu against hidden feedForward)
open scoped BigOperators

variable (x0 : S41984x2048.Idx → EReal) (x1 x2 : S164.Idx → BitVec 32) (x3 x4 : S32x2048x512.Idx → EReal) (x5 : S32x512x2048.Idx → EReal)

/-- The tile of a row. -/
def tileOf (n : Fin 41984) : Fin 164 := ⟨n.val / 256, by have := n.isLt; omega⟩

/-- The gate of a row at an expert: 1 at the row's own expert if its tile is in use, 0 elsewhere. -/
theorem gate_apply (n : Fin 41984) (e : Fin 32) (f : Fin 512) :
    val_main_v22 (F := Ideal) x1 x2 (ix3 n e f)
      = if x1 (ix1 (tileOf n)) = BitVec.ofNat 32 e.val ∧ x2 (ix1 (tileOf n)) ≠ 0#32 then 1 else 0 := by
  rw [val_main_v22_apply, val_main_v21_apply, val_main_v16_apply, val_main_v15_apply, val_main_v10_apply, val_main_v8_apply, val_main_v5_apply,
    val_main_v2_apply, val_main_v1_apply, val_main_v9_apply, val_main_v7_apply, val_main_v6_apply, val_main_v14_apply, val_main_v13_apply,
    val_main_v11_apply, val_main_v4_apply, val_main_v3_apply, val_main_v12_apply, val_main_c_apply]
  have i1 : ∀ j : S164.Idx, (j 0).val = n.val / 256 → j = ix1 (tileOf n) := fun j h => by
    rw [eq_ix1 j]; exact congrArg ix1 (Fin.ext h)
  rw [i1 (idx_main_v1 _) rfl, i1 (idx_main_v3 _) rfl]
  show ((((IntOp.andi (IntOp.cmpi .eq (x1 (ix1 (tileOf n))) (BitVec.ofNat 32 e.val)) (IntOp.cmpi .ne (x2 (ix1 (tileOf n))) 0#32)).toNat : ℝ)) : EReal) = _
  generalize x1 (ix1 (tileOf n)) = a
  generalize x2 (ix1 (tileOf n)) = b
  have he : IntOp.cmpi .eq a (BitVec.ofNat 32 e.val) = if a = BitVec.ofNat 32 e.val then 1#1 else 0#1 := by
    show BitVec.ofBool (a == _) = _
    split
    · next h => rw [h, beq_self_eq_true]; rfl
    · next h => rw [beq_eq_false_iff_ne.mpr h]; rfl
  have hn : IntOp.cmpi .ne b 0#32 = if b ≠ 0#32 then 1#1 else 0#1 := by
    show BitVec.ofBool (b != _) = _
    split
    · next h => rw [bne_iff_ne.mpr h]; rfl
    · next h => rw [not_not.mp h, bne_self_eq_false]; rfl
  rw [he, hn]
  by_cases p : a = BitVec.ofNat 32 e.val <;> by_cases q : b = 0#32
  · rw [if_pos p, if_neg (not_not_intro q), if_neg (fun h => h.2 q)]; simp [IntOp.andi]
  · rw [if_pos p, if_pos q, if_pos ⟨p, q⟩]; simp [IntOp.andi]
  · rw [if_neg p, if_neg (not_not_intro q), if_neg (fun h => h.2 q)]; simp [IntOp.andi]
  · rw [if_neg p, if_pos q, if_neg (fun h => p h.1)]; simp [IntOp.andi]

/-- The hidden value of a row at an expert. -/
theorem hidden_apply (n : Fin 41984) (e : Fin 32) (f : Fin 512) :
    val_main_v20 (F := Ideal) x0 x3 x4 (ix3 n e f)
      = hidden (fun k => x0 (ix2 n k)) (fun k f => x3 (ix3 e k f)) (fun k f => x4 (ix3 e k f)) f := by
  have g : val_main_v17 (F := Ideal) x0 x3 (ix3 n e f) = against (fun k => x0 (ix2 n k)) (fun k f => x3 (ix3 e k f)) f := by
    rw [val_main_v17_apply]
    refine Finset.sum_congr rfl fun k _ => ?_
    rw [val_main_v0_apply, eq_ix2 (lidx_main_v17 _ k), eq_ix3 (ridx_main_v17 _ k)]
    rfl
  have u : val_main_v19 (F := Ideal) x0 x4 (ix3 n e f) = against (fun k => x0 (ix2 n k)) (fun k f => x4 (ix3 e k f)) f := by
    rw [val_main_v19_apply]
    refine Finset.sum_congr rfl fun k _ => ?_
    rw [val_main_v0_apply, eq_ix2 (lidx_main_v19 _ k), eq_ix3 (ridx_main_v19 _ k)]
    rfl
  rw [val_main_v20_apply, val_main_v18_apply, val_main_call0_v5_apply, val_main_call0_v4_apply, val_main_call0_cst_0_apply,
    val_main_call0_v3_apply, val_main_call0_v2_apply, val_main_call0_cst_apply, val_main_call0_v1_apply, val_main_call0_v0_apply, g, u]
  show against _ _ f * Ideal.div (Ideal.ofBits .f32 0x3F800000#32) (Ideal.ofBits .f32 0x3F800000#32 + Ideal.exp (-against _ _ f)) * against _ _ f = _
  rw [Ideal.ofBits_one_f32]
  rfl

/-- The last product, which contracts the experts and the hidden axis, at an entry. -/
theorem down_apply (y : S41984x32x512.Idx → EReal) (n : Fin 41984) (d : Fin 2048) :
    Host.dotGeneral (F := Ideal) (φ₁ := .f32) (φ₂ := .f32) dot_S41984x32x512_S32x512x2048_S41984x2048_12_01_0_2_n_n none y x5 (ix2 n d)
      = ∑ e : Fin 32, ∑ f : Fin 512, y (ix3 n e f) * x5 (ix3 e f d) := by
  simp only [Host.dotGeneral]
  rw [Ideal.dotGeneral_apply, sum_contr2 dot_S41984x32x512_S32x512x2048_S41984x2048_12_01_0_2_n_n 32 512 rfl rfl rfl]
  refine Finset.sum_congr rfl fun e _ => Finset.sum_congr rfl fun f _ => ?_
  have h0 := contrEquiv2_symm_val0 dot_S41984x32x512_S32x512x2048_S41984x2048_12_01_0_2_n_n 32 512 rfl rfl rfl (e, f)
  have h1 := contrEquiv2_symm_val1 dot_S41984x32x512_S32x512x2048_S41984x2048_12_01_0_2_n_n 32 512 rfl rfl rfl (e, f)
  refine congrArg₂ (· * ·) (congrArg y ?_) (congrArg x5 ?_)
  · funext a; apply Fin.ext
    match a with
    | ⟨0, _⟩ => rfl
    | ⟨1, _⟩ => exact h0
    | ⟨2, _⟩ => exact h1
  · funext a; apply Fin.ext
    match a with
    | ⟨0, _⟩ => exact h0
    | ⟨1, _⟩ => exact h1
    | ⟨2, _⟩ => rfl

/-- The reference at an entry: zero if the row's tile is not in use, else the row through its tile's expert. -/
theorem reference_apply (h : ∀ n : Fin 164, (x1 (ix1 n)).toNat < 32) (n : Fin 41984) (d : Fin 2048) :
    val_main_v24 (F := Ideal) x0 x1 x2 x3 x4 x5 (ix2 n d)
      = if x2 (ix1 (tileOf n)) = 0#32 then 0
        else feedForward (fun k => x0 (ix2 n k)) (fun k f => x3 (ix3 ⟨(x1 (ix1 (tileOf n))).toNat, h _⟩ k f))
          (fun k f => x4 (ix3 ⟨(x1 (ix1 (tileOf n))).toNat, h _⟩ k f)) (fun f d => x5 (ix3 ⟨(x1 (ix1 (tileOf n))).toNat, h _⟩ f d)) d := by
  unfold val_main_v24
  rw [down_apply]
  have hv : ∀ e f, val_main_v23 (F := Ideal) x0 x1 x2 x3 x4 (ix3 n e f)
      = hidden (fun k => x0 (ix2 n k)) (fun k f => x3 (ix3 e k f)) (fun k f => x4 (ix3 e k f)) f
        * (if x1 (ix1 (tileOf n)) = BitVec.ofNat 32 e.val ∧ x2 (ix1 (tileOf n)) ≠ 0#32 then 1 else 0) := fun e f => by
    rw [val_main_v23_apply, hidden_apply, gate_apply]; rfl
  split
  · next hz =>
    refine Finset.sum_eq_zero fun e _ => Finset.sum_eq_zero fun f _ => ?_
    rw [hv, if_neg (fun q => q.2 hz), mul_zero, zero_mul]
  · next hz =>
    rw [Finset.sum_eq_single (⟨(x1 (ix1 (tileOf n))).toNat, h _⟩ : Fin 32)]
    · refine Finset.sum_congr rfl fun f _ => ?_
      rw [hv, if_pos ⟨by show _ = BitVec.ofNat 32 (BitVec.toNat _); rw [BitVec.ofNat_toNat, BitVec.setWidth_eq], hz⟩, mul_one]
    · intro e _ he
      refine Finset.sum_eq_zero fun f _ => ?_
      rw [hv, if_neg, mul_zero, zero_mul]
      rintro ⟨q, -⟩
      refine he (Fin.ext ?_)
      show e.val = (x1 (ix1 (tileOf n))).toNat
      rw [q, BitVec.toNat_ofNat, Nat.mod_eq_of_lt (by have := e.isLt; omega)]
    · exact fun q => absurd (Finset.mem_univ _) q

end Cert.ReferenceIdeal.Moe

end
-- ==== Proof.ExpertEqual.lean ====
/-
  THE OUTPUT ARRAY IS THE REFERENCE'S RESULT, entry by entry.
-/
module

public import proofs.«01_k».proof.Proof.ExpertValue
public import proofs.«01_k».proof.Proof.ExpertReference

@[expose] public section

set_option maxRecDepth 16384

noncomputable section

namespace Cert.KernelIdeal.Moe

open Idealize.ShloMosaic Idealize.ShloMosaic.TcCoe Idealize.ShloMosaic.ValueIdx

/-- The kernel's output array is the reference's result of the same arguments. -/
theorem moeOut_eq (m : (ℓ : Loc Cert.KernelIdeal.nD Cert.KernelIdeal.τ Cert.KernelIdeal.sig) → Buf (Elt Ideal) ℓ) (h : InRange (T0 m))
    (c : Dev Cert.KernelIdeal.nD) :
    moeOut m c = Cert.ReferenceIdeal.Read.val_main_v24 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  obtain rfl : c = 0 := Subsingleton.elim _ _
  have hw : ∀ (T : Cert.KernelIdeal.S164.Idx → BitVec 32) (n : Fin 164), T (ix1 n) = word T n := fun T n =>
    congrArg T (funext fun a => by fin_cases a; rfl)
  have hlt : ∀ n : Fin 164, (T0 m (ix1 n)).toNat < 32 := fun n => (congrArg (fun x : BitVec 32 => x.toNat < 32) (hw (T0 m) n)).mpr (h n)
  funext i
  obtain ⟨n, d, rfl⟩ : ∃ n d, i = ix2 n d := ⟨i 0, i 1, eq_ix2 i⟩
  refine Eq.trans ?_ (Cert.ReferenceIdeal.Moe.reference_apply _ _ _ _ _ _ hlt n d).symm
  show outAt m 0 n d = _
  unfold outAt
  have ht : word (T1 m) (tileOf n) = T1 m (ix1 (Cert.ReferenceIdeal.Moe.tileOf n)) := (hw _ _).symm
  rw [ht]
  have he : expertOf m (tileOf n) = (T0 m (ix1 (Cert.ReferenceIdeal.Moe.tileOf n))).toNat := congrArg BitVec.toNat (hw _ _).symm
  have hm : (T0 m (ix1 (Cert.ReferenceIdeal.Moe.tileOf n))).toNat % 32 = (T0 m (ix1 (Cert.ReferenceIdeal.Moe.tileOf n))).toNat :=
    Nat.mod_eq_of_lt (hlt _)
  rw [he]
  refine if_congr Iff.rfl rfl ?_
  have hg : ∀ k f, gateAt m 0 (T0 m (ix1 (Cert.ReferenceIdeal.Moe.tileOf n))).toNat (ix3 0 k f)
      = m (((0 : Dev Cert.KernelIdeal.nD).tc : Thread Cert.KernelIdeal.nD Cert.KernelIdeal.τ).loc Cert.KernelIdeal.main_arg3) (ix3 ⟨_, hlt (Cert.ReferenceIdeal.Moe.tileOf n)⟩ k f) := fun k f => by
    unfold gateAt
    refine congrArg _ (funext fun a => Fin.ext ?_)
    fin_cases a
    · exact hm
    · rfl
    · rfl
  have hu : ∀ k f, upAt m 0 (T0 m (ix1 (Cert.ReferenceIdeal.Moe.tileOf n))).toNat (ix3 0 k f)
      = m (((0 : Dev Cert.KernelIdeal.nD).tc : Thread Cert.KernelIdeal.nD Cert.KernelIdeal.τ).loc Cert.KernelIdeal.main_arg4) (ix3 ⟨_, hlt (Cert.ReferenceIdeal.Moe.tileOf n)⟩ k f) := fun k f => by
    unfold upAt
    refine congrArg _ (funext fun a => Fin.ext ?_)
    fin_cases a
    · exact hm
    · rfl
    · rfl
  have hd : ∀ k f, downAt m 0 (T0 m (ix1 (Cert.ReferenceIdeal.Moe.tileOf n))).toNat (ix3 0 k f)
      = m (((0 : Dev Cert.KernelIdeal.nD).tc : Thread Cert.KernelIdeal.nD Cert.KernelIdeal.τ).loc Cert.KernelIdeal.main_arg5) (ix3 ⟨_, hlt (Cert.ReferenceIdeal.Moe.tileOf n)⟩ k f) := fun k f => by
    unfold downAt
    refine congrArg _ (funext fun a => Fin.ext ?_)
    fin_cases a
    · exact hm
    · rfl
    · rfl
  simp only [hg, hu, hd]

end Cert.KernelIdeal.Moe

end
-- ==== Proof.ExpertPre.lean ====
/-
  THE PRECONDITIONS, READ. What the two printed predicates say of the tables' words: every tile's expert is one of the 32,
  and a tile in use that follows a tile of the same expert follows a tile in use.
-/
module

public import proofs.«01_k».proof.Proof.ExpertFrame
public import proofs.«01_k».proof.Proof.Gen.Pre_expert_ids
public import proofs.«01_k».proof.Proof.Gen.Pre_expert_runs
public import Idealize.ShloMosaic.Lib.StableHlo.Predicate

@[expose] public section

set_option maxRecDepth 16384

noncomputable section

namespace Cert.KernelIdeal.Moe

open Cert.KernelIdeal Cert.KernelIdeal.Gen
open Idealize.ShloMosaic
open Idealize.ShloMosaic.TcCoe

variable {F : FTy → Type} [FloatOps F]

theorem and_one : ∀ p q : BitVec 1, IntOp.andi p q = 1#1 ↔ p = 1#1 ∧ q = 1#1 := by decide
theorem or_one : ∀ p q : BitVec 1, IntOp.ori p q = 1#1 ↔ p = 1#1 ∨ q = 1#1 := by decide

/-- A word that is at least 0 and less than 32, as signed words, is less than 32. -/
theorem toNat_lt_of_tests {x : BitVec 32} (h0 : IntOp.cmpi .sge x 0#32 = 1#1) (h1 : IntOp.cmpi .slt x 32#32 = 1#1) : x.toNat < 32 := by
  have e0 : BitVec.sle 0#32 x = true := (StableHlo.Predicate.ofBool_eq_one_iff _).mp h0
  have e1 : BitVec.slt x 32#32 = true := (StableHlo.Predicate.ofBool_eq_one_iff _).mp h1
  rw [BitVec.sle_iff_toInt_le] at e0
  rw [BitVec.slt_iff_toInt_lt] at e1
  have z : (0#32 : BitVec 32).toInt = 0 := by decide
  have t : (32#32 : BitVec 32).toInt = 32 := by decide
  rw [z] at e0; rw [t] at e1
  rw [BitVec.toInt_eq_toNat_cond] at e0 e1
  split at e0 <;> omega

theorem ne_of_test {x y : BitVec 32} (h : IntOp.cmpi .ne x y = 1#1) : x ≠ y := fun e => by
  have hb : (x != y) = true := (StableHlo.Predicate.ofBool_eq_one_iff _).mp h
  exact bne_iff_ne.mp hb e

variable (x0 : FVec F S41984x2048 .bf16) (x1 x2 : S164.Idx → BitVec 32) (x3 x4 : FVec F S32x2048x512 .f32) (x5 : FVec F S32x512x2048 .f32)

/-- The first predicate: every tile's expert is one of the 32. -/
theorem inRange_of_ids (hp : Cert.Pre_expert_ids.fn (F := F) x0 x1 x2 x3 x4 x5 = fun _ => 1#1) : InRange x1 := fun n => by
  have e : IntOp.andi (IntOp.cmpi .sge (word x1 n) 0#32) (IntOp.cmpi .slt (word x1 n) 32#32) = 1#1 := congrFun hp (tileIdx n)
  obtain ⟨h0, h1⟩ := (and_one _ _).mp e
  exact toNat_lt_of_tests h0 h1

/-- A table moved one tile on, its first word given, at a tile that is not the first: the word of the tile before. -/
theorem moved_apply (b : Cert.Pre_expert_runs.S1.Idx → BitVec 32) (x : S164.Idx → BitVec 32) (n : Fin 164) (hn : n.val ≠ 0) :
    concatenate Cert.Pre_expert_runs.S164 0 [⟨Cert.Pre_expert_runs.S1, b⟩, ⟨Cert.Pre_expert_runs.S163, extractStridedSlice Cert.Pre_expert_runs.S163 ![0] x Cert.Pre_expert_runs.Facts.slices_S164_S163_0⟩]
      Cert.Pre_expert_runs.Facts.concatenates_S1_S163_S164_d0 (tileIdx n) = word x (prevTile n) := by
  have hlt := n.isLt
  refine (concatenate_pair_apply_right (t := Cert.Pre_expert_runs.S164) (s₁ := Cert.Pre_expert_runs.S1) (s₂ := Cert.Pre_expert_runs.S163) 0 b _ _ (tileIdx n) rfl rfl (fun | ⟨0, _⟩ => ⟨n.val - 1, by show n.val - 1 < 163; omega⟩)
    (fun a ha => ?_) ?_).trans ?_
  · exact absurd (Subsingleton.elim _ _) ha
  · show n.val - 1 + 1 = n.val
    omega
  · refine extractStridedSlice_apply _ _ _ _ (tileIdx (prevTile n)) fun a => ?_
    match a with
    | ⟨0, _⟩ => show n.val - 1 = 0 + (n.val - 1); omega

/-- The second predicate at a tile: the first predicate's test, and the rule of the runs. -/
theorem runs_test (hp : Cert.Pre_expert_runs.fn (F := F) x0 x1 x2 x3 x4 x5 = fun _ => 1#1) (n : Fin 164) :
    (word x1 n).toNat < 32 ∧ (word x2 n ≠ 0#32 → n.val = 0 ∨ word x1 n ≠ word x1 (prevTile n) ∨ word x2 (prevTile n) ≠ 0#32) := by
  have e := congrFun hp (tileIdx n)
  unfold Cert.Pre_expert_runs.fn Cert.Pre_expert_runs.fn_part1 at e
  obtain ⟨hr, ht⟩ := (and_one _ _).mp e
  obtain ⟨h0, h1⟩ := (and_one _ _).mp hr
  refine ⟨toNat_lt_of_tests h0 h1, fun hu => ?_⟩
  by_cases hn : n.val = 0
  · exact .inl hn
  rcases (or_one _ _).mp ht with h | h
  · rcases (or_one _ _).mp h with h | h
    · rcases (or_one _ _).mp h with h | h
      · refine absurd (StableHlo.Predicate.cmpi_eq_iff.mp h) fun h => hn ?_
        have h' : BitVec.ofNat 32 n.val = 0#32 := h
        have hv := congrArg BitVec.toNat h'
        rw [BitVec.toNat_ofNat, Nat.mod_eq_of_lt (by have := n.isLt; omega)] at hv
        exact hv
      · exact absurd (StableHlo.Predicate.cmpi_eq_iff.mp h) hu
    · have h' := ne_of_test h
      refine .inr (.inl fun q => h' (q.trans ?_))
      exact (moved_apply _ x1 n hn).symm
  · have h' := ne_of_test h
    refine .inr (.inr fun q => h' (Eq.trans ?_ q))
    exact moved_apply _ x2 n hn

theorem inRange_of_runs (hp : Cert.Pre_expert_runs.fn (F := F) x0 x1 x2 x3 x4 x5 = fun _ => 1#1) : InRange x1 :=
  fun n => (runs_test x0 x1 x2 x3 x4 x5 hp n).1

end Cert.KernelIdeal.Moe

end
-- ==== Proof.NormMath.lean ====
/-
  THE NORM'S MATHEMATICS. A row of 2048 numbers scaled by the reciprocal root of its mean square and by a weight, over the
  extended reals; what the last call computes for a block of rows, and what its reference computes, are this function.
-/
module

public import proofs.«01_k».proof.Proof.Gen.FinalPromptIdeal.Value
public import proofs.«01_k».proof.Proof.Gen.FinalSampleIdeal.Value
public import proofs.«01_k».proof.Proof.Gen.FinalPromptReferenceIdeal.Read
public import proofs.«01_k».proof.Proof.Gen.FinalSampleReferenceIdeal.Read
public import Idealize.ShloMosaic.Lib.Pointwise

@[expose] public section

set_option maxRecDepth 16384

noncomputable section

namespace Cert.Norm

open Idealize.ShloMosaic
open scoped BigOperators

/-- The reciprocal root of a row's mean square, with the small number added that keeps it from zero. -/
def scale (x : Fin 2048 → EReal) : EReal :=
  Ideal.rsqrt (Ideal.div (∑ k : Fin 2048, x k * x k) (Ideal.ofBits .f32 0x45000000#32) + Ideal.ofBits .f32 0x358637BD#32)

/-- The normed row at an entry. -/
def normed (x g : Fin 2048 → EReal) (d : Fin 2048) : EReal := x d * scale x * g d

/-- What the last call stores for a block of rows, at an entry. -/
theorem prompt_pay (y a : Cert.FinalPromptIdeal.S512x2048.Idx → EReal) (g : Cert.FinalPromptIdeal.S1x2048.Idx → EReal) (r : Fin 512) (d : Fin 2048) :
    Cert.FinalPromptIdeal.Gen.k0_pay1 (F := Ideal) y a g (ix2 r d)
      = normed (fun k => y (ix2 r k) + a (ix2 r k)) (fun k => g (ix2 0 k)) d := by
  pointwise [Cert.FinalPromptIdeal.Gen.k0_pay1]
  rfl

/-- What its reference leaves, at an entry. -/
theorem prompt_ref (y a : Cert.FinalPromptReferenceIdeal.S16896x2048.Idx → EReal) (g : Cert.FinalPromptReferenceIdeal.S2048.Idx → EReal) (r : Fin 16384) (d : Fin 2048) :
    Cert.FinalPromptReferenceIdeal.Read.val_main_v15 (F := Ideal) y a g (ix2 r d)
      = normed (fun k => y (ix2 ⟨r.val, by have := r.isLt; omega⟩ k) + a (ix2 ⟨r.val, by have := r.isLt; omega⟩ k)) (fun k => g (ix1 k)) d := by
  rw [← Cert.FinalPromptReferenceIdeal.Read.val_main_v15_eq]
  pointwise []
  rfl

/-- What the last call stores for the samples' rows, at an entry. -/
theorem sample_pay (y a : Cert.FinalSampleIdeal.S512x2048.Idx → EReal) (g : Cert.FinalSampleIdeal.S1x2048.Idx → EReal) (r : Fin 512) (d : Fin 2048) :
    Cert.FinalSampleIdeal.Gen.k0_pay1 (F := Ideal) y a g (ix2 r d)
      = normed (fun k => y (ix2 r k) + a (ix2 r k)) (fun k => g (ix2 0 k)) d := by
  pointwise [Cert.FinalSampleIdeal.Gen.k0_pay1]
  rfl

/-- What its reference leaves, at an entry. -/
theorem sample_ref (y a : Cert.FinalSampleReferenceIdeal.S16896x2048.Idx → EReal) (g : Cert.FinalSampleReferenceIdeal.S2048.Idx → EReal) (r : Fin 512) (d : Fin 2048) :
    Cert.FinalSampleReferenceIdeal.Read.val_main_v15 (F := Ideal) y a g (ix2 r d)
      = normed (fun k => y (ix2 ⟨16384 + r.val, by have := r.isLt; omega⟩ k) + a (ix2 ⟨16384 + r.val, by have := r.isLt; omega⟩ k)) (fun k => g (ix1 k)) d := by
  rw [← Cert.FinalSampleReferenceIdeal.Read.val_main_v15_eq]
  pointwise []
  rfl

end Cert.Norm

end
-- ==== Proof.FinalPromptValue.lean ====
/-
  THE LAST NORM, THE PROMPT'S ROWS. The array its call leaves over the extended reals is, row by row, the norm of the sum of
  the residual stream's row and the experts' row, which is also what the reference leaves.
-/
module

public import proofs.«01_k».proof.Defs
public import proofs.«01_k».proof.Proof.NormMath
public import proofs.«01_k».proof.Proof.Gen.FinalPromptIdeal.Value
public import proofs.«01_k».proof.Proof.Gen.FinalPromptReferenceIdeal.Read
public import Idealize.ShloMosaic.Lib.Pipeline.ValueKit.Basic
public import Idealize.ShloMosaic.Adequacy
public import Idealize.ShloMosaic.Init

@[expose] public section

set_option maxRecDepth 16384

noncomputable section

namespace Cert.FinalPromptIdeal.Norm

open Cert.FinalPromptIdeal Cert.FinalPromptIdeal.Gen
open Idealize.ShloMosaic Idealize.ShloMosaic.TcCoe Idealize.SL.Sem
open Idealize.ShloMosaic.Pipeline (Dat Window)
open Cert.Norm

section Array

variable (m : (ℓ : Loc nD τ sig) → Buf (Elt Ideal) ℓ) (c : Dev nD)

/-- The residual stream, the experts' output and the weight a device is launched with. -/
abbrev stream : S16896x2048.Idx → EReal := m ((c : Thread nD τ).loc main_arg0)
abbrev experts : S16896x2048.Idx → EReal := m ((c : Thread nD τ).loc main_arg1)
abbrev weight : S2048.Idx → EReal := m ((c : Thread nD τ).loc main_arg2)

/-- The row of the two inputs that a row of the result is made of. -/
def source (n : Fin 16384) : Fin 16896 := ⟨n.val, by have := n.isLt; omega⟩

/-- The result at a row and a column. -/
def outAt (n : Fin 16384) (d : Fin 2048) : EReal :=
  normed (fun k => stream m c (ix2 (source n) k) + experts m c (ix2 (source n) k)) (fun k => weight m c (ix1 k)) d

/-- The result array. -/
def out : S16384x2048.Idx → EReal := fun i => outAt m c (i 0) (i 1)

theorem coord : ∀ t : Fin grid0.N, (grid0.coords t 0).val = t.val := by decide +kernel
theorem index0 : ∀ i : grid0.Coords, cc0_transform_0 i = ![(i 0).val, 0] := by decide +kernel
theorem index1 : ∀ i : grid0.Coords, cc0_transform_1 i = ![(i 0).val, 0] := by decide +kernel
theorem index2 : ∀ i : grid0.Coords, cc0_transform_2 i = ![0, 0] := by decide +kernel
theorem index3 : ∀ i : grid0.Coords, cc0_transform_3 i = ![(i 0).val, 0] := by decide +kernel

/-- The result's row that a row of a point's block is. -/
def rowOf (t : Fin cfg0.N) (p : Fin 512) : Fin 16384 :=
  ⟨(grid0.coords t 0).val * 512 + p.val, by
    have h : (grid0.coords t 0).val < 32 := (grid0.coords t 0).isLt
    have := p.isLt; omega⟩

/-- The residual stream's block at a point. -/
theorem block_stream (t : Fin cfg0.N) (p : Fin 512) (k : Fin 2048) :
    iblk m c 0 t (ix2 p k) = stream m c (ix2 (source (rowOf t p)) k) := by
  unfold iblk
  rw [View.read_apply]
  refine (congrFun (V_main_arg0 m c) _).trans (congrArg (stream m c) (funext fun a => Fin.ext ?_))
  have hb := Window.rect_emb_val (cfg0.win 0) t (ix2 p k) a
  have hi := congrFun (index0 (grid0.coords t)) a
  refine (hb.trans (congrArg (fun n => n * (cfg0.win 0).size a + (ix2 p k a : ℕ)) hi)).trans ?_
  fin_cases a
  · show ((grid0.coords t 0).val) * 512 + p.val = ((grid0.coords t 0).val * 512 + p.val)
    omega
  · show 0 * 2048 + k.val = k.val
    omega

/-- The experts' block at a point. -/
theorem block_experts (t : Fin cfg0.N) (p : Fin 512) (k : Fin 2048) :
    iblk m c 1 t (ix2 p k) = experts m c (ix2 (source (rowOf t p)) k) := by
  unfold iblk
  rw [View.read_apply]
  refine (congrFun (V_main_arg1 m c) _).trans (congrArg (experts m c) (funext fun a => Fin.ext ?_))
  have hb := Window.rect_emb_val (cfg0.win 1) t (ix2 p k) a
  have hi := congrFun (index1 (grid0.coords t)) a
  refine (hb.trans (congrArg (fun n => n * (cfg0.win 1).size a + (ix2 p k a : ℕ)) hi)).trans ?_
  fin_cases a
  · show ((grid0.coords t 0).val) * 512 + p.val = ((grid0.coords t 0).val * 512 + p.val)
    omega
  · show 0 * 2048 + k.val = k.val
    omega

/-- The region finds the weight as one row. -/
theorem weight_row : V m c main_v0 = shapeCast S1x2048 (weight m c) shapeCasts_S2048_S1x2048 := by
  show StableHlo.after hostOps0 _ _ = _
  after_results
  rfl

theorem weight_row_apply (k : Fin 2048) : shapeCast S1x2048 (weight m c) shapeCasts_S2048_S1x2048 (ix2 0 k) = weight m c (ix1 k) := by
  pointwise []

/-- The weight's block at a point. -/
theorem block_weight (t : Fin cfg0.N) (k : Fin 2048) : iblk m c 2 t (ix2 0 k) = weight m c (ix1 k) := by
  refine Eq.trans ?_ (weight_row_apply m c k)
  unfold iblk
  rw [View.read_apply]
  refine (congrFun (weight_row m c) _).trans (congrArg _ (funext fun a => Fin.ext ?_))
  have hb := Window.rect_emb_val (cfg0.win 2) t (ix2 0 k) a
  have hi := congrFun (index2 (grid0.coords t)) a
  refine (hb.trans (congrArg (fun n => n * (cfg0.win 2).size a + (ix2 0 k a : ℕ)) hi)).trans ?_
  fin_cases a
  · rfl
  · show 0 * 2048 + k.val = k.val
    omega

/-- The whole block is the rectangle stored to. -/
theorem whole_idx (j : S512x2048.Idx) : r0_0.idx j = j := funext fun a => Fin.ext (by
  fin_cases a
  · show 0 + 1 * (j 0).val = (j 0).val; omega
  · show 0 + 1 * (j 1).val = (j 1).val; omega)

theorem whole_idx_row (j : S1x2048.Idx) : r0_1.idx j = j := funext fun a => Fin.ext (by
  fin_cases a
  · show 0 + 1 * (j 0).val = (j 0).val; omega
  · show 0 + 1 * (j 1).val = (j 1).val; omega)

/-- What the body leaves of three blocks is its one store's value. -/
theorem stored (x y : S512x2048.Idx → EReal) (g : S1x2048.Idx → EReal) (j : S512x2048.Idx) :
    out0_3 (F := Ideal) x y g j = k0_pay1 (F := Ideal) x y g j := by
  have hx : ∀ x : S512x2048.Idx → EReal, View.ld (Val := Elt Ideal) (e' := .f32) x r0_0 = x := fun x => funext fun i => congrArg x (whole_idx i)
  have hg : View.ld (Val := Elt Ideal) (e' := .f32) g r0_1 = g := funext fun i => congrArg g (whole_idx_row i)
  unfold out0_3
  rw [hx, hx, hg]
  refine View.canon_apply_of_pieces (Val := Elt Ideal) (k0_pay1 (F := Ideal) x y g) _ (fun pc hpc => ?_) j (cover0_3 _ j)
  obtain rfl := List.mem_singleton.mp hpc
  exact fun i => congrArg _ (whole_idx i).symm

/-- An index of the result is in a point's block when its row is. -/
theorem mem_block (t : Fin cfg0.N) (i : S16384x2048.Idx) (hi : (i 0 : ℕ) / 512 = t.val) : i ∈ ((cfg0.win 3).blk t).view.set := by
  show i ∈ ((View.whole main_v1).slice ((cfg0.win 3).rect t)).set
  rw [View.set_slice_whole, Window.mem_rect_iff (cfg0.win 3) t i rfl]
  intro a
  have hx : (cfg0.win 3).index t a = (![(grid0.coords t 0).val, 0] : Fin 2 → ℕ) a := congrFun (index3 (grid0.coords t)) a
  have hc : (grid0.coords t 0).val = t.val := coord t
  have h1 : (i 1 : ℕ) < 2048 := (i 1).isLt
  rw [hx]
  fin_cases a
  · show (grid0.coords t 0).val * 512 ≤ (i 0 : ℕ) ∧ (i 0 : ℕ) < (grid0.coords t 0).val * 512 + 512
    omega
  · show 0 * 2048 ≤ (i 1 : ℕ) ∧ (i 1 : ℕ) < 0 * 2048 + 2048
    omega

/-- The points' blocks cover the result. -/
theorem cover (i : S16384x2048.Idx) : ∃ t : Fin cfg0.N, (cfg0.win 3).flush t = true ∧ i ∈ ((cfg0.win 3).blk t).view.set := by
  have h0 : (i 0 : ℕ) < 16384 := (i 0).isLt
  have hN : cfg0.N = 32 := by decide
  exact ⟨⟨(i 0 : ℕ) / 512, by omega⟩, flush0_3 _, mem_block _ i rfl⟩

/-- A point's block of the result. -/
theorem out_block (t : Fin cfg0.N) (p : Fin 512) (d : Fin 2048) :
    ((cfg0.win 3).blk t).view.read (Elt Ideal) (out m c) (ix2 p d) = outAt m c (rowOf t p) d := by
  rw [View.read_apply]
  show out m c _ = out m c (ix2 (rowOf t p) d)
  refine congrArg _ (funext fun a => Fin.ext ?_)
  have hb := Window.rect_emb_val (cfg0.win 3) t (ix2 p d) a
  have hi := congrFun (index3 (grid0.coords t)) a
  refine (hb.trans (congrArg (fun n => n * (cfg0.win 3).size a + (ix2 p d a : ℕ)) hi)).trans ?_
  fin_cases a
  · rfl
  · show 0 * 2048 + d.val = d.val
    omega

/-- The call leaves the result array. -/
theorem array_left : (dats m 0 c).arrAt 3 cfg0.N = out m c := by
  refine (dats m 0 c).arrAt_eq_of_cover 3 (out m c) (fun t _ => ?_) cover
  rw [Value.flushed3]
  funext j
  obtain ⟨p, d, rfl⟩ : ∃ p d, j = ix2 p d := ⟨j 0, j 1, eq_ix2 j⟩
  refine Eq.trans ?_ (out_block m c t p d).symm
  show out0_3 (F := Ideal) (iblk m c 0 t) (iblk m c 1 t) (iblk m c 2 t) (ix2 p d) = _
  refine (stored _ _ _ _).trans ((prompt_pay _ _ _ p d).trans ?_)
  unfold outAt
  refine congrArg₂ (fun x g => normed x g d) (funext fun k => ?_) (funext fun k => block_weight m c t k)
  rw [block_stream, block_experts]

/-- The result array is the reference's result of the same arguments. -/
theorem out_eq : out m c = Cert.FinalPromptReferenceIdeal.Read.val_main_v15 (F := Ideal) (stream m c) (experts m c) (weight m c) := by
  funext i
  obtain ⟨n, d, rfl⟩ : ∃ n d, i = ix2 n d := ⟨i 0, i 1, eq_ix2 i⟩
  refine Eq.trans ?_ (prompt_ref _ _ _ n d).symm
  rfl

end Array

/-- The reference runs. -/
theorem frame_reference : Cert.quiescent_FinalPromptReferenceIdeal := fun m g _ =>
  (θ_run Cert.FinalPromptReferenceIdeal.defs _ _).mono (fun r hr => ⟨fun c => (hr c).2, sem_eq_zero_of_no_sems (by decide) r.2⟩)
    (Cert.FinalPromptReferenceIdeal.Value.run (F := Ideal) m g)

/-- The call and the reference leave equal results. -/
theorem values_equal : Cert.algebraic_FinalPromptIdeal_FinalPromptReferenceIdeal := fun m g m' g' _ hm =>
  ⟨fun c => out m c,
    (θ_run defs _ _).mono (fun _ hr c => ⟨(hr c).1.trans (array_left m c), (hr c).2⟩) (Value.run_blocks (F := Ideal) m g),
    (θ_run Cert.FinalPromptReferenceIdeal.defs _ _).mono (fun r hr c => ⟨by
        obtain ⟨e0, e1, e2⟩ := hm c
        refine (hr c).1.trans ((Cert.FinalPromptReferenceIdeal.Read.val_main_v15_eq ..).trans ?_)
        rw [e0, e1, e2]
        exact (out_eq m c).symm, (hr c).2⟩)
      (Cert.FinalPromptReferenceIdeal.Value.run (F := Ideal) m' g')⟩

end Cert.FinalPromptIdeal.Norm

end
-- ==== Proof.FinalSampleValue.lean ====
/-
  THE LAST NORM, THE SAMPLES' ROWS. The array its call leaves over the extended reals is, row by row, the norm of the sum of
  the residual stream's row and the experts' row, which is also what the reference leaves.
-/
module

public import proofs.«01_k».proof.Defs
public import proofs.«01_k».proof.Proof.NormMath
public import proofs.«01_k».proof.Proof.Gen.FinalSampleIdeal.Value
public import proofs.«01_k».proof.Proof.Gen.FinalSampleReferenceIdeal.Read
public import Idealize.ShloMosaic.Lib.Pipeline.ValueKit.Basic
public import Idealize.ShloMosaic.Adequacy
public import Idealize.ShloMosaic.Init

@[expose] public section

set_option maxRecDepth 16384

noncomputable section

namespace Cert.FinalSampleIdeal.Norm

open Cert.FinalSampleIdeal Cert.FinalSampleIdeal.Gen
open Idealize.ShloMosaic Idealize.ShloMosaic.TcCoe Idealize.SL.Sem
open Idealize.ShloMosaic.Pipeline (Dat Window)
open Cert.Norm

section Array

variable (m : (ℓ : Loc nD τ sig) → Buf (Elt Ideal) ℓ) (c : Dev nD)

/-- The residual stream, the experts' output and the weight a device is launched with. -/
abbrev stream : S16896x2048.Idx → EReal := m ((c : Thread nD τ).loc main_arg0)
abbrev experts : S16896x2048.Idx → EReal := m ((c : Thread nD τ).loc main_arg1)
abbrev weight : S2048.Idx → EReal := m ((c : Thread nD τ).loc main_arg2)

/-- The row of the two inputs that a row of the result is made of. -/
def source (n : Fin 512) : Fin 16896 := ⟨16384 + n.val, by have := n.isLt; omega⟩

/-- The result at a row and a column. -/
def outAt (n : Fin 512) (d : Fin 2048) : EReal :=
  normed (fun k => stream m c (ix2 (source n) k) + experts m c (ix2 (source n) k)) (fun k => weight m c (ix1 k)) d

/-- The result array. -/
def out : S512x2048.Idx → EReal := fun i => outAt m c (i 0) (i 1)

theorem coord : ∀ t : Fin grid0.N, (grid0.coords t 0).val = t.val := by decide +kernel
theorem index0 : ∀ i : grid0.Coords, cc0_transform_0 i = ![32 + (i 0).val, 0] := by decide +kernel
theorem index1 : ∀ i : grid0.Coords, cc0_transform_1 i = ![32 + (i 0).val, 0] := by decide +kernel
theorem index2 : ∀ i : grid0.Coords, cc0_transform_2 i = ![0, 0] := by decide +kernel
theorem index3 : ∀ i : grid0.Coords, cc0_transform_3 i = ![(i 0).val, 0] := by decide +kernel

/-- The result's row that a row of a point's block is. -/
def rowOf (t : Fin cfg0.N) (p : Fin 512) : Fin 512 :=
  ⟨(grid0.coords t 0).val * 512 + p.val, by
    have h : (grid0.coords t 0).val < 1 := (grid0.coords t 0).isLt
    have := p.isLt; omega⟩

/-- The residual stream's block at a point. -/
theorem block_stream (t : Fin cfg0.N) (p : Fin 512) (k : Fin 2048) :
    iblk m c 0 t (ix2 p k) = stream m c (ix2 (source (rowOf t p)) k) := by
  unfold iblk
  rw [View.read_apply]
  refine (congrFun (V_main_arg0 m c) _).trans (congrArg (stream m c) (funext fun a => Fin.ext ?_))
  have hb := Window.rect_emb_val (cfg0.win 0) t (ix2 p k) a
  have hi := congrFun (index0 (grid0.coords t)) a
  refine (hb.trans (congrArg (fun n => n * (cfg0.win 0).size a + (ix2 p k a : ℕ)) hi)).trans ?_
  fin_cases a
  · show (32 + (grid0.coords t 0).val) * 512 + p.val = 16384 + ((grid0.coords t 0).val * 512 + p.val)
    omega
  · show 0 * 2048 + k.val = k.val
    omega

/-- The experts' block at a point. -/
theorem block_experts (t : Fin cfg0.N) (p : Fin 512) (k : Fin 2048) :
    iblk m c 1 t (ix2 p k) = experts m c (ix2 (source (rowOf t p)) k) := by
  unfold iblk
  rw [View.read_apply]
  refine (congrFun (V_main_arg1 m c) _).trans (congrArg (experts m c) (funext fun a => Fin.ext ?_))
  have hb := Window.rect_emb_val (cfg0.win 1) t (ix2 p k) a
  have hi := congrFun (index1 (grid0.coords t)) a
  refine (hb.trans (congrArg (fun n => n * (cfg0.win 1).size a + (ix2 p k a : ℕ)) hi)).trans ?_
  fin_cases a
  · show (32 + (grid0.coords t 0).val) * 512 + p.val = 16384 + ((grid0.coords t 0).val * 512 + p.val)
    omega
  · show 0 * 2048 + k.val = k.val
    omega

/-- The region finds the weight as one row. -/
theorem weight_row : V m c main_v0 = shapeCast S1x2048 (weight m c) shapeCasts_S2048_S1x2048 := by
  show StableHlo.after hostOps0 _ _ = _
  after_results
  rfl

theorem weight_row_apply (k : Fin 2048) : shapeCast S1x2048 (weight m c) shapeCasts_S2048_S1x2048 (ix2 0 k) = weight m c (ix1 k) := by
  pointwise []

/-- The weight's block at a point. -/
theorem block_weight (t : Fin cfg0.N) (k : Fin 2048) : iblk m c 2 t (ix2 0 k) = weight m c (ix1 k) := by
  refine Eq.trans ?_ (weight_row_apply m c k)
  unfold iblk
  rw [View.read_apply]
  refine (congrFun (weight_row m c) _).trans (congrArg _ (funext fun a => Fin.ext ?_))
  have hb := Window.rect_emb_val (cfg0.win 2) t (ix2 0 k) a
  have hi := congrFun (index2 (grid0.coords t)) a
  refine (hb.trans (congrArg (fun n => n * (cfg0.win 2).size a + (ix2 0 k a : ℕ)) hi)).trans ?_
  fin_cases a
  · rfl
  · show 0 * 2048 + k.val = k.val
    omega

/-- The whole block is the rectangle stored to. -/
theorem whole_idx (j : S512x2048.Idx) : r0_0.idx j = j := funext fun a => Fin.ext (by
  fin_cases a
  · show 0 + 1 * (j 0).val = (j 0).val; omega
  · show 0 + 1 * (j 1).val = (j 1).val; omega)

theorem whole_idx_row (j : S1x2048.Idx) : r0_1.idx j = j := funext fun a => Fin.ext (by
  fin_cases a
  · show 0 + 1 * (j 0).val = (j 0).val; omega
  · show 0 + 1 * (j 1).val = (j 1).val; omega)

/-- What the body leaves of three blocks is its one store's value. -/
theorem stored (x y : S512x2048.Idx → EReal) (g : S1x2048.Idx → EReal) (j : S512x2048.Idx) :
    out0_3 (F := Ideal) x y g j = k0_pay1 (F := Ideal) x y g j := by
  have hx : ∀ x : S512x2048.Idx → EReal, View.ld (Val := Elt Ideal) (e' := .f32) x r0_0 = x := fun x => funext fun i => congrArg x (whole_idx i)
  have hg : View.ld (Val := Elt Ideal) (e' := .f32) g r0_1 = g := funext fun i => congrArg g (whole_idx_row i)
  unfold out0_3
  rw [hx, hx, hg]
  refine View.canon_apply_of_pieces (Val := Elt Ideal) (k0_pay1 (F := Ideal) x y g) _ (fun pc hpc => ?_) j (cover0_3 _ j)
  obtain rfl := List.mem_singleton.mp hpc
  exact fun i => congrArg _ (whole_idx i).symm

/-- An index of the result is in a point's block when its row is. -/
theorem mem_block (t : Fin cfg0.N) (i : S512x2048.Idx) (hi : (i 0 : ℕ) / 512 = t.val) : i ∈ ((cfg0.win 3).blk t).view.set := by
  show i ∈ ((View.whole main_v1).slice ((cfg0.win 3).rect t)).set
  rw [View.set_slice_whole, Window.mem_rect_iff (cfg0.win 3) t i rfl]
  intro a
  have hx : (cfg0.win 3).index t a = (![(grid0.coords t 0).val, 0] : Fin 2 → ℕ) a := congrFun (index3 (grid0.coords t)) a
  have hc : (grid0.coords t 0).val = t.val := coord t
  have h1 : (i 1 : ℕ) < 2048 := (i 1).isLt
  rw [hx]
  fin_cases a
  · show (grid0.coords t 0).val * 512 ≤ (i 0 : ℕ) ∧ (i 0 : ℕ) < (grid0.coords t 0).val * 512 + 512
    omega
  · show 0 * 2048 ≤ (i 1 : ℕ) ∧ (i 1 : ℕ) < 0 * 2048 + 2048
    omega

/-- The points' blocks cover the result. -/
theorem cover (i : S512x2048.Idx) : ∃ t : Fin cfg0.N, (cfg0.win 3).flush t = true ∧ i ∈ ((cfg0.win 3).blk t).view.set := by
  have h0 : (i 0 : ℕ) < 512 := (i 0).isLt
  have hN : cfg0.N = 1 := by decide
  exact ⟨⟨(i 0 : ℕ) / 512, by omega⟩, flush0_3 _, mem_block _ i rfl⟩

/-- A point's block of the result. -/
theorem out_block (t : Fin cfg0.N) (p : Fin 512) (d : Fin 2048) :
    ((cfg0.win 3).blk t).view.read (Elt Ideal) (out m c) (ix2 p d) = outAt m c (rowOf t p) d := by
  rw [View.read_apply]
  show out m c _ = out m c (ix2 (rowOf t p) d)
  refine congrArg _ (funext fun a => Fin.ext ?_)
  have hb := Window.rect_emb_val (cfg0.win 3) t (ix2 p d) a
  have hi := congrFun (index3 (grid0.coords t)) a
  refine (hb.trans (congrArg (fun n => n * (cfg0.win 3).size a + (ix2 p d a : ℕ)) hi)).trans ?_
  fin_cases a
  · rfl
  · show 0 * 2048 + d.val = d.val
    omega

/-- The call leaves the result array. -/
theorem array_left : (dats m 0 c).arrAt 3 cfg0.N = out m c := by
  refine (dats m 0 c).arrAt_eq_of_cover 3 (out m c) (fun t _ => ?_) cover
  rw [Value.flushed3]
  funext j
  obtain ⟨p, d, rfl⟩ : ∃ p d, j = ix2 p d := ⟨j 0, j 1, eq_ix2 j⟩
  refine Eq.trans ?_ (out_block m c t p d).symm
  show out0_3 (F := Ideal) (iblk m c 0 t) (iblk m c 1 t) (iblk m c 2 t) (ix2 p d) = _
  refine (stored _ _ _ _).trans ((sample_pay _ _ _ p d).trans ?_)
  unfold outAt
  refine congrArg₂ (fun x g => normed x g d) (funext fun k => ?_) (funext fun k => block_weight m c t k)
  rw [block_stream, block_experts]

/-- The result array is the reference's result of the same arguments. -/
theorem out_eq : out m c = Cert.FinalSampleReferenceIdeal.Read.val_main_v15 (F := Ideal) (stream m c) (experts m c) (weight m c) := by
  funext i
  obtain ⟨n, d, rfl⟩ : ∃ n d, i = ix2 n d := ⟨i 0, i 1, eq_ix2 i⟩
  refine Eq.trans ?_ (sample_ref _ _ _ n d).symm
  rfl

end Array

/-- The reference runs. -/
theorem frame_reference : Cert.quiescent_FinalSampleReferenceIdeal := fun m g _ =>
  (θ_run Cert.FinalSampleReferenceIdeal.defs _ _).mono (fun r hr => ⟨fun c => (hr c).2, sem_eq_zero_of_no_sems (by decide) r.2⟩)
    (Cert.FinalSampleReferenceIdeal.Value.run (F := Ideal) m g)

/-- The call and the reference leave equal results. -/
theorem values_equal : Cert.algebraic_FinalSampleIdeal_FinalSampleReferenceIdeal := fun m g m' g' _ hm =>
  ⟨fun c => out m c,
    (θ_run defs _ _).mono (fun _ hr c => ⟨(hr c).1.trans (array_left m c), (hr c).2⟩) (Value.run_blocks (F := Ideal) m g),
    (θ_run Cert.FinalSampleReferenceIdeal.defs _ _).mono (fun r hr c => ⟨by
        obtain ⟨e0, e1, e2⟩ := hm c
        refine (hr c).1.trans ((Cert.FinalSampleReferenceIdeal.Read.val_main_v15_eq ..).trans ?_)
        rw [e0, e1, e2]
        exact (out_eq m c).symm, (hr c).2⟩)
      (Cert.FinalSampleReferenceIdeal.Value.run (F := Ideal) m' g')⟩

end Cert.FinalSampleIdeal.Norm

end
-- ==== Proof.BandArray.lean ====
/-
  THE FIRST PROJECTION'S ARRAY. What the call leaves over the extended reals: the norm of every row of its first array,
  times the weight. The normed rows of a block are kept in a scratch buffer over the block's seven grid points.
-/
module

public import proofs.«01_k».proof.Proof.NormMath
public import proofs.«01_k».proof.Proof.Gen.BandCacheIdeal.Frame
public import Idealize.ShloMosaic.Lib.Pipeline.ValueKit.Basic
public import Idealize.ShloMosaic.Lib.Pipeline.Value

@[expose] public section

set_option maxRecDepth 16384

noncomputable section

namespace Cert.BandCacheIdeal.Band

open Cert.BandCacheIdeal Cert.BandCacheIdeal.Gen
open Idealize.ShloMosaic Idealize.ShloMosaic.TcCoe Idealize.SL.Sem
open Idealize.ShloMosaic.Pipeline (Dat Window)
open Cert.Norm
open scoped BigOperators

/-- What the body keeps of a block of rows, at an entry. -/
theorem kept_apply (x : S512x2048.Idx → EReal) (g : S1x2048.Idx → EReal) (r : Fin 512) (d : Fin 2048) :
    k0_pay1 (F := Ideal) x g (ix2 r d) = normed (fun k => x (ix2 r k)) (fun k => g (ix2 0 k)) d := by
  pointwise [k0_pay1]
  rfl

/-- What it stores of the kept rows and of a block of the weight, at an entry. -/
theorem product_apply (h : S512x2048.Idx → EReal) (w : S2048x896.Idx → EReal) (r : Fin 512) (e : Fin 896) :
    k0_pay2 (F := Ideal) h w (ix2 r e) = ∑ k : Fin 2048, h (ix2 r k) * w (ix2 k e) := by
  pointwise [k0_pay2]

section Cases

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x896 .bf16) (h4 : a4.IsWhole)
  (a5 : Memref sig .tc .vmem S512x896 .bf16) (h5 : a5.IsWhole) (a6 : Memref sig .tc .vmem S512x2048 .bf16) (h6 : a6.IsWhole)
  (x : S512x2048.Idx → EReal) (g : S1x2048.Idx → EReal) (w : S2048x896.Idx → EReal) (s : S512x2048.Idx → EReal)

theorem origin : (![0, 0] : Fin 2 → ℕ) = fun _ => 0 := funext fun a => by fin_cases a <;> rfl

/-- A block's first point keeps the normed rows. -/
theorem first_keeps (hc : cond0_0 i) :
    sout0_A_0 (F := Ideal) c i a2 h2 a3 h3 a4 h4 a5 h5 a6 h6 hc x g w = k0_pay1 (F := Ideal) x g := by
  unfold sout0_A_0
  rw [View.read_writes_eq_canon _ _ _ (scover0_A_0 (F := Ideal) c i a2 h2 a3 h3 a4 h4 a5 h5 a6 h6 hc x g w)]
  unfold kernelRun0_A
  dsimp only
  sl_unfold_words
  rw [View.canon_unit_zero origin]
  simp only [View.readAt_eq_ld, h2.read_unread, h3.read_unread, View.ld_unit_zero (S := S512x2048) origin, View.ld_unit_zero (S := S1x2048) origin]

/-- And stores their product. -/
theorem first_stores (hc : cond0_0 i) :
    out0_A_3 (F := Ideal) c i a2 h2 a3 h3 a4 h4 a5 h5 a6 h6 hc x g w = k0_pay2 (F := Ideal) (k0_pay1 (F := Ideal) x g) w := by
  unfold out0_A_3
  rw [View.read_writes_eq_canon _ _ _ (cover0_A_3 (F := Ideal) c i a2 h2 a3 h3 a4 h4 a5 h5 a6 h6 hc x g w)]
  unfold kernelRun0_A
  dsimp only
  sl_unfold_words
  rw [View.canon_unit_zero origin]
  rw [View.readCov_unit_zero (S := S512x2048) _ origin]
  simp only [View.readAt_eq_ld, h2.read_unread, h3.read_unread, h4.read_unread, View.ld_unit_zero (S := S512x2048) origin,
    View.ld_unit_zero (S := S1x2048) origin, View.ld_unit_zero (S := S2048x896) origin]

/-- A later point stores the product of what is kept. -/
theorem later_stores (hc : ¬cond0_0 i) :
    out0_B_3 (F := Ideal) c i a2 h2 a3 h3 a4 h4 a5 h5 a6 h6 hc x g w s = k0_pay2 (F := Ideal) s w := by
  unfold out0_B_3
  rw [View.read_writes_eq_canon _ _ _ (cover0_B_3 (F := Ideal) c i a2 h2 a3 h3 a4 h4 a5 h5 a6 h6 hc x g w s)]
  unfold kernelRun0_B
  dsimp only
  sl_unfold_words
  rw [View.canon_unit_zero origin]
  simp only [View.readAt_eq_ld, h6.read_unread, h4.read_unread, View.ld_unit_zero (S := S512x2048) origin, View.ld_unit_zero (S := S2048x896) origin]

end Cases

section Array

variable (m : (ℓ : Loc nD τ sig) → Buf (Elt Ideal) ℓ) (c : Dev nD)

/-- The arrays that the region reads: the joined rows, the norm's weight as one row, the joined weight. -/
abbrev rows : S16896x2048.Idx → EReal := V m c main_v9
abbrev gain : S1x2048.Idx → EReal := V m c main_v12
abbrev weight : S2048x6272.Idx → EReal := V m c main_v8

/-- A row, normed. -/
def rowNormed (n : Fin 16896) (k : Fin 2048) : EReal := normed (fun k => rows m c (ix2 n k)) (fun k => gain m c (ix2 0 k)) k

/-- The projection at a row and a column. -/
def projAt (n : Fin 16896) (e : Fin 6272) : EReal := ∑ k : Fin 2048, rowNormed m c n k * weight m c (ix2 k e)

/-- The projection. -/
def proj : S16896x6272.Idx → EReal := fun i => projAt m c (i 0) (i 1)

theorem coord0 : ∀ t : Fin grid0.N, (grid0.coords t 0).val = t.val / 7 := by decide +kernel
theorem coord1 : ∀ t : Fin grid0.N, (grid0.coords t 1).val = t.val % 7 := by decide +kernel
theorem index0 (i : grid0.Coords) : cc0_transform_0 i = ![(i 0).val, 0] := by
  have h : (i 0).val < 33 := (i 0).isLt
  unfold cc0_transform_0
  simp [BitVec.toNat_ofNat]
  omega
theorem index1 (i : grid0.Coords) : cc0_transform_1 i = ![0, 0] := rfl
theorem index2 (i : grid0.Coords) : cc0_transform_2 i = ![0, (i 1).val] := by
  have h : (i 1).val < 7 := (i 1).isLt
  unfold cc0_transform_2
  simp [BitVec.toNat_ofNat]
  omega
theorem index3 (i : grid0.Coords) : cc0_transform_3 i = ![(i 0).val, (i 1).val] := by
  have h0 : (i 0).val < 33 := (i 0).isLt
  have h : (i 1).val < 7 := (i 1).isLt
  unfold cc0_transform_3
  simp [BitVec.toNat_ofNat]
  omega

theorem points : cfg0.N = 231 := N_0

/-- The row of a point's row block. -/
def rowOf (n : ℕ) (hn : n < cfg0.N) (p : Fin 512) : Fin 16896 := ⟨n / 7 * 512 + p.val, by have := points; have := p.isLt; omega⟩

/-- The column of a point's column block. -/
def colOf (t : Fin cfg0.N) (e : Fin 896) : Fin 6272 := ⟨t.val % 7 * 896 + e.val, by have := e.isLt; omega⟩

/-- The rows' block at a point. -/
theorem block_rows (t : Fin cfg0.N) (p : Fin 512) (k : Fin 2048) : iblk m c 0 t (ix2 p k) = rows m c (ix2 (rowOf t.val t.isLt p) k) := by
  unfold iblk
  rw [View.read_apply]
  show rows m c _ = rows m c _
  refine congrArg _ (funext fun a => Fin.ext ?_)
  have hb := Window.rect_emb_val (cfg0.win 0) t (ix2 p k) a
  have hi := congrFun (index0 (grid0.coords t)) a
  refine (hb.trans (congrArg (fun n => n * (cfg0.win 0).size a + (ix2 p k a : ℕ)) hi)).trans ?_
  have hc : (grid0.coords t 0).val = t.val / 7 := coord0 t
  fin_cases a
  · show (grid0.coords t 0).val * 512 + p.val = t.val / 7 * 512 + p.val
    omega
  · show 0 * 2048 + k.val = k.val
    omega

/-- The norm's weight at a point. -/
theorem block_gain (t : Fin cfg0.N) (k : Fin 2048) : iblk m c 1 t (ix2 0 k) = gain m c (ix2 0 k) := by
  unfold iblk
  rw [View.read_apply]
  show gain m c _ = gain m c _
  refine congrArg _ (funext fun a => Fin.ext ?_)
  have hb := Window.rect_emb_val (cfg0.win 1) t (ix2 0 k) a
  have hi := congrFun (index1 (grid0.coords t)) a
  refine (hb.trans (congrArg (fun n => n * (cfg0.win 1).size a + (ix2 0 k a : ℕ)) hi)).trans ?_
  fin_cases a
  · rfl
  · show 0 * 2048 + k.val = k.val
    omega

/-- The weight's block at a point. -/
theorem block_weight (t : Fin cfg0.N) (k : Fin 2048) (e : Fin 896) : iblk m c 2 t (ix2 k e) = weight m c (ix2 k (colOf t e)) := by
  unfold iblk
  rw [View.read_apply]
  show weight m c _ = weight m c _
  refine congrArg _ (funext fun a => Fin.ext ?_)
  have hb := Window.rect_emb_val (cfg0.win 2) t (ix2 k e) a
  have hi := congrFun (index2 (grid0.coords t)) a
  refine (hb.trans (congrArg (fun n => n * (cfg0.win 2).size a + (ix2 k e a : ℕ)) hi)).trans ?_
  have hc : (grid0.coords t 1).val = t.val % 7 := coord1 t
  fin_cases a
  · show 0 * 2048 + k.val = k.val
    omega
  · show (grid0.coords t 1).val * 896 + e.val = t.val % 7 * 896 + e.val
    omega

/-- What a block's first point keeps, at an entry. -/
theorem kept_block (t : Fin cfg0.N) (p : Fin 512) (k : Fin 2048) :
    k0_pay1 (F := Ideal) (iblk m c 0 t) (iblk m c 1 t) (ix2 p k) = rowNormed m c (rowOf t.val t.isLt p) k := by
  refine (kept_apply _ _ p k).trans ?_
  unfold rowNormed
  exact congrArg₂ (fun x g => normed x g k) (funext fun k => block_rows m c t p k) (funext fun k => block_gain m c t k)

/-- A block's first point stores this. -/
theorem first_point_stores (t : Fin cfg0.N) (h0 : t.val % 7 = 0) :
    (outsAt0 m c t.val t.isLt).1 = k0_pay2 (F := Ideal) (k0_pay1 (F := Ideal) (iblk m c 0 t) (iblk m c 1 t)) (iblk m c 2 t) := by
  rw [outsAt0_A m c t h0]
  dsimp only
  rw [first_stores]

/-- And keeps this. -/
theorem first_point_keeps (t : Fin cfg0.N) (h0 : t.val % 7 = 0) :
    (outsAt0 m c t.val t.isLt).2 = k0_pay1 (F := Ideal) (iblk m c 0 t) (iblk m c 1 t) := by
  rw [outsAt0_A m c t h0]
  dsimp only
  rw [first_keeps]

/-- A later point stores this. -/
theorem later_point_stores (t : Fin cfg0.N) (h0 : ¬t.val % 7 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  dsimp only
  rw [later_stores]

/-- And keeps what it finds. -/
theorem later_point_keeps (t : Fin cfg0.N) (h0 : ¬t.val % 7 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After every point the scratch buffer holds the normed rows of the point's row block. -/
theorem carried (n : ℕ) (hn : n < cfg0.N) (p : Fin 512) (k : Fin 2048) :
    (outsAt0 m c n hn).2 (ix2 p k) = rowNormed m c (rowOf n hn p) k := by
  induction n with
  | zero => exact (congrFun (first_point_keeps m c ⟨0, hn⟩ (Nat.zero_mod 7)) _).trans (kept_block m c ⟨0, hn⟩ p k)
  | succ n ih =>
    by_cases h0 : (n + 1) % 7 = 0
    · exact (congrFun (first_point_keeps m c ⟨n + 1, hn⟩ h0) _).trans (kept_block m c ⟨n + 1, hn⟩ p k)
    · refine (congrFun (later_point_keeps m c ⟨n + 1, hn⟩ h0) _).trans ((ih (Nat.lt_of_succ_lt hn)).trans ?_)
      refine congrArg (fun r => rowNormed m c r k) (Fin.ext ?_)
      show n / 7 * 512 + p.val = (n + 1) / 7 * 512 + p.val
      omega

/-- What a point leaves in its block. -/
theorem left_block (t : Fin cfg0.N) (p : Fin 512) (e : Fin 896) :
    (outsAt0 m c t.val t.isLt).1 (ix2 p e) = projAt m c (rowOf t.val t.isLt p) (colOf t e) := by
  have key : ∀ h : S512x2048.Idx → EReal, (∀ k, h (ix2 p k) = rowNormed m c (rowOf t.val t.isLt p) k) →
      k0_pay2 (F := Ideal) h (iblk m c 2 t) (ix2 p e) = projAt m c (rowOf t.val t.isLt p) (colOf t e) := fun h hh => by
    refine (product_apply _ _ p e).trans ?_
    unfold projAt
    exact Finset.sum_congr rfl fun k _ => congrArg₂ (· * ·) (hh k) (block_weight m c t k e)
  by_cases h0 : t.val % 7 = 0
  · exact (congrFun (first_point_stores m c t h0) _).trans (key _ fun k => kept_block m c t p k)
  · refine (congrFun (later_point_stores m c t h0) _).trans (key _ fun k => ?_)
    refine (carried m c (t.val - 1) (Nat.lt_of_le_of_lt (Nat.sub_le _ _) t.isLt) p k).trans ?_
    refine congrArg (fun r => rowNormed m c r k) (Fin.ext ?_)
    show (t.val - 1) / 7 * 512 + p.val = t.val / 7 * 512 + p.val
    omega

/-- An index of the projection is in the block of its row's and column's point. -/
theorem mem_block (t : Fin cfg0.N) (i : S16896x6272.Idx) (h0 : (i 0 : ℕ) / 512 = t.val / 7) (h1 : (i 1 : ℕ) / 896 = t.val % 7) :
    i ∈ ((cfg0.win 3).blk t).view.set := by
  show i ∈ ((View.whole main_v13).slice ((cfg0.win 3).rect t)).set
  rw [View.set_slice_whole, Window.mem_rect_iff (cfg0.win 3) t i rfl]
  intro a
  have hx : (cfg0.win 3).index t a = (![(grid0.coords t 0).val, (grid0.coords t 1).val] : Fin 2 → ℕ) a := congrFun (index3 (grid0.coords t)) a
  have hc0 : (grid0.coords t 0).val = t.val / 7 := coord0 t
  have hc1 : (grid0.coords t 1).val = t.val % 7 := coord1 t
  rw [hx]
  fin_cases a
  · show (grid0.coords t 0).val * 512 ≤ (i 0 : ℕ) ∧ (i 0 : ℕ) < (grid0.coords t 0).val * 512 + 512
    omega
  · show (grid0.coords t 1).val * 896 ≤ (i 1 : ℕ) ∧ (i 1 : ℕ) < (grid0.coords t 1).val * 896 + 896
    omega

/-- The points' blocks cover the projection. -/
theorem cover (i : S16896x6272.Idx) : ∃ t : Fin cfg0.N, (cfg0.win 3).flush t = true ∧ i ∈ ((cfg0.win 3).blk t).view.set := by
  have h0 : (i 0 : ℕ) < 16896 := (i 0).isLt
  have h1 : (i 1 : ℕ) < 6272 := (i 1).isLt
  have hN := points
  exact ⟨⟨(i 0 : ℕ) / 512 * 7 + (i 1 : ℕ) / 896, by omega⟩, flush0_3 _, mem_block _ i (by dsimp only; omega) (by dsimp only; omega)⟩

/-- A point's block of the projection. -/
theorem proj_block (t : Fin cfg0.N) (p : Fin 512) (e : Fin 896) :
    ((cfg0.win 3).blk t).view.read (Elt Ideal) (proj m c) (ix2 p e) = projAt m c (rowOf t.val t.isLt p) (colOf t e) := by
  rw [View.read_apply]
  show proj m c _ = proj m c (ix2 (rowOf t.val t.isLt p) (colOf t e))
  refine congrArg _ (funext fun a => Fin.ext ?_)
  have hb := Window.rect_emb_val (cfg0.win 3) t (ix2 p e) a
  have hi := congrFun (index3 (grid0.coords t)) a
  refine (hb.trans (congrArg (fun n => n * (cfg0.win 3).size a + (ix2 p e a : ℕ)) hi)).trans ?_
  have hc0 : (grid0.coords t 0).val = t.val / 7 := coord0 t
  have hc1 : (grid0.coords t 1).val = t.val % 7 := coord1 t
  fin_cases a
  · show (grid0.coords t 0).val * 512 + p.val = t.val / 7 * 512 + p.val
    omega
  · show (grid0.coords t 1).val * 896 + e.val = t.val % 7 * 896 + e.val
    omega

/-- The call leaves the projection. -/
theorem array_left : (dats m 0 c).arrAt 3 cfg0.N = proj m c := by
  refine (dats m 0 c).arrAt_eq_of_cover 3 (proj m c) (fun t _ => ?_) cover
  show (cfg0.win 3).cut (grid0.coords t) ((dats m 0 c).after 3 t) = _
  rw [after0_3]
  funext j
  obtain ⟨p, e, rfl⟩ : ∃ p e, j = ix2 p e := ⟨j 0, j 1, eq_ix2 j⟩
  refine Eq.trans ?_ (proj_block m c t p e).symm
  exact left_block m c t p e

end Array

end Cert.BandCacheIdeal.Band

end
-- ==== Proof.BandCacheValue.lean ====
/-
  THE GATED LAYERS' CACHES. The projection that the call leaves, cut into the last 512 positions' keys and values, and the
  samples' rows appended to the caches, are what the reference leaves.
-/
module

public import proofs.«01_k».proof.Defs
public import proofs.«01_k».proof.Proof.BandArray
public import proofs.«01_k».proof.Proof.Gen.BandCacheReferenceIdeal.Run
public import proofs.«01_k».proof.Proof.Gen.BandCacheReferenceIdeal.Read
public import Idealize.ShloMosaic.Adequacy
public import Idealize.ShloMosaic.Init
public import Idealize.ShloMosaic.Lib.Pointwise

@[expose] public section

set_option maxRecDepth 16384

noncomputable section

namespace Cert.BandCacheIdeal.Band

open Cert.BandCacheIdeal Cert.BandCacheIdeal.Gen
open Idealize.ShloMosaic Idealize.ShloMosaic.TcCoe Idealize.SL.Sem
open Idealize.ShloMosaic.Pipeline (Dat Window)
open Cert.Norm
open scoped BigOperators

/-- A row, normed, times a column of the weight. -/
def keyAt (x : Fin 2048 → EReal) (g : S2x2048.Idx → EReal) (w : S1x2048x6160.Idx → EReal) (e : Fin 6160) : EReal :=
  ∑ k : Fin 2048, normed x (fun k => g (ix2 0 k)) k * w (ix3 0 k e)

section Reference

open Cert.BandCacheReferenceIdeal.Read

variable (x : S2x8192x2048.Idx → EReal) (y : S16x32x2048.Idx → EReal) (u : S1x16x512x8x128.Idx → EReal)
  (g : S2x2048.Idx → EReal) (w : S1x2048x6160.Idx → EReal)

/-- The position that a place of a prompt's cache is. -/
def lastPos (r : Fin 512) : Fin 8192 := ⟨7680 + r.val, by have := r.isLt; omega⟩

/-- The reference's columns of the keys and of the values. -/
def refCol (n : ℕ) (hn : n ≤ 5136) (h : Fin 8) (d : Fin 128) : Fin 6160 :=
  ⟨n + (h.val * 128 + d.val), by have := h.isLt; have := d.isLt; omega⟩

/-- The reference's keys of a prompt. -/
theorem ref_prompt_keys (b : Fin 2) (r : Fin 512) (h : Fin 8) (d : Fin 128) :
    val_main_v47 (F := Ideal) x g w (ix5 0 b r h d) = keyAt (fun k => x (ix3 b (lastPos r) k)) g w (refCol 4112 (by omega) h d) := by
  rw [← val_main_v47_eq]
  pointwise []
  rfl

/-- The reference's values of a prompt. -/
theorem ref_prompt_values (b : Fin 2) (r : Fin 512) (h : Fin 8) (d : Fin 128) :
    val_main_v49 (F := Ideal) x g w (ix5 0 b r h d) = keyAt (fun k => x (ix3 b (lastPos r) k)) g w (refCol 5136 (by omega) h d) := by
  rw [← val_main_v49_eq]
  pointwise []
  rfl

/-- The reference's keys of a sample: the cache's older places, then the sample's rows. -/
theorem ref_sample_keys (b : Fin 16) (r : Fin 512) (h : Fin 8) (d : Fin 128) :
    val_main_v51 (F := Ideal) y u g w (ix5 0 b r h d)
      = if hr : 32 + r.val < 512 then u (ix5 0 b ⟨32 + r.val, hr⟩ h d)
        else keyAt (fun k => y (ix3 b ⟨32 + r.val - 512, by have := r.isLt; omega⟩ k)) g w (refCol 4112 (by omega) h d) := by
  rw [← val_main_v51_eq]
  pointwise []
  rfl

/-- The reference's values of a sample: the cache's older places, then the sample's rows. -/
theorem ref_sample_values (b : Fin 16) (r : Fin 512) (h : Fin 8) (d : Fin 128) :
    val_main_v53 (F := Ideal) y u g w (ix5 0 b r h d)
      = if hr : 32 + r.val < 512 then u (ix5 0 b ⟨32 + r.val, hr⟩ h d)
        else keyAt (fun k => y (ix3 b ⟨32 + r.val - 512, by have := r.isLt; omega⟩ k)) g w (refCol 5136 (by omega) h d) := by
  rw [← val_main_v53_eq]
  pointwise []
  rfl

end Reference

section Cuts

variable (z : S16896x6272.Idx → EReal) (u : S1x16x512x8x128.Idx → EReal)

/-- The prompts' keys, cut from the projection. -/
def promptKeys : S1x2x512x8x128.Idx → EReal :=
  broadcastInDim S1x2x512x8x128 ![1, 2, 3, 4] bcast_S2x512x8x128_S1x2x512x8x128_1_2_3_4
    (shapeCast S2x512x8x128 (extf (F := Ideal) .f32 (concatenate S2x512x1024 0
      [⟨S1x512x1024, broadcastInDim S1x512x1024 ![1, 2] bcast_S512x1024_S1x512x1024_1_2
          (extractStridedSlice S512x1024 ![7680, 4096] (z : FVec Ideal S16896x6272 .bf16) slices_S16896x6272_S512x1024_7680_4096)⟩,
       ⟨S1x512x1024, broadcastInDim S1x512x1024 ![1, 2] bcast_S512x1024_S1x512x1024_1_2
          (extractStridedSlice S512x1024 ![15872, 4096] (z : FVec Ideal S16896x6272 .bf16) slices_S16896x6272_S512x1024_15872_4096)⟩]
      concatenates_S1x512x1024_S1x512x1024_S2x512x1024_d0) bitsLt_bf16_f32) shapeCasts_S2x512x1024_S2x512x8x128)

/-- The samples' keys: the cache and the rows cut from the projection, the oldest places dropped. -/
def sampleKeys : S1x16x512x8x128.Idx → EReal :=
  broadcastInDim S1x16x512x8x128 ![1, 2, 3, 4] bcast_S16x512x8x128_S1x16x512x8x128_1_2_3_4
    (extractStridedSlice S16x512x8x128 ![0, 32, 0, 0] (concatenate S16x544x8x128 1
      [⟨S16x512x8x128, shapeCast S16x512x8x128 u shapeCasts_S1x16x512x8x128_S16x512x8x128⟩,
       ⟨S16x32x8x128, shapeCast S16x32x8x128 (extf (F := Ideal) .f32
          (extractStridedSlice S512x1024 ![16384, 4096] (z : FVec Ideal S16896x6272 .bf16) slices_S16896x6272_S512x1024_16384_4096)
          bitsLt_bf16_f32) shapeCasts_S512x1024_S16x32x8x128⟩]
      concatenates_S16x512x8x128_S16x32x8x128_S16x544x8x128_d1) slices_S16x544x8x128_S16x512x8x128_0_32_0_0)

/-- The prompts' values, cut from the projection. -/
def promptValues : S1x2x512x8x128.Idx → EReal :=
  broadcastInDim S1x2x512x8x128 ![1, 2, 3, 4] bcast_S2x512x8x128_S1x2x512x8x128_1_2_3_4
    (shapeCast S2x512x8x128 (extf (F := Ideal) .f32 (concatenate S2x512x1024 0
      [⟨S1x512x1024, broadcastInDim S1x512x1024 ![1, 2] bcast_S512x1024_S1x512x1024_1_2
          (extractStridedSlice S512x1024 ![7680, 5120] (z : FVec Ideal S16896x6272 .bf16) slices_S16896x6272_S512x1024_7680_5120)⟩,
       ⟨S1x512x1024, broadcastInDim S1x512x1024 ![1, 2] bcast_S512x1024_S1x512x1024_1_2
          (extractStridedSlice S512x1024 ![15872, 5120] (z : FVec Ideal S16896x6272 .bf16) slices_S16896x6272_S512x1024_15872_5120)⟩]
      concatenates_S1x512x1024_S1x512x1024_S2x512x1024_d0) bitsLt_bf16_f32) shapeCasts_S2x512x1024_S2x512x8x128)

/-- The samples' values: the cache and the rows cut from the projection, the oldest places dropped. -/
def sampleValues : S1x16x512x8x128.Idx → EReal :=
  broadcastInDim S1x16x512x8x128 ![1, 2, 3, 4] bcast_S16x512x8x128_S1x16x512x8x128_1_2_3_4
    (extractStridedSlice S16x512x8x128 ![0, 32, 0, 0] (concatenate S16x544x8x128 1
      [⟨S16x512x8x128, shapeCast S16x512x8x128 u shapeCasts_S1x16x512x8x128_S16x512x8x128⟩,
       ⟨S16x32x8x128, shapeCast S16x32x8x128 (extf (F := Ideal) .f32
          (extractStridedSlice S512x1024 ![16384, 5120] (z : FVec Ideal S16896x6272 .bf16) slices_S16896x6272_S512x1024_16384_5120)
          bitsLt_bf16_f32) shapeCasts_S512x1024_S16x32x8x128⟩]
      concatenates_S16x512x8x128_S16x32x8x128_S16x544x8x128_d1) slices_S16x544x8x128_S16x512x8x128_0_32_0_0)

/-- The rows of the projection that are a prompt's position, and a sample's. -/
def promptRow (b : Fin 2) (r : Fin 512) : Fin 16896 := ⟨b.val * 8192 + (7680 + r.val), by have := b.isLt; have := r.isLt; omega⟩
def sampleRow (b : Fin 16) (r : Fin 32) : Fin 16896 := ⟨16384 + (b.val * 32 + r.val), by have := b.isLt; have := r.isLt; omega⟩

/-- The projection's columns of the keys and of the values. -/
def cutCol (n : ℕ) (hn : n ≤ 5120) (h : Fin 8) (d : Fin 128) : Fin 6272 :=
  ⟨n + (h.val * 128 + d.val), by have := h.isLt; have := d.isLt; omega⟩

theorem promptKeys_apply (b : Fin 2) (r : Fin 512) (h : Fin 8) (d : Fin 128) :
    promptKeys z (ix5 0 b r h d) = z (ix2 (promptRow b r) (cutCol 4096 (by omega) h d)) := by
  unfold promptKeys
  pointwise []
  have hb := b.isLt
  split
  · refine congrArg z (congrArg₂ ix2 (Fin.ext ?_) rfl)
    show 7680 + r.val = b.val * 8192 + (7680 + r.val)
    omega
  · refine congrArg z (congrArg₂ ix2 (Fin.ext ?_) rfl)
    show 15872 + r.val = b.val * 8192 + (7680 + r.val)
    omega

theorem sampleKeys_apply (b : Fin 16) (r : Fin 512) (h : Fin 8) (d : Fin 128) :
    sampleKeys z u (ix5 0 b r h d)
      = if hr : 32 + r.val < 512 then u (ix5 0 b ⟨32 + r.val, hr⟩ h d)
        else z (ix2 (sampleRow b ⟨32 + r.val - 512, by have := r.isLt; omega⟩) (cutCol 4096 (by omega) h d)) := by
  unfold sampleKeys
  pointwise []
  rfl

theorem promptValues_apply (b : Fin 2) (r : Fin 512) (h : Fin 8) (d : Fin 128) :
    promptValues z (ix5 0 b r h d) = z (ix2 (promptRow b r) (cutCol 5120 (by omega) h d)) := by
  unfold promptValues
  pointwise []
  have hb := b.isLt
  split
  · refine congrArg z (congrArg₂ ix2 (Fin.ext ?_) rfl)
    show 7680 + r.val = b.val * 8192 + (7680 + r.val)
    omega
  · refine congrArg z (congrArg₂ ix2 (Fin.ext ?_) rfl)
    show 15872 + r.val = b.val * 8192 + (7680 + r.val)
    omega

theorem sampleValues_apply (b : Fin 16) (r : Fin 512) (h : Fin 8) (d : Fin 128) :
    sampleValues z u (ix5 0 b r h d)
      = if hr : 32 + r.val < 512 then u (ix5 0 b ⟨32 + r.val, hr⟩ h d)
        else z (ix2 (sampleRow b ⟨32 + r.val - 512, by have := r.isLt; omega⟩) (cutCol 5120 (by omega) h d)) := by
  unfold sampleValues
  pointwise []
  rfl

end Cuts

section Joined

variable (x : S2x8192x2048.Idx → EReal) (y : S16x32x2048.Idx → EReal) (g : S2x2048.Idx → EReal) (w : S1x2048x6160.Idx → EReal)

/-- The rows joined, the norm's weight as a row, the projection's weight with its columns moved. -/
def joinedRows : S16896x2048.Idx → EReal :=
  concatenate S16896x2048 0 [⟨S16384x2048, shapeCast S16384x2048 x shapeCasts_S2x8192x2048_S16384x2048⟩,
    ⟨S512x2048, shapeCast S512x2048 y shapeCasts_S16x32x2048_S512x2048⟩] concatenates_S16384x2048_S512x2048_S16896x2048_d0
def gainRow : S1x2048.Idx → EReal :=
  shapeCast S1x2048 (shapeCast S2048 (extractStridedSlice S1x2048 ![0, 0] g slices_S2x2048_S1x2048_0_0) shapeCasts_S1x2048_S2048) shapeCasts_S2048_S1x2048
def movedWeight : S2048x6272.Idx → EReal :=
  truncf (F := Ideal) .bf16 (concatenate S2048x6272 1
    [⟨S2048x3072, extractStridedSlice S2048x3072 ![0, 0] (shapeCast S2048x6160 w shapeCasts_S1x2048x6160_S2048x6160) slices_S2048x6160_S2048x3072_0_0⟩,
     ⟨S2048x3072, extractStridedSlice S2048x3072 ![0, 3088] (shapeCast S2048x6160 w shapeCasts_S1x2048x6160_S2048x6160) slices_S2048x6160_S2048x3072_0_3088⟩,
     ⟨S2048x16, extractStridedSlice S2048x16 ![0, 3072] (shapeCast S2048x6160 w shapeCasts_S1x2048x6160_S2048x6160) slices_S2048x6160_S2048x16_0_3072⟩,
     ⟨S2048x112, broadcastInDim S2048x112 ![] bcast_S_S2048x112 (constant (F := Ideal) S_ .f32 0x00000000#32)⟩]
    concatenates_S2048x3072_S2048x3072_S2048x16_S2048x112_S2048x6272_d1 : FVec Ideal S2048x6272 .f32) bitsLt_bf16_f32

theorem joinedRows_prompt (b : Fin 2) (r : Fin 512) (k : Fin 2048) : joinedRows x y (ix2 (promptRow b r) k) = x (ix3 b (lastPos r) k) := by
  unfold joinedRows
  pointwise []
  have hb := b.isLt
  have hr := r.isLt
  rw [dif_pos (show (promptRow b r).val < 16384 by show b.val * 8192 + (7680 + r.val) < 16384; omega)]
  refine congrArg x (congrArg₂ (fun b s => ix3 b s k) (Fin.ext ?_) (Fin.ext ?_))
  · show (b.val * 8192 + (7680 + r.val)) / 8192 = b.val
    omega
  · show (b.val * 8192 + (7680 + r.val)) % 8192 = 7680 + r.val
    omega

theorem joinedRows_sample (b : Fin 16) (r : Fin 32) (k : Fin 2048) : joinedRows x y (ix2 (sampleRow b r) k) = y (ix3 b r k) := by
  unfold joinedRows
  pointwise []
  have hb := b.isLt
  have hr := r.isLt
  rw [dif_neg (show ¬(sampleRow b r).val < 16384 by show ¬16384 + (b.val * 32 + r.val) < 16384; omega)]
  refine congrArg y (congrArg₂ (fun b s => ix3 b s k) (Fin.ext ?_) (Fin.ext ?_))
  · show (16384 + (b.val * 32 + r.val) - 16384) / 32 = b.val
    omega
  · show (16384 + (b.val * 32 + r.val) - 16384) % 32 = r.val
    omega

theorem gainRow_apply (k : Fin 2048) : gainRow g (ix2 0 k) = g (ix2 0 k) := by
  unfold gainRow
  pointwise []

/-- A column of the keys or values of the moved weight is the reference's column. -/
theorem movedWeight_apply (k : Fin 2048) (e : Fin 6272) (e' : Fin 6160) (h0 : 3072 ≤ e.val) (h1 : e.val < 6144) (he : e'.val = e.val + 16) :
    movedWeight w (ix2 k e) = w (ix3 0 k e') := by
  unfold movedWeight
  pointwise []
  rw [dif_neg (by omega), dif_pos (by omega)]
  refine congrArg w (congrArg (fun e => ix3 0 k e) (Fin.ext ?_))
  show 3088 + (e.val - 3072) = e'.val
  omega

end Joined

section Array

variable (m : (ℓ : Loc nD τ sig) → Buf (Elt Ideal) ℓ) (c : Dev nD)

/-- A device's arguments. -/
abbrev prompt : S2x8192x2048.Idx → EReal := m ((c : Thread nD τ).loc main_arg0)
abbrev sample : S16x32x2048.Idx → EReal := m ((c : Thread nD τ).loc main_arg1)
abbrev keyCache : S1x16x512x8x128.Idx → EReal := m ((c : Thread nD τ).loc main_arg2)
abbrev valueCache : S1x16x512x8x128.Idx → EReal := m ((c : Thread nD τ).loc main_arg3)
abbrev norms : S2x2048.Idx → EReal := m ((c : Thread nD τ).loc main_arg4)
abbrev weights : S1x2048x6160.Idx → EReal := m ((c : Thread nD τ).loc main_arg5)

theorem rows_eq : rows m c = joinedRows (prompt m c) (sample m c) := by
  show StableHlo.after hostOps0 _ _ = _
  after_results
  rfl

theorem gain_eq : gain m c = gainRow (norms m c) := by
  show StableHlo.after hostOps0 _ _ = _
  after_results
  rfl

theorem weight_eq : weight m c = movedWeight (weights m c) := by
  show StableHlo.after hostOps0 _ _ = _
  after_results
  rfl

/-- The projection at a prompt's position. -/
theorem proj_prompt (b : Fin 2) (r : Fin 512) (h : Fin 8) (d : Fin 128) (n n' : ℕ) (hn : n ≤ 5120) (hn' : n' ≤ 5136) (h0 : 3072 ≤ n) (he : n' = n + 16) :
    proj m c (ix2 (promptRow b r) (cutCol n hn h d)) = keyAt (fun k => prompt m c (ix3 b (lastPos r) k)) (norms m c) (weights m c) (refCol n' hn' h d) := by
  show projAt m c (promptRow b r) (cutCol n hn h d) = _
  have hh := h.isLt
  have hd := d.isLt
  unfold projAt keyAt rowNormed
  refine Finset.sum_congr rfl fun k _ => congrArg₂ (· * ·) ?_ ?_
  · refine congrArg₂ (fun x g => normed x g k) (funext fun k => ?_) (funext fun k => ?_)
    · rw [rows_eq]; exact joinedRows_prompt _ _ b r k
    · rw [gain_eq]; exact gainRow_apply _ k
  · rw [weight_eq]
    refine movedWeight_apply _ k _ _ ?_ ?_ ?_
    · show 3072 ≤ n + (h.val * 128 + d.val)
      omega
    · show n + (h.val * 128 + d.val) < 6144
      omega
    · show n' + (h.val * 128 + d.val) = n + (h.val * 128 + d.val) + 16
      omega

/-- The projection at a sample's position. -/
theorem proj_sample (b : Fin 16) (r : Fin 32) (h : Fin 8) (d : Fin 128) (n n' : ℕ) (hn : n ≤ 5120) (hn' : n' ≤ 5136) (h0 : 3072 ≤ n) (he : n' = n + 16) :
    proj m c (ix2 (sampleRow b r) (cutCol n hn h d)) = keyAt (fun k => sample m c (ix3 b r k)) (norms m c) (weights m c) (refCol n' hn' h d) := by
  show projAt m c (sampleRow b r) (cutCol n hn h d) = _
  have hh := h.isLt
  have hd := d.isLt
  unfold projAt keyAt rowNormed
  refine Finset.sum_congr rfl fun k _ => congrArg₂ (· * ·) ?_ ?_
  · refine congrArg₂ (fun x g => normed x g k) (funext fun k => ?_) (funext fun k => ?_)
    · rw [rows_eq]; exact joinedRows_sample _ _ b r k
    · rw [gain_eq]; exact gainRow_apply _ k
  · rw [weight_eq]
    refine movedWeight_apply _ k _ _ ?_ ?_ ?_
    · show 3072 ≤ n + (h.val * 128 + d.val)
      omega
    · show n + (h.val * 128 + d.val) < 6144
      omega
    · show n' + (h.val * 128 + d.val) = n + (h.val * 128 + d.val) + 16
      omega

theorem afterRegion_proj : Pipeline.withArrays (cfgs 0).spec c (V0 m c) (fun w => (dats m 0 c).arrAt w (cfgs 0).N) (Proc.devRef .tc main_v13) = proj m c :=
  (Pipeline.withArrays_arr spec0 (by decide) c (V0 m c) _ 3).trans (array_left m c)

theorem afterRegion_keys : Pipeline.withArrays (cfgs 0).spec c (V0 m c) (fun w => (dats m 0 c).arrAt w (cfgs 0).N) (Proc.devRef .tc main_arg2) = keyCache m c :=
  (Pipeline.withArrays_of_ne spec0 c (V0 m c) _ main_arg2 (by decide)).trans (V_main_arg2 m c)

theorem afterRegion_values : Pipeline.withArrays (cfgs 0).spec c (V0 m c) (fun w => (dats m 0 c).arrAt w (cfgs 0).N) (Proc.devRef .tc main_arg3) = valueCache m c :=
  (Pipeline.withArrays_of_ne spec0 c (V0 m c) _ main_arg3 (by decide)).trans (V_main_arg3 m c)

theorem left_promptKeys : Pipeline.afterTail₀ cfgs (dats m) 0 (V0 m) [hostOps1] c main_v21 = promptKeys (proj m c) := by
  unfold Pipeline.afterTail₀
  show StableHlo.after hostOps1 _ _ = _
  after_results
  rw [afterRegion_proj]
  rfl

theorem left_promptValues : Pipeline.afterTail₀ cfgs (dats m) 0 (V0 m) [hostOps1] c main_v29 = promptValues (proj m c) := by
  unfold Pipeline.afterTail₀
  show StableHlo.after hostOps1 _ _ = _
  after_results
  rw [afterRegion_proj]
  rfl

theorem left_sampleKeys : Pipeline.afterTail₀ cfgs (dats m) 0 (V0 m) [hostOps1] c main_v39 = sampleKeys (proj m c) (keyCache m c) := by
  unfold Pipeline.afterTail₀
  show StableHlo.after hostOps1 _ _ = _
  after_results
  rw [afterRegion_proj, afterRegion_keys]
  rfl

theorem left_sampleValues : Pipeline.afterTail₀ cfgs (dats m) 0 (V0 m) [hostOps1] c main_v43 = sampleValues (proj m c) (valueCache m c) := by
  unfold Pipeline.afterTail₀
  show StableHlo.after hostOps1 _ _ = _
  after_results
  rw [afterRegion_proj, afterRegion_values]
  rfl

section Equal

open Cert.BandCacheReferenceIdeal.Read

theorem promptKeys_eq : promptKeys (proj m c) = val_main_v47 (F := Ideal) (prompt m c) (norms m c) (weights m c) := by
  funext i
  obtain ⟨a, b, r, h, d, rfl⟩ : ∃ a b r h d, i = ix5 a b r h d := ⟨i 0, i 1, i 2, i 3, i 4, eq_ix5 i⟩
  obtain rfl : a = 0 := Subsingleton.elim _ _
  exact (promptKeys_apply _ b r h d).trans ((proj_prompt m c b r h d _ _ _ _ (by omega) rfl).trans (ref_prompt_keys _ _ _ b r h d).symm)

theorem promptValues_eq : promptValues (proj m c) = val_main_v49 (F := Ideal) (prompt m c) (norms m c) (weights m c) := by
  funext i
  obtain ⟨a, b, r, h, d, rfl⟩ : ∃ a b r h d, i = ix5 a b r h d := ⟨i 0, i 1, i 2, i 3, i 4, eq_ix5 i⟩
  obtain rfl : a = 0 := Subsingleton.elim _ _
  exact (promptValues_apply _ b r h d).trans ((proj_prompt m c b r h d _ _ _ _ (by omega) rfl).trans (ref_prompt_values _ _ _ b r h d).symm)

theorem sampleKeys_eq : sampleKeys (proj m c) (keyCache m c) = val_main_v51 (F := Ideal) (sample m c) (keyCache m c) (norms m c) (weights m c) := by
  funext i
  obtain ⟨a, b, r, h, d, rfl⟩ : ∃ a b r h d, i = ix5 a b r h d := ⟨i 0, i 1, i 2, i 3, i 4, eq_ix5 i⟩
  obtain rfl : a = 0 := Subsingleton.elim _ _
  refine (sampleKeys_apply _ _ b r h d).trans (Eq.trans ?_ (ref_sample_keys _ _ _ _ b r h d).symm)
  exact dite_congr rfl (fun _ => rfl) (fun _ => proj_sample m c b _ h d _ _ _ _ (by omega) rfl)

theorem sampleValues_eq : sampleValues (proj m c) (valueCache m c) = val_main_v53 (F := Ideal) (sample m c) (valueCache m c) (norms m c) (weights m c) := by
  funext i
  obtain ⟨a, b, r, h, d, rfl⟩ : ∃ a b r h d, i = ix5 a b r h d := ⟨i 0, i 1, i 2, i 3, i 4, eq_ix5 i⟩
  obtain rfl : a = 0 := Subsingleton.elim _ _
  refine (sampleValues_apply _ _ b r h d).trans (Eq.trans ?_ (ref_sample_values _ _ _ _ b r h d).symm)
  exact dite_congr rfl (fun _ => rfl) (fun _ => proj_sample m c b _ h d _ _ _ _ (by omega) rfl)

end Equal

end Array

/-- The reference runs. -/
theorem frame_reference : Cert.quiescent_BandCacheReferenceIdeal := fun m g _ =>
  (θ_run Cert.BandCacheReferenceIdeal.defs _ _).mono (fun r hr => ⟨fun c => (hr c).2.2.2.2, sem_eq_zero_of_no_sems (by decide) r.2⟩)
    (Cert.BandCacheReferenceIdeal.Value.run (F := Ideal) m g)

/-- The caches the kernel leaves. -/
theorem left (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v21) = promptKeys (proj m c)
      ∧ r.2.mem ((c.tc : Thread nD τ).loc main_v29) = promptValues (proj m c)
      ∧ r.2.mem ((c.tc : Thread nD τ).loc main_v39) = sampleKeys (proj m c) (keyCache m c)
      ∧ r.2.mem ((c.tc : Thread nD τ).loc main_v43) = sampleValues (proj m c) (valueCache m c)) :=
  (θ_run defs _ _).mono (fun _ h c =>
    ⟨((h c).2 main_v21 (Pipeline.mem_restRefs_of main_v21 (by decide) (by decide))).trans (left_promptKeys m c),
     ((h c).2 main_v29 (Pipeline.mem_restRefs_of main_v29 (by decide) (by decide))).trans (left_promptValues m c),
     ((h c).2 main_v39 (Pipeline.mem_restRefs_of main_v39 (by decide) (by decide))).trans (left_sampleKeys m c),
     ((h c).2 main_v43 (Pipeline.mem_restRefs_of main_v43 (by decide) (by decide))).trans (left_sampleValues m c)⟩) (run_main m g)

/-- The kernel and the reference leave equal caches. -/
theorem values_equal : Cert.algebraic_BandCacheIdeal_BandCacheReferenceIdeal := fun m g m' g' _ hm =>
  ⟨fun c => promptKeys (proj m c), fun c => promptValues (proj m c), fun c => sampleKeys (proj m c) (keyCache m c),
    fun c => sampleValues (proj m c) (valueCache m c),
    (θ_run defs _ _).mono (fun _ h c => ⟨(h.1 c).1, (h.1 c).2.1, (h.1 c).2.2.1, (h.1 c).2.2.2, h.2 c⟩)
      (θ_run_and (left m g) (unchanged (F := Ideal) m g)),
    (θ_run Cert.BandCacheReferenceIdeal.defs _ _).mono (fun r hr c => by
        obtain ⟨e0, e1, e2, e3, e4, e5⟩ := hm c
        refine ⟨(hr c).1.trans ?_, (hr c).2.1.trans ?_, (hr c).2.2.1.trans ?_, (hr c).2.2.2.1.trans ?_, (hr c).2.2.2.2⟩
        · refine (Cert.BandCacheReferenceIdeal.Read.val_main_v47_eq ..).trans ?_
          rw [e0, e4, e5]
          exact (promptKeys_eq m c).symm
        · refine (Cert.BandCacheReferenceIdeal.Read.val_main_v49_eq ..).trans ?_
          rw [e0, e4, e5]
          exact (promptValues_eq m c).symm
        · refine (Cert.BandCacheReferenceIdeal.Read.val_main_v51_eq ..).trans ?_
          rw [e1, e2, e4, e5]
          exact (sampleKeys_eq m c).symm
        · refine (Cert.BandCacheReferenceIdeal.Read.val_main_v53_eq ..).trans ?_
          rw [e1, e3, e4, e5]
          exact (sampleValues_eq m c).symm)
      (Cert.BandCacheReferenceIdeal.Value.run (F := Ideal) m' g')⟩

end Cert.BandCacheIdeal.Band

end
-- ==== Proof.SwaRuns.lean ====
/-
  THE SECOND PROJECTION'S BODY. The body of the call at a grid point, run on whole staging buffers over any float values: at a
  row block's first point, at its points between, and at its last.
-/
module

public import proofs.«01_k».proof.Proof.Gen.SwaCacheIdeal.Skeleton
public import proofs.«01_k».proof.Proof.Gen.SwaCacheIdeal.Frame
public import Idealize.ShloMosaic.Lib.Pipeline.ValueKit.Basic

@[expose] public section

set_option maxRecDepth 16384

noncomputable section

namespace Cert.SwaCacheIdeal.Swa

open Cert.SwaCacheIdeal Cert.SwaCacheIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin : (![0, 0] : Fin 2 → ℕ) = fun _ => 0 := funext fun a => by fin_cases a <;> rfl

variable (c : Dev nD) (i : grid0.Coords)
  (a2 : Memref sig .tc .vmem S512x2048 .f32) (h2 : a2.IsWhole)
  (a3 : Memref sig .tc .vmem S512x2048 .f32) (h3 : a3.IsWhole)
  (a4 : Memref sig .tc .vmem S1x2048 .f32) (h4 : a4.IsWhole)
  (a5 : Memref sig .tc .vmem S2048x512 .bf16) (h5 : a5.IsWhole)
  (a6 : Memref sig .tc .vmem S1x512 .f32) (h6 : a6.IsWhole)
  (a7 : Memref sig .tc .vmem S512x128 .f32) (h7 : a7.IsWhole)
  (a8 : Memref sig .tc .vmem S512x128 .f32) (h8 : a8.IsWhole)
  (a9 : Memref sig .tc .vmem S512x128 .f32) (h9 : a9.IsWhole)
  (a10 : Memref sig .tc .vmem S512x2048 .f32) (h10 : a10.IsWhole)
  (a11 : Memref sig .tc .vmem S512x512 .bf16) (h11 : a11.IsWhole)
  (a12 : Memref sig .tc .vmem S512x2048 .bf16) (h12 : a12.IsWhole)
  (x : Vec F S512x2048 .f32)  (u : Vec F S512x2048 .f32)  (g : Vec F S1x2048 .f32)  (w : Vec F S2048x512 .bf16)  (b : Vec F S1x512 .f32)  (p : Vec F S512x128 .f32)  (q : Vec F S512x128 .f32)  (r : Vec F S512x128 .f32)
  (y : Vec F S512x2048 .f32) (s : Vec F S512x2048 .bf16)

set_option maxHeartbeats 4000000 in
/-- At a row block's first point the body stores the sum of the two rows, keeps its norm, and stores the turned projection of that. -/
theorem run_first (hc1 : k0_cond1 i = 1#1) (hc2 : k0_cond2 i = 1#1) (hc3 : ¬k0_cond3 i = 1#1) (E : Set ℕ) (K : PUnit → sProp 𝕄) :
    iprop(owns (c : Thread nD τ) a2 fullShare x ∗ owns (c : Thread nD τ) a3 fullShare u ∗ owns (c : Thread nD τ) a4 fullShare g ∗ owns (c : Thread nD τ) a5 fullShare w ∗ owns (c : Thread nD τ) a6 fullShare b ∗ owns (c : Thread nD τ) a7 fullShare p ∗ owns (c : Thread nD τ) a8 fullShare q ∗ owns (c : Thread nD τ) a9 fullShare r ∗ (∃ d, owns (c : Thread nD τ) a10 fullShare d) ∗ (∃ d, owns (c : Thread nD τ) a11 fullShare d) ∗ (∃ d, owns (c : Thread nD τ) a12 fullShare d)
        ∗ (iprop(owns (c : Thread nD τ) a2 fullShare x ∗ owns (c : Thread nD τ) a3 fullShare u ∗ owns (c : Thread nD τ) a4 fullShare g ∗ owns (c : Thread nD τ) a5 fullShare w ∗ owns (c : Thread nD τ) a6 fullShare b ∗ owns (c : Thread nD τ) a7 fullShare p ∗ owns (c : Thread nD τ) a8 fullShare q ∗ owns (c : Thread nD τ) a9 fullShare r ∗ owns (c : Thread nD τ) a10 fullShare (k0_pay1 x u) ∗ owns (c : Thread nD τ) a11 fullShare (k0_pay4 (k0_pay2 x u g) w b p q r) ∗ owns (c : Thread nD τ) a12 fullShare (k0_pay2 x u g)) -∗ K ⟨⟩))
      ⊢ wp frame (wpE (defs₀ (F := F)) Variants.none c none) E (cc0_proj i a2 h2 a3 h3 a4 h4 a5 h5 a6 h6 a7 h7 a8 h8 a9 h9 a10 h10 a11 h11 a12 h12) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr
    swap; · iexact H10
    ipureintro
    refine (View.read_writes_eq_canon _ _ _ (View.cover_of_tiledL _ S512x2048.size (by sl_kernel_rfl))).trans ?_
    sl_unfold_words
    rw [View.canon_unit_zero origin]
    simp only [View.readAt_eq_ld, h2.read_unread, h3.read_unread, h4.read_unread, h5.read_unread, h6.read_unread, h7.read_unread, h8.read_unread, h9.read_unread, h10.read_unread, h11.read_unread, h12.read_unread, View.ld_unit_zero (S := S512x2048) origin, View.ld_unit_zero (S := S1x2048) origin,
            View.ld_unit_zero (S := S2048x512) origin, View.ld_unit_zero (S := S1x512) origin, View.ld_unit_zero (S := S512x128) origin]
  isplitl [H11]
  · iexists _; isplitr
    swap; · iexact H11
    ipureintro
    refine (View.read_writes_eq_canon _ _ _ (View.cover_of_tiledL _ S512x512.size (by sl_kernel_rfl))).trans ?_
    sl_unfold_words
    rw [View.canon_unit_zero origin]
    rw [View.readCov_unit_zero (S := S512x2048) _ origin]
    simp only [View.readAt_eq_ld, h2.read_unread, h3.read_unread, h4.read_unread, h5.read_unread, h6.read_unread, h7.read_unread, h8.read_unread, h9.read_unread, h10.read_unread, h11.read_unread, h12.read_unread, View.ld_unit_zero (S := S512x2048) origin, View.ld_unit_zero (S := S1x2048) origin,
            View.ld_unit_zero (S := S2048x512) origin, View.ld_unit_zero (S := S1x512) origin, View.ld_unit_zero (S := S512x128) origin]
  iexists _; isplitr
  swap; · iexact H12
  ipureintro
  refine (View.read_writes_eq_canon _ _ _ (View.cover_of_tiledL _ S512x2048.size (by sl_kernel_rfl))).trans ?_
  sl_unfold_words
  rw [View.canon_unit_zero origin]
  simp only [View.readAt_eq_ld, h2.read_unread, h3.read_unread, h4.read_unread, h5.read_unread, h6.read_unread, h7.read_unread, h8.read_unread, h9.read_unread, h10.read_unread, h11.read_unread, h12.read_unread, View.ld_unit_zero (S := S512x2048) origin, View.ld_unit_zero (S := S1x2048) origin,
          View.ld_unit_zero (S := S2048x512) origin, View.ld_unit_zero (S := S1x512) origin, View.ld_unit_zero (S := S512x128) origin]

set_option maxHeartbeats 4000000 in
/-- At a point between it stores the turned projection of what is kept. -/
theorem run_between (hc1 : ¬k0_cond1 i = 1#1) (hc2 : k0_cond2 i = 1#1) (hc3 : ¬k0_cond3 i = 1#1) (E : Set ℕ) (K : PUnit → sProp 𝕄) :
    iprop(owns (c : Thread nD τ) a2 fullShare x ∗ owns (c : Thread nD τ) a3 fullShare u ∗ owns (c : Thread nD τ) a4 fullShare g ∗ owns (c : Thread nD τ) a5 fullShare w ∗ owns (c : Thread nD τ) a6 fullShare b ∗ owns (c : Thread nD τ) a7 fullShare p ∗ owns (c : Thread nD τ) a8 fullShare q ∗ owns (c : Thread nD τ) a9 fullShare r ∗ owns (c : Thread nD τ) a10 fullShare y ∗ (∃ d, owns (c : Thread nD τ) a11 fullShare d) ∗ owns (c : Thread nD τ) a12 fullShare s
        ∗ (iprop(owns (c : Thread nD τ) a2 fullShare x ∗ owns (c : Thread nD τ) a3 fullShare u ∗ owns (c : Thread nD τ) a4 fullShare g ∗ owns (c : Thread nD τ) a5 fullShare w ∗ owns (c : Thread nD τ) a6 fullShare b ∗ owns (c : Thread nD τ) a7 fullShare p ∗ owns (c : Thread nD τ) a8 fullShare q ∗ owns (c : Thread nD τ) a9 fullShare r ∗ owns (c : Thread nD τ) a10 fullShare y ∗ owns (c : Thread nD τ) a11 fullShare (k0_pay4 s w b p q r) ∗ owns (c : Thread nD τ) a12 fullShare s) -∗ K ⟨⟩))
      ⊢ wp frame (wpE (defs₀ (F := F)) Variants.none c none) E (cc0_proj i a2 h2 a3 h3 a4 h4 a5 h5 a6 h6 a7 h7 a8 h8 a9 h9 a10 h10 a11 h11 a12 h12) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h12.eq_unread hf12
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr
    swap; · iexact H11
    ipureintro
    refine (View.read_writes_eq_canon _ _ _ (View.cover_of_tiledL _ S512x512.size (by sl_kernel_rfl))).trans ?_
    sl_unfold_words
    rw [View.canon_unit_zero origin]
    simp only [View.readAt_eq_ld, h2.read_unread, h3.read_unread, h4.read_unread, h5.read_unread, h6.read_unread, h7.read_unread, h8.read_unread, h9.read_unread, h10.read_unread, h11.read_unread, h12.read_unread, View.ld_unit_zero (S := S512x2048) origin, View.ld_unit_zero (S := S1x2048) origin,
            View.ld_unit_zero (S := S2048x512) origin, View.ld_unit_zero (S := S1x512) origin, View.ld_unit_zero (S := S512x128) origin]
  iexists _; isplitr; · ipureintro; exact h12.read_unread _
  iexact H12

set_option maxHeartbeats 4000000 in
/-- At a row block's last point it stores the projection of what is kept. -/
theorem run_last (hc1 : ¬k0_cond1 i = 1#1) (hc2 : ¬k0_cond2 i = 1#1) (hc3 : k0_cond3 i = 1#1) (E : Set ℕ) (K : PUnit → sProp 𝕄) :
    iprop(owns (c : Thread nD τ) a2 fullShare x ∗ owns (c : Thread nD τ) a3 fullShare u ∗ owns (c : Thread nD τ) a4 fullShare g ∗ owns (c : Thread nD τ) a5 fullShare w ∗ owns (c : Thread nD τ) a6 fullShare b ∗ owns (c : Thread nD τ) a7 fullShare p ∗ owns (c : Thread nD τ) a8 fullShare q ∗ owns (c : Thread nD τ) a9 fullShare r ∗ owns (c : Thread nD τ) a10 fullShare y ∗ (∃ d, owns (c : Thread nD τ) a11 fullShare d) ∗ owns (c : Thread nD τ) a12 fullShare s
        ∗ (iprop(owns (c : Thread nD τ) a2 fullShare x ∗ owns (c : Thread nD τ) a3 fullShare u ∗ owns (c : Thread nD τ) a4 fullShare g ∗ owns (c : Thread nD τ) a5 fullShare w ∗ owns (c : Thread nD τ) a6 fullShare b ∗ owns (c : Thread nD τ) a7 fullShare p ∗ owns (c : Thread nD τ) a8 fullShare q ∗ owns (c : Thread nD τ) a9 fullShare r ∗ owns (c : Thread nD τ) a10 fullShare y ∗ owns (c : Thread nD τ) a11 fullShare (k0_pay5 s w b) ∗ owns (c : Thread nD τ) a12 fullShare s) -∗ K ⟨⟩))
      ⊢ wp frame (wpE (defs₀ (F := F)) Variants.none c none) E (cc0_proj i a2 h2 a3 h3 a4 h4 a5 h5 a6 h6 a7 h7 a8 h8 a9 h9 a10 h10 a11 h11 a12 h12) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h12.eq_unread hf12
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr
    swap; · iexact H11
    ipureintro
    refine (View.read_writes_eq_canon _ _ _ (View.cover_of_tiledL _ S512x512.size (by sl_kernel_rfl))).trans ?_
    sl_unfold_words
    rw [View.canon_unit_zero origin]
    simp only [View.readAt_eq_ld, h2.read_unread, h3.read_unread, h4.read_unread, h5.read_unread, h6.read_unread, h7.read_unread, h8.read_unread, h9.read_unread, h10.read_unread, h11.read_unread, h12.read_unread, View.ld_unit_zero (S := S512x2048) origin, View.ld_unit_zero (S := S1x2048) origin,
            View.ld_unit_zero (S := S2048x512) origin, View.ld_unit_zero (S := S1x512) origin, View.ld_unit_zero (S := S512x128) origin]
  iexists _; isplitr; · ipureintro; exact h12.read_unread _
  iexact H12

end Cert.SwaCacheIdeal.Swa

end
-- ==== Proof.SwaFrame.lean ====
/-
  THE SECOND PROJECTION RUNS. What the body finds and leaves at each grid point, over any float values: a row block's six
  points share the sum of its rows and the normed rows, which the first of them stores and keeps. The sum's buffer is written
  back at the last of them, where the body stores nothing into it, so it holds there what the first has stored.
-/
module

public import proofs.«01_k».proof.Proof.SwaRuns
public import Idealize.ShloMosaic.Lib.Pointwise
public import Idealize.ShloMosaic.Lib.ValueIdx
public import Idealize.ShloMosaic.Lib.Claim

@[expose] public section

set_option maxRecDepth 16384

noncomputable section

namespace Cert.SwaCacheIdeal.Swa

open Cert.SwaCacheIdeal Cert.SwaCacheIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The grid -/

theorem coord0 : ∀ t : Fin grid0.N, (grid0.coords t 0).val = t.val / 6 := by decide +kernel
theorem coord1 : ∀ t : Fin grid0.N, (grid0.coords t 1).val = t.val % 6 := by decide +kernel
theorem first_iff : ∀ t : Fin grid0.N, k0_cond1 (grid0.coords t) = 1#1 ↔ t.val % 6 = 0 := by decide +kernel
theorem turned_iff : ∀ t : Fin grid0.N, k0_cond2 (grid0.coords t) = 1#1 ↔ t.val % 6 ≠ 5 := by decide +kernel
theorem last_iff : ∀ t : Fin grid0.N, k0_cond3 (grid0.coords t) = 1#1 ↔ t.val % 6 = 5 := by decide +kernel

theorem points : cfg0.N = 198 := N_0

/-- The sum's buffer is stored into at a row block's first point only, the projection's at every point. -/
theorem idle8_first (t : Fin cfg0.N) (h0 : t.val % 6 = 0) : cfg0.idle 8 (cfg0.grid.coords t) = false := by
  show (!(k0_cond1 (grid0.coords t) == 1#1)) = false
  rw [(first_iff t).mpr h0]; rfl
theorem idle8_later (t : Fin cfg0.N) (h0 : ¬t.val % 6 = 0) : cfg0.idle 8 (cfg0.grid.coords t) = true := by
  show (!(k0_cond1 (grid0.coords t) == 1#1)) = true
  rw [beq_eq_false_iff_ne.mpr fun h => h0 ((first_iff t).mp h)]; rfl
theorem idle9 (t : Fin cfg0.N) : cfg0.idle 9 (cfg0.grid.coords t) = false := by
  show (!(k0_cond2 (grid0.coords t) == 1#1) && !(k0_cond3 (grid0.coords t) == 1#1)) = false
  by_cases h5 : t.val % 6 = 5
  · rw [(last_iff t).mpr h5]; exact Bool.and_false _
  · rw [(turned_iff t).mpr h5]; exact Bool.false_and _

/-- The row of a point's row block. -/
def rowOf (n : ℕ) (hn : n < cfg0.N) (p : Fin 512) : Fin 16896 := ⟨n / 6 * 512 + p.val, by have := points; have := p.isLt; omega⟩

/-- The column of a point's column block. -/
def colOf (t : Fin cfg0.N) (e : Fin 512) : Fin 3072 := ⟨t.val % 6 * 512 + e.val, by have := e.isLt; omega⟩

theorem rowOf_before (t : Fin cfg0.N) (h0 : ¬t.val % 6 = 0) (p : Fin 512) :
    rowOf (t.val - 1) (Nat.lt_of_le_of_lt (Nat.sub_le _ _) t.isLt) p = rowOf t.val t.isLt p :=
  Fin.ext (by show (t.val - 1) / 6 * 512 + p.val = t.val / 6 * 512 + p.val; omega)

theorem index0 (i : grid0.Coords) : cc0_transform_0 i = ![(i 0).val, 0] := by
  have h0 : (i 0).val < 33 := (i 0).isLt
  have h1 : (i 1).val < 6 := (i 1).isLt
  unfold cc0_transform_0
  simp [BitVec.toNat_ofNat]
  omega
theorem index1 (i : grid0.Coords) : cc0_transform_1 i = ![(i 0).val, 0] := by
  have h0 : (i 0).val < 33 := (i 0).isLt
  have h1 : (i 1).val < 6 := (i 1).isLt
  unfold cc0_transform_1
  simp [BitVec.toNat_ofNat]
  omega
theorem index2 (i : grid0.Coords) : cc0_transform_2 i = ![0, 0] := rfl
theorem index3 (i : grid0.Coords) : cc0_transform_3 i = ![0, (i 1).val] := by
  have h0 : (i 0).val < 33 := (i 0).isLt
  have h1 : (i 1).val < 6 := (i 1).isLt
  unfold cc0_transform_3
  simp [BitVec.toNat_ofNat]
  omega
theorem index4 (i : grid0.Coords) : cc0_transform_4 i = ![0, (i 1).val] := by
  have h0 : (i 0).val < 33 := (i 0).isLt
  have h1 : (i 1).val < 6 := (i 1).isLt
  unfold cc0_transform_4
  simp [BitVec.toNat_ofNat]
  omega
theorem index5 (i : grid0.Coords) : cc0_transform_5 i = ![(i 0).val, 0] := by
  have h0 : (i 0).val < 33 := (i 0).isLt
  have h1 : (i 1).val < 6 := (i 1).isLt
  unfold cc0_transform_5
  simp [BitVec.toNat_ofNat]
  omega
theorem index6 (i : grid0.Coords) : cc0_transform_6 i = ![(i 0).val, 0] := by
  have h0 : (i 0).val < 33 := (i 0).isLt
  have h1 : (i 1).val < 6 := (i 1).isLt
  unfold cc0_transform_6
  simp [BitVec.toNat_ofNat]
  omega
theorem index7 (i : grid0.Coords) : cc0_transform_7 i = ![(i 0).val, 0] := by
  have h0 : (i 0).val < 33 := (i 0).isLt
  have h1 : (i 1).val < 6 := (i 1).isLt
  unfold cc0_transform_7
  simp [BitVec.toNat_ofNat]
  omega
theorem index8 (i : grid0.Coords) : cc0_transform_8 i = ![(i 0).val, 0] := by
  have h0 : (i 0).val < 33 := (i 0).isLt
  have h1 : (i 1).val < 6 := (i 1).isLt
  unfold cc0_transform_8
  simp [BitVec.toNat_ofNat]
  omega
theorem index9 (i : grid0.Coords) : cc0_transform_9 i = ![(i 0).val, (i 1).val] := by
  have h0 : (i 0).val < 33 := (i 0).isLt
  have h1 : (i 1).val < 6 := (i 1).isLt
  unfold cc0_transform_9
  simp [BitVec.toNat_ofNat]
  omega

/-! ## The arrays that the region reads, and their blocks -/

/-- The first layer's rows, what its experts added, the norm's weight as one row, the padded weight and bias, and the three
    tables of the turn. -/
abbrev base : S16896x2048.Idx → Elt F .f32 := V m c main_arg0
abbrev added : S16896x2048.Idx → Elt F .f32 := V m c main_arg1
abbrev gain : S1x2048.Idx → Elt F .f32 := V m c main_v68
abbrev weight : S2048x3072.Idx → Elt F .bf16 := V m c main_v11
abbrev bias : S1x3072.Idx → Elt F .f32 := V m c main_v69
abbrev tableC : S16896x128.Idx → Elt F .f32 := V m c main_v61
abbrev tableP : S16896x128.Idx → Elt F .f32 := V m c main_v64
abbrev tableN : S16896x128.Idx → Elt F .f32 := V m c main_v67

theorem block_base (t : Fin cfg0.N) (p : Fin 512) (k : Fin 2048) : iblk m c 0 t (ix2 p k) = base m c (ix2 (rowOf t.val t.isLt p) k) := by
  unfold iblk
  rw [View.read_apply]
  show base m c _ = base m c _
  refine congrArg _ (funext fun a => Fin.ext ?_)
  have hb := Window.rect_emb_val (cfg0.win 0) t (ix2 p k) a
  have hi := congrFun (index0 (grid0.coords t)) a
  refine (hb.trans (congrArg (fun n => n * (cfg0.win 0).size a + (ix2 p k a : ℕ)) hi)).trans ?_
  have hc0 : (grid0.coords t 0).val = t.val / 6 := coord0 t
  have hc1 : (grid0.coords t 1).val = t.val % 6 := coord1 t
  fin_cases a
  · show (grid0.coords t 0).val * 512 + p.val = t.val / 6 * 512 + p.val
    omega
  · show 0 * 2048 + k.val = k.val
    omega
theorem block_added (t : Fin cfg0.N) (p : Fin 512) (k : Fin 2048) : iblk m c 1 t (ix2 p k) = added m c (ix2 (rowOf t.val t.isLt p) k) := by
  unfold iblk
  rw [View.read_apply]
  show added m c _ = added m c _
  refine congrArg _ (funext fun a => Fin.ext ?_)
  have hb := Window.rect_emb_val (cfg0.win 1) t (ix2 p k) a
  have hi := congrFun (index1 (grid0.coords t)) a
  refine (hb.trans (congrArg (fun n => n * (cfg0.win 1).size a + (ix2 p k a : ℕ)) hi)).trans ?_
  have hc0 : (grid0.coords t 0).val = t.val / 6 := coord0 t
  have hc1 : (grid0.coords t 1).val = t.val % 6 := coord1 t
  fin_cases a
  · show (grid0.coords t 0).val * 512 + p.val = t.val / 6 * 512 + p.val
    omega
  · show 0 * 2048 + k.val = k.val
    omega
theorem block_gain (t : Fin cfg0.N) (k : Fin 2048) : iblk m c 2 t (ix2 0 k) = gain m c (ix2 0 k) := by
  unfold iblk
  rw [View.read_apply]
  show gain m c _ = gain m c _
  refine congrArg _ (funext fun a => Fin.ext ?_)
  have hb := Window.rect_emb_val (cfg0.win 2) t (ix2 0 k) a
  have hi := congrFun (index2 (grid0.coords t)) a
  refine (hb.trans (congrArg (fun n => n * (cfg0.win 2).size a + (ix2 0 k a : ℕ)) hi)).trans ?_
  have hc0 : (grid0.coords t 0).val = t.val / 6 := coord0 t
  have hc1 : (grid0.coords t 1).val = t.val % 6 := coord1 t
  fin_cases a
  · rfl
  · show 0 * 2048 + k.val = k.val
    omega
theorem block_weight (t : Fin cfg0.N) (k : Fin 2048) (e : Fin 512) : iblk m c 3 t (ix2 k e) = weight m c (ix2 k (colOf t e)) := by
  unfold iblk
  rw [View.read_apply]
  show weight m c _ = weight m c _
  refine congrArg _ (funext fun a => Fin.ext ?_)
  have hb := Window.rect_emb_val (cfg0.win 3) t (ix2 k e) a
  have hi := congrFun (index3 (grid0.coords t)) a
  refine (hb.trans (congrArg (fun n => n * (cfg0.win 3).size a + (ix2 k e a : ℕ)) hi)).trans ?_
  have hc0 : (grid0.coords t 0).val = t.val / 6 := coord0 t
  have hc1 : (grid0.coords t 1).val = t.val % 6 := coord1 t
  fin_cases a
  · show 0 * 2048 + k.val = k.val
    omega
  · show (grid0.coords t 1).val * 512 + e.val = t.val % 6 * 512 + e.val
    omega
theorem block_bias (t : Fin cfg0.N) (e : Fin 512) : iblk m c 4 t (ix2 0 e) = bias m c (ix2 0 (colOf t e)) := by
  unfold iblk
  rw [View.read_apply]
  show bias m c _ = bias m c _
  refine congrArg _ (funext fun a => Fin.ext ?_)
  have hb := Window.rect_emb_val (cfg0.win 4) t (ix2 0 e) a
  have hi := congrFun (index4 (grid0.coords t)) a
  refine (hb.trans (congrArg (fun n => n * (cfg0.win 4).size a + (ix2 0 e a : ℕ)) hi)).trans ?_
  have hc0 : (grid0.coords t 0).val = t.val / 6 := coord0 t
  have hc1 : (grid0.coords t 1).val = t.val % 6 := coord1 t
  fin_cases a
  · rfl
  · show (grid0.coords t 1).val * 512 + e.val = t.val % 6 * 512 + e.val
    omega
theorem block_tableC (t : Fin cfg0.N) (p : Fin 512) (k : Fin 128) : iblk m c 5 t (ix2 p k) = tableC m c (ix2 (rowOf t.val t.isLt p) k) := by
  unfold iblk
  rw [View.read_apply]
  show tableC m c _ = tableC m c _
  refine congrArg _ (funext fun a => Fin.ext ?_)
  have hb := Window.rect_emb_val (cfg0.win 5) t (ix2 p k) a
  have hi := congrFun (index5 (grid0.coords t)) a
  refine (hb.trans (congrArg (fun n => n * (cfg0.win 5).size a + (ix2 p k a : ℕ)) hi)).trans ?_
  have hc0 : (grid0.coords t 0).val = t.val / 6 := coord0 t
  have hc1 : (grid0.coords t 1).val = t.val % 6 := coord1 t
  fin_cases a
  · show (grid0.coords t 0).val * 512 + p.val = t.val / 6 * 512 + p.val
    omega
  · show 0 * 128 + k.val = k.val
    omega
theorem block_tableP (t : Fin cfg0.N) (p : Fin 512) (k : Fin 128) : iblk m c 6 t (ix2 p k) = tableP m c (ix2 (rowOf t.val t.isLt p) k) := by
  unfold iblk
  rw [View.read_apply]
  show tableP m c _ = tableP m c _
  refine congrArg _ (funext fun a => Fin.ext ?_)
  have hb := Window.rect_emb_val (cfg0.win 6) t (ix2 p k) a
  have hi := congrFun (index6 (grid0.coords t)) a
  refine (hb.trans (congrArg (fun n => n * (cfg0.win 6).size a + (ix2 p k a : ℕ)) hi)).trans ?_
  have hc0 : (grid0.coords t 0).val = t.val / 6 := coord0 t
  have hc1 : (grid0.coords t 1).val = t.val % 6 := coord1 t
  fin_cases a
  · show (grid0.coords t 0).val * 512 + p.val = t.val / 6 * 512 + p.val
    omega
  · show 0 * 128 + k.val = k.val
    omega
theorem block_tableN (t : Fin cfg0.N) (p : Fin 512) (k : Fin 128) : iblk m c 7 t (ix2 p k) = tableN m c (ix2 (rowOf t.val t.isLt p) k) := by
  unfold iblk
  rw [View.read_apply]
  show tableN m c _ = tableN m c _
  refine congrArg _ (funext fun a => Fin.ext ?_)
  have hb := Window.rect_emb_val (cfg0.win 7) t (ix2 p k) a
  have hi := congrFun (index7 (grid0.coords t)) a
  refine (hb.trans (congrArg (fun n => n * (cfg0.win 7).size a + (ix2 p k a : ℕ)) hi)).trans ?_
  have hc0 : (grid0.coords t 0).val = t.val / 6 := coord0 t
  have hc1 : (grid0.coords t 1).val = t.val % 6 := coord1 t
  fin_cases a
  · show (grid0.coords t 0).val * 512 + p.val = t.val / 6 * 512 + p.val
    omega
  · show 0 * 128 + k.val = k.val
    omega

/-! ## What the body leaves -/

/-- The sum of the two rows of a row block. -/
def sums (t : Fin cfg0.N) : Vec F S512x2048 .f32 := k0_pay1 (iblk m c 0 t) (iblk m c 1 t)

/-- The normed rows of it. -/
def kept (t : Fin cfg0.N) : Vec F S512x2048 .bf16 := k0_pay2 (iblk m c 0 t) (iblk m c 1 t) (iblk m c 2 t)

/-- A point's block of the projection: turned, except in the last. -/
def made (t : Fin cfg0.N) : Vec F S512x512 .bf16 :=
  if t.val % 6 = 5 then k0_pay5 (kept m c t) (iblk m c 3 t) (iblk m c 4 t)
  else k0_pay4 (kept m c t) (iblk m c 3 t) (iblk m c 4 t) (iblk m c 5 t) (iblk m c 6 t) (iblk m c 7 t)

theorem made_last (t : Fin cfg0.N) (h5 : t.val % 6 = 5) : made m c t = k0_pay5 (kept m c t) (iblk m c 3 t) (iblk m c 4 t) := if_pos h5
theorem made_turned (t : Fin cfg0.N) (h5 : ¬t.val % 6 = 5) :
    made m c t = k0_pay4 (kept m c t) (iblk m c 3 t) (iblk m c 4 t) (iblk m c 5 t) (iblk m c 6 t) (iblk m c 7 t) := if_neg h5

/-- The point before. -/
abbrev prev (t : Fin cfg0.N) : Fin cfg0.N := ⟨t.val - 1, Nat.lt_of_le_of_lt (Nat.sub_le _ _) t.isLt⟩

theorem base_same (t : Fin cfg0.N) (h0 : ¬t.val % 6 = 0) : (iblk m c 0 (prev t) : Vec F S512x2048 .f32) = iblk m c 0 t := by
  funext j
  obtain ⟨p, k, rfl⟩ : ∃ (p : Fin 512) (k : Fin 2048), j = ix2 p k := ⟨j 0, j 1, eq_ix2 j⟩
  refine (block_base m c (prev t) p k).trans (Eq.trans ?_ (block_base m c t p k).symm)
  exact congrArg (fun r => base m c (ix2 r k)) (rowOf_before t h0 p)

theorem added_same (t : Fin cfg0.N) (h0 : ¬t.val % 6 = 0) : (iblk m c 1 (prev t) : Vec F S512x2048 .f32) = iblk m c 1 t := by
  funext j
  obtain ⟨p, k, rfl⟩ : ∃ (p : Fin 512) (k : Fin 2048), j = ix2 p k := ⟨j 0, j 1, eq_ix2 j⟩
  refine (block_added m c (prev t) p k).trans (Eq.trans ?_ (block_added m c t p k).symm)
  exact congrArg (fun r => added m c (ix2 r k)) (rowOf_before t h0 p)

theorem gain_same (t : Fin cfg0.N) : (iblk m c 2 (prev t) : Vec F S1x2048 .f32) = iblk m c 2 t := by
  funext j
  obtain ⟨p, k, rfl⟩ : ∃ (p : Fin 1) (k : Fin 2048), j = ix2 p k := ⟨j 0, j 1, eq_ix2 j⟩
  obtain rfl : p = 0 := Subsingleton.elim _ _
  exact (block_gain m c (prev t) k).trans (block_gain m c t k).symm

/-- The points of a row block share the sum and the normed rows. -/
theorem sums_same (t : Fin cfg0.N) (h0 : ¬t.val % 6 = 0) : sums m c (prev t) = sums m c t :=
  congrArg₂ (fun a b => k0_pay1 (F := F) a b) (base_same m c t h0) (added_same m c t h0)

theorem kept_same (t : Fin cfg0.N) (h0 : ¬t.val % 6 = 0) : kept m c (prev t) = kept m c t := by
  unfold kept
  rw [show (iblk m c 0 (prev t) : Vec F S512x2048 .f32) = iblk m c 0 t from base_same m c t h0,
    show (iblk m c 1 (prev t) : Vec F S512x2048 .f32) = iblk m c 1 t from added_same m c t h0,
    show (iblk m c 2 (prev t) : Vec F S1x2048 .f32) = iblk m c 2 t from gain_same m c t]

/-! ## The proof data -/

/-- The scratch buffer. -/
abbrev scM0_0 : Memref sig .tc .vmem S512x2048 .bf16 := Memref.whole cc0_scratch0

/-- At the launch the scratch buffer holds anything. -/
theorem scratch_any : (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- Before a point that is not the first, the scratch buffer holds the normed rows of the point before. -/
def holds : (n : ℕ) → n ≤ cfg0.N → sProp 𝕄
  | 0, _ => Pipeline.ΦA spec0 c
  | n + 1, hn => iprop(owns (c : Thread nD τ) scM0_0 fullShare (kept m c ⟨n, hn⟩) ∗ (∃ r, prngReg c r))

theorem holds_zero (n : ℕ) (h : n ≤ cfg0.N) (hz : n = 0) : holds m c n h = Pipeline.ΦA spec0 c := by subst hz; rfl
theorem holds_succ (n : ℕ) (hn : n < cfg0.N) :
    holds m c (n + 1) hn = iprop(owns (c : Thread nD τ) scM0_0 fullShare (kept m c ⟨n, hn⟩) ∗ (∃ r, prngReg c r)) := rfl
theorem holds_pos (n : ℕ) (h : n ≤ cfg0.N) (hz : n ≠ 0) :
    holds m c n h = iprop(owns (c : Thread nD τ) scM0_0 fullShare (kept m c ⟨n - 1, by omega⟩) ∗ (∃ r, prngReg c r)) := by
  cases n with
  | zero => exact absurd rfl hz
  | succ n => rfl

/-- The arrays as the region finds them, and what the body leaves in each staging buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => sums m c t
    | ⟨9, _⟩ => made m c t
  Φ t := holds m c t.val (Nat.le_of_lt_succ t.isLt)
  q _ := fullShare
  owed _ := 0

theorem arrays_eq (w : Fin cfg0.W) : (dats m 0 c).A w = V m c (Pipeline.arrRef spec0 w) := by dsimp only [dats]
theorem holds_castSucc (t : Fin cfg0.N) : (dats m 0 c).Φ t.castSucc = holds m c t.val (Nat.le_of_lt t.isLt) := by
  dsimp only [dats]; exact Pipeline.Dat.Φ_castSucc (holds m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = sums m c t := by dsimp only [dats]
theorem after_9 (t : Fin cfg0.N) : (dats m 0 c).after 9 t = made m c t := by dsimp only [dats]
theorem before_0 (t : Fin cfg0.N) (d) : (dats m 0 c).before 0 t d = iblk m c 0 t :=
  before0_0_of m (dats m 0 c) (arrays_eq m c 0) (after_0 m c) t d
theorem before_1 (t : Fin cfg0.N) (d) : (dats m 0 c).before 1 t d = iblk m c 1 t :=
  before0_1_of m (dats m 0 c) (arrays_eq m c 1) (after_1 m c) t d
theorem before_2 (t : Fin cfg0.N) (d) : (dats m 0 c).before 2 t d = iblk m c 2 t :=
  before0_2_of m (dats m 0 c) (arrays_eq m c 2) (after_2 m c) t d
theorem before_3 (t : Fin cfg0.N) (d) : (dats m 0 c).before 3 t d = iblk m c 3 t :=
  before0_3_of m (dats m 0 c) (arrays_eq m c 3) (after_3 m c) t d
theorem before_4 (t : Fin cfg0.N) (d) : (dats m 0 c).before 4 t d = iblk m c 4 t :=
  before0_4_of m (dats m 0 c) (arrays_eq m c 4) (after_4 m c) t d
theorem before_5 (t : Fin cfg0.N) (d) : (dats m 0 c).before 5 t d = iblk m c 5 t :=
  before0_5_of m (dats m 0 c) (arrays_eq m c 5) (after_5 m c) t d
theorem before_6 (t : Fin cfg0.N) (d) : (dats m 0 c).before 6 t d = iblk m c 6 t :=
  before0_6_of m (dats m 0 c) (arrays_eq m c 6) (after_6 m c) t d
theorem before_7 (t : Fin cfg0.N) (d) : (dats m 0 c).before 7 t d = iblk m c 7 t :=
  before0_7_of m (dats m 0 c) (arrays_eq m c 7) (after_7 m c) t d

/-- The sum's buffer is written back at a row block's last point. -/
theorem flush8_not (t : Fin cfg0.N) (h5 : ¬t.val % 6 = 5) : (cfg0.win 8).flush t = false :=
  Bool.eq_false_iff.mpr fun h => h5 ((flush0_8 t).mp h)

/-- At a point that is not a row block's first, the sum's buffer holds the row block's sum. -/
theorem before_8 (n : ℕ) : ∀ (hn : n < cfg0.N) (h0 : ¬n % 6 = 0) (d), (dats m 0 c).before 8 ⟨n, hn⟩ d = sums m c ⟨n, hn⟩ := by
  induction n with
  | zero => exact fun _ h0 => absurd rfl h0
  | succ n ih =>
    intro hn h0 d
    have hf := flush8_not (prev ⟨n + 1, hn⟩) (by show ¬n % 6 = 5; omega)
    refine ((dats m 0 c).before_of_pos 8 ⟨n + 1, hn⟩ (Nat.succ_ne_zero n) rfl d).trans ?_
    rw [hf, if_neg Bool.false_ne_true]
    refine Eq.trans ?_ (sums_same m c ⟨n + 1, hn⟩ h0)
    unfold Dat.left
    by_cases h1 : n % 6 = 0
    · rw [show cfg0.idle 8 (cfg0.grid.coords (prev ⟨n + 1, hn⟩)) = false from idle8_first _ h1]
      exact ((cfg0.win 8).fill_cut _ _).trans (after_8 m c _)
    · rw [show cfg0.idle 8 (cfg0.grid.coords (prev ⟨n + 1, hn⟩)) = true from idle8_later _ h1]
      exact ih _ h1 d

/-! ## The body at a point -/

abbrev ms0 (t : Fin cfg0.N) : Memref sig .tc .vmem S512x2048 .f32 := win0_0.stage (cfg0.slots t 0)
abbrev ms1 (t : Fin cfg0.N) : Memref sig .tc .vmem S512x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x512 .bf16 := win0_3.stage (cfg0.slots t 3)
abbrev ms4 (t : Fin cfg0.N) : Memref sig .tc .vmem S1x512 .f32 := win0_4.stage (cfg0.slots t 4)
abbrev ms5 (t : Fin cfg0.N) : Memref sig .tc .vmem S512x128 .f32 := win0_5.stage (cfg0.slots t 5)
abbrev ms6 (t : Fin cfg0.N) : Memref sig .tc .vmem S512x128 .f32 := win0_6.stage (cfg0.slots t 6)
abbrev ms7 (t : Fin cfg0.N) : Memref sig .tc .vmem S512x128 .f32 := win0_7.stage (cfg0.slots t 7)
abbrev ms8 (t : Fin cfg0.N) : Memref sig .tc .vmem S512x2048 .f32 := win0_8.stage (cfg0.slots t 8)
abbrev ms9 (t : Fin cfg0.N) : Memref sig .tc .vmem S512x512 .bf16 := win0_9.stage (cfg0.slots t 9)

/-- What the body is called with at a point, -/
def called (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def returned (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 3200000 in
/-- The body's triple at a point, by its place in the row block. -/
theorem body_runs (t : Fin cfg0.N) :
    called m c t ⊢ wp frame (wpE (defs₀ (F := F)) Variants.none c none) Set.univ (bodyAt0 t) (fun _ => returned m c t) := by
  unfold called returned bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9]
  rw [show (dats m 0 c).Φ t.succ = holds m c (t.val + 1) t.isLt from rfl, holds_succ, holds_castSucc m c t]
  by_cases h0 : t.val % 6 = 0
  · have h5 : ¬t.val % 6 = 5 := by omega
    rw [made_turned m c t h5]
    by_cases hz : t.val = 0
    · rw [holds_zero m c _ _ hz, scratch_any]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((turned_iff t).mpr (by omega)) (fun h => absurd ((last_iff t).mp h) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [holds_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((turned_iff t).mpr (by omega)) (fun h => absurd ((last_iff t).mp h) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexists _; iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have hz : t.val ≠ 0 := fun h => h0 (by rw [h])
    rw [holds_pos m c _ _ hz, show kept m c ⟨t.val - 1, _⟩ = kept m c t from kept_same m c t h0]
    simp only [show ∀ d, (dats m 0 c).before 8 t d = sums m c t from before_8 m c t.val t.isLt h0]
    by_cases h5 : t.val % 6 = 5
    · rw [made_last m c t h5]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (sums m c t) (kept m c t) (fun h => h0 ((first_iff t).mp h)) (fun h => (turned_iff t).mp h h5) ((last_iff t).mpr h5) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [made_turned m c t h5]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_between c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (sums m c t) (kept m c t) (fun h => h0 ((first_iff t).mp h)) ((turned_iff t).mpr h5) (fun h => h5 ((last_iff t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem row_eq (t : Fin cfg0.N) : defs₀ (F := F) .tc cfg0.body (cfg0.bodyArgs t (cfg0.slots t)) = bodyAt0 t := by
  unfold defs₀; rw [Defs.onTc_tc]

/-- The library's body obligation. A point that stores nothing into the sum's buffer and does not write it back leaves it as
    found. -/
theorem obligation : BodyObligation (dats (F := F) m 0 c) (defs₀ (F := F)) Variants.none () Set.univ := fun t => by
  rw [bigSep_W0, bigSep_W0, row_eq, idle9 t]
  by_cases h0 : t.val % 6 = 0
  · rw [idle8_first t h0]
    exact triple_restated (body_runs m c t) rfl .rfl fun _ => .rfl
  by_cases h5 : t.val % 6 = 5
  · rw [idle8_later t h0, show (cfg0.win 8).flush t = true from (flush0_8 t).mpr h5]
    exact triple_restated (body_runs m c t) rfl .rfl fun _ => .rfl
  · rw [idle8_later t h0, flush8_not t h5]
    refine triple_restated (body_runs m c t) rfl .rfl fun _ => ?_
    unfold returned
    rw [after_8, ← before_8 m c t.val t.isLt h0 (sums m c t)]
    iintro ⟨HΦ, Ho, H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexact H9

/-! ## The launch -/

theorem enter : Pipeline.ΦA spec0 c ⊢ (dats m 0 c).Φ 0 := by
  rw [show (dats m 0 c).Φ 0 = holds m c 0 (Nat.zero_le _) from rfl, holds_zero m c 0 _ rfl]

theorem leave : (dats m 0 c).Φ (Fin.last cfg0.N) ⊢ Pipeline.ΦA spec0 c := by
  have hN := points
  rw [show (dats m 0 c).Φ (Fin.last cfg0.N) = holds m c cfg0.N le_rfl from rfl, holds_pos m c _ _ (by omega), scratch_any]
  iintro ⟨HS, Hg⟩
  isplitl [HS]
  · iexists _; iexact HS
  iexact Hg

set_option backward.isDefEq.respectTransparency.types false in
set_option maxHeartbeats 800000 in
/-- Every run ends, with the arrays as the data say and every counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hin := enter m) (hout := leave m)

/-- What a run leaves in the arrays. -/
theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (arrays_eq m) (run_arrays m ρ)

/-- And the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run m ρ))

end Cert.SwaCacheIdeal.Swa

end
-- ==== Proof.SwaArray.lean ====
/-
  THE SECOND PROJECTION'S ARRAY. What the call leaves over the extended reals: the norm of every row of the two arrays' sum,
  times the weight, with the bias; the columns before the last block are turned: each is taken times its table entry, and the
  columns eight to its left and to its right, within its block of 512, are added times theirs.
-/
module

public import proofs.«01_k».proof.Proof.NormMath
public import proofs.«01_k».proof.Proof.SwaFrame
public import Idealize.ShloMosaic.Lib.Pipeline.ValueKit.Basic
public import Idealize.ShloMosaic.Lib.Pipeline.Value

@[expose] public section

set_option maxRecDepth 16384

noncomputable section

namespace Cert.SwaCacheIdeal.Swa

open Cert.SwaCacheIdeal Cert.SwaCacheIdeal.Gen
open Idealize.ShloMosaic Idealize.ShloMosaic.TcCoe Idealize.SL.Sem
open Idealize.ShloMosaic.Pipeline (Dat Window)
open Cert.Norm
open scoped BigOperators

/-! ## What the body stores, at an entry -/

/-- The rows that a row block's first point keeps. -/
theorem kept_apply (x u : S512x2048.Idx → EReal) (g : S1x2048.Idx → EReal) (r : Fin 512) (d : Fin 2048) :
    k0_pay2 (F := Ideal) x u g (ix2 r d) = normed (fun k => x (ix2 r k) + u (ix2 r k)) (fun k => g (ix2 0 k)) d := by
  pointwise [k0_pay2, k0_pay1]
  rfl

/-- The kept rows times a block of the weight, with the bias. -/
theorem product_apply (h : S512x2048.Idx → EReal) (w : S2048x512.Idx → EReal) (b : S1x512.Idx → EReal) (r e : Fin 512) :
    k0_pay3 (F := Ideal) h w b (ix2 r e) = (∑ k : Fin 2048, h (ix2 r k) * w (ix2 k e)) + b (ix2 0 e) := by
  pointwise [k0_pay3]

/-- The last block is this product. -/
theorem last_apply (h : S512x2048.Idx → EReal) (w : S2048x512.Idx → EReal) (b : S1x512.Idx → EReal) (r e : Fin 512) :
    k0_pay5 (F := Ideal) h w b (ix2 r e) = k0_pay3 (F := Ideal) h w b (ix2 r e) := by
  pointwise [k0_pay5]

/-- A column's place in the tables, and the columns eight to its left and to its right in the block, around its ends. -/
def place (e : Fin 512) : Fin 128 := ⟨e.val % 128, Nat.mod_lt _ (by decide)⟩
def toLeft (e : Fin 512) : Fin 512 := ⟨(e.val + 504) % 512, Nat.mod_lt _ (by decide)⟩
def toRight (e : Fin 512) : Fin 512 := ⟨(e.val + 8) % 512, Nat.mod_lt _ (by decide)⟩

/-- A table put four times side by side. -/
theorem fourfold_apply (a : S512x128.Idx → EReal) (r e : Fin 512) :
    concatenate S512x512 1 [⟨S512x128, shapeCast S512x128 a shapeCasts_S512x128_S512x128⟩, ⟨S512x128, shapeCast S512x128 a shapeCasts_S512x128_S512x128⟩,
        ⟨S512x128, shapeCast S512x128 a shapeCasts_S512x128_S512x128⟩, ⟨S512x128, shapeCast S512x128 a shapeCasts_S512x128_S512x128⟩] concatenates_S512x128_S512x128_S512x128_S512x128_S512x512_d1 (ix2 r e)
      = a (ix2 r (place e)) := by
  have he := e.isLt
  pointwise []
  split
  · refine congrArg a (congrArg (fun k => ix2 r k) (Fin.ext ?_))
    show e.val = e.val % 128
    omega
  split
  · refine congrArg a (congrArg (fun k => ix2 r k) (Fin.ext ?_))
    show e.val - 128 = e.val % 128
    omega
  split
  · refine congrArg a (congrArg (fun k => ix2 r k) (Fin.ext ?_))
    show e.val - 256 = e.val % 128
    omega
  · refine congrArg a (congrArg (fun k => ix2 r k) (Fin.ext ?_))
    show e.val - 384 = e.val % 128
    omega

theorem rolled_left (z : S512x512.Idx → EReal) (r e : Fin 512) :
    dynamicRotate 1 8#32 none z rotates_S512x512_d1 (ix2 r e) = z (ix2 r (toLeft e)) := by
  pointwise []
  rfl

theorem rolled_right (z : S512x512.Idx → EReal) (r e : Fin 512) :
    dynamicRotate 1 504#32 none z rotates_S512x512_d1 (ix2 r e) = z (ix2 r (toRight e)) := by
  pointwise []
  rfl

/-- The other blocks are the product, turned. -/
theorem turned_apply (h : S512x2048.Idx → EReal) (w : S2048x512.Idx → EReal) (b : S1x512.Idx → EReal)
    (p q s : S512x128.Idx → EReal) (r e : Fin 512) :
    k0_pay4 (F := Ideal) h w b p q s (ix2 r e)
      = k0_pay3 (F := Ideal) h w b (ix2 r e) * p (ix2 r (place e)) + k0_pay3 (F := Ideal) h w b (ix2 r (toLeft e)) * q (ix2 r (place e))
        + k0_pay3 (F := Ideal) h w b (ix2 r (toRight e)) * s (ix2 r (place e)) := by
  unfold k0_pay4
  exact congrArg₂ (· + ·)
    (congrArg₂ (· + ·) (congrArg₂ (· * ·) rfl (fourfold_apply p r e)) (congrArg₂ (· * ·) (rolled_left _ r e) (fourfold_apply q r e)))
    (congrArg₂ (· * ·) (rolled_right _ r e) (fourfold_apply s r e))

section Array

variable (m : (ℓ : Loc nD τ sig) → Buf (Elt Ideal) ℓ) (c : Dev nD)

/-- A row of the sum, normed. -/
def rowNormed (n : Fin 16896) (k : Fin 2048) : EReal :=
  normed (fun k => base m c (ix2 n k) + added m c (ix2 n k)) (fun k => gain m c (ix2 0 k)) k

/-- The product at a row and a column, with the bias. -/
def lineAt (n : Fin 16896) (e : Fin 3072) : EReal := (∑ k : Fin 2048, rowNormed m c n k * weight m c (ix2 k e)) + bias m c (ix2 0 e)

/-- The column of a block. -/
def blockCol (b : ℕ) (hb : b < 6) (e : Fin 512) : Fin 3072 := ⟨b * 512 + e.val, by have := e.isLt; omega⟩

/-- The projection at a row, a column block and a column of it. -/
def projAt (n : Fin 16896) (b : ℕ) (hb : b < 6) (e : Fin 512) : EReal :=
  if b = 5 then lineAt m c n (blockCol b hb e)
  else lineAt m c n (blockCol b hb e) * tableC m c (ix2 n (place e)) + lineAt m c n (blockCol b hb (toLeft e)) * tableP m c (ix2 n (place e))
    + lineAt m c n (blockCol b hb (toRight e)) * tableN m c (ix2 n (place e))

/-- The projection. -/
def proj : S16896x3072.Idx → EReal := fun i =>
  projAt m c (i 0) ((i 1).val / 512) (by have h : (i 1).val < 3072 := (i 1).isLt; omega) ⟨(i 1).val % 512, Nat.mod_lt _ (by decide)⟩

theorem proj_apply (n : Fin 16896) (b : ℕ) (hb : b < 6) (e : Fin 512) : proj m c (ix2 n (blockCol b hb e)) = projAt m c n b hb e := by
  have he := e.isLt
  have h0 : (blockCol b hb e).val / 512 = b := by show (b * 512 + e.val) / 512 = b; omega
  have h1 : (⟨(blockCol b hb e).val % 512, Nat.mod_lt _ (by decide)⟩ : Fin 512) = e := Fin.ext (by show (b * 512 + e.val) % 512 = e.val; omega)
  show projAt m c n ((blockCol b hb e).val / 512) _ ⟨(blockCol b hb e).val % 512, _⟩ = _
  rw [h1]
  simp only [h0]

/-- The rows kept at a point. -/
theorem kept_block (t : Fin cfg0.N) (p : Fin 512) (k : Fin 2048) :
    kept m c t (ix2 p k) = rowNormed m c (rowOf t.val t.isLt p) k := by
  refine (kept_apply _ _ _ p k).trans ?_
  unfold rowNormed
  exact congrArg₂ (fun x g => normed x g k) (funext fun k => congrArg₂ (· + ·) (block_base m c t p k) (block_added m c t p k))
    (funext fun k => block_gain m c t k)

/-- The product at a point. -/
theorem line_block (t : Fin cfg0.N) (hb : t.val % 6 < 6) (p e : Fin 512) :
    k0_pay3 (F := Ideal) (kept m c t) (iblk m c 3 t) (iblk m c 4 t) (ix2 p e) = lineAt m c (rowOf t.val t.isLt p) (blockCol (t.val % 6) hb e) := by
  refine (product_apply _ _ _ p e).trans ?_
  unfold lineAt
  exact congrArg₂ (· + ·) (Finset.sum_congr rfl fun k _ => congrArg₂ (· * ·) (kept_block m c t p k) (block_weight m c t k e)) (block_bias m c t e)

/-- What a point leaves in its block. -/
theorem left_block (t : Fin cfg0.N) (hb : t.val % 6 < 6) (p e : Fin 512) :
    made m c t (ix2 p e) = projAt m c (rowOf t.val t.isLt p) (t.val % 6) hb e := by
  unfold projAt
  by_cases h5 : t.val % 6 = 5
  · rw [made_last m c t h5, if_pos h5]
    exact (last_apply _ _ _ p e).trans (line_block m c t hb p e)
  · rw [made_turned m c t h5, if_neg h5]
    refine (turned_apply _ _ _ _ _ _ p e).trans ?_
    exact congrArg₂ (· + ·)
      (congrArg₂ (· + ·) (congrArg₂ (· * ·) (line_block m c t hb p e) (block_tableC m c t p (place e)))
        (congrArg₂ (· * ·) (line_block m c t hb p (toLeft e)) (block_tableP m c t p (place e))))
      (congrArg₂ (· * ·) (line_block m c t hb p (toRight e)) (block_tableN m c t p (place e)))

/-- An index of the projection is in the block of its row's and column's point. -/
theorem mem_block (t : Fin cfg0.N) (i : S16896x3072.Idx) (h0 : (i 0 : ℕ) / 512 = t.val / 6) (h1 : (i 1 : ℕ) / 512 = t.val % 6) :
    i ∈ ((cfg0.win 9).blk t).view.set := by
  show i ∈ ((View.whole main_v70_1).slice ((cfg0.win 9).rect t)).set
  rw [View.set_slice_whole, Window.mem_rect_iff (cfg0.win 9) t i rfl]
  intro a
  have hx : (cfg0.win 9).index t a = (![(grid0.coords t 0).val, (grid0.coords t 1).val] : Fin 2 → ℕ) a := congrFun (index9 (grid0.coords t)) a
  have hc0 : (grid0.coords t 0).val = t.val / 6 := coord0 t
  have hc1 : (grid0.coords t 1).val = t.val % 6 := coord1 t
  rw [hx]
  fin_cases a
  · show (grid0.coords t 0).val * 512 ≤ (i 0 : ℕ) ∧ (i 0 : ℕ) < (grid0.coords t 0).val * 512 + 512
    omega
  · show (grid0.coords t 1).val * 512 ≤ (i 1 : ℕ) ∧ (i 1 : ℕ) < (grid0.coords t 1).val * 512 + 512
    omega

/-- The points' blocks cover the projection. -/
theorem cover (i : S16896x3072.Idx) : ∃ t : Fin cfg0.N, (cfg0.win 9).flush t = true ∧ i ∈ ((cfg0.win 9).blk t).view.set := by
  have h0 : (i 0 : ℕ) < 16896 := (i 0).isLt
  have h1 : (i 1 : ℕ) < 3072 := (i 1).isLt
  have hN := points
  exact ⟨⟨(i 0 : ℕ) / 512 * 6 + (i 1 : ℕ) / 512, by omega⟩, flush0_9 _, mem_block _ i (by dsimp only; omega) (by dsimp only; omega)⟩

/-- A point's block of the projection. -/
theorem proj_block (t : Fin cfg0.N) (hb : t.val % 6 < 6) (p e : Fin 512) :
    ((cfg0.win 9).blk t).view.read (Elt Ideal) (proj m c) (ix2 p e) = projAt m c (rowOf t.val t.isLt p) (t.val % 6) hb e := by
  rw [View.read_apply]
  refine Eq.trans ?_ (proj_apply m c (rowOf t.val t.isLt p) (t.val % 6) hb e)
  show proj m c _ = proj m c (ix2 (rowOf t.val t.isLt p) (blockCol (t.val % 6) hb e))
  refine congrArg _ (funext fun a => Fin.ext ?_)
  have hx := Window.rect_emb_val (cfg0.win 9) t (ix2 p e) a
  have hi := congrFun (index9 (grid0.coords t)) a
  refine (hx.trans (congrArg (fun n => n * (cfg0.win 9).size a + (ix2 p e a : ℕ)) hi)).trans ?_
  have hc0 : (grid0.coords t 0).val = t.val / 6 := coord0 t
  have hc1 : (grid0.coords t 1).val = t.val % 6 := coord1 t
  fin_cases a
  · show (grid0.coords t 0).val * 512 + p.val = t.val / 6 * 512 + p.val
    omega
  · show (grid0.coords t 1).val * 512 + e.val = t.val % 6 * 512 + e.val
    omega

/-- The call leaves the projection. -/
theorem array_left : (dats m 0 c).arrAt 9 cfg0.N = proj m c := by
  refine (dats m 0 c).arrAt_eq_of_cover 9 (proj m c) (fun t _ => ?_) cover
  show (cfg0.win 9).cut (grid0.coords t) ((dats m 0 c).after 9 t) = _
  rw [after_9]
  funext j
  obtain ⟨p, e, rfl⟩ : ∃ (p : Fin 512) (e : Fin 512), j = ix2 p e := ⟨j 0, j 1, eq_ix2 j⟩
  refine Eq.trans ?_ (proj_block m c t (Nat.mod_lt _ (by decide)) p e).symm
  exact left_block m c t _ p e

end Array

end Cert.SwaCacheIdeal.Swa

end
-- ==== Proof.SwaHost.lean ====
/-
  THE SECOND PROJECTION'S KEYS AND VALUES. The host doubles the key and value heads of the weight and of the bias and lays out
  the tables of the turn; read back at a head's first copy, the call's array is a line of the projection for the values and the
  line with its head's first quarter turned by the row's position for the keys.
-/
module

public import proofs.«01_k».proof.Proof.SwaArray
public import Idealize.ShloMosaic.Lib.IdealHost

@[expose] public section

set_option maxRecDepth 16384

noncomputable section

namespace Cert.SwaCacheIdeal.Swa

open Cert.SwaCacheIdeal Cert.SwaCacheIdeal.Gen
open Idealize.ShloMosaic Idealize.ShloMosaic.TcCoe Idealize.SL.Sem
open Cert.Norm
open scoped BigOperators

/-! ## A key and a value -/

/-- A row, normed by the second weight, times a column of the projection's weight, with the bias. -/
def line (x : Fin 2048 → EReal) (g : S2x2048.Idx → EReal) (w : S1x2048x2560.Idx → EReal) (b : S1x2560.Idx → EReal) (e : Fin 2560) : EReal :=
  (∑ k : Fin 2048, normed x (fun k => g (ix2 1 k)) k * w (ix3 0 k e)) + b (ix2 0 e)

/-- The angle of a position at one of the eight frequencies. -/
def angle (p : BitVec 32) (f : Fin 8) : EReal :=
  (FloatOps.sitofp (F := Ideal) FTy.f32 p : EReal) * Ideal.pow (Ideal.ofBits .f32 0x48F42400#32)
    (Ideal.div (-(FloatOps.sitofp (F := Ideal) FTy.f32 (BitVec.ofNat 32 f.val) : EReal) * Ideal.ofBits .f32 0x40000000#32) (Ideal.ofBits .f32 0x41800000#32))

/-- A head's column, from the first column of the keys or of the values. -/
def headCol (n : ℕ) (hn : n ≤ 2304) (h : Fin 4) (d : ℕ) (hd : d < 64) : Fin 2560 := ⟨n + (h.val * 64 + d), by have := h.isLt; omega⟩

/-- A line's key head turned by a position. -/
def turned (v : Fin 2560 → EReal) (p : BitVec 32) (h : Fin 4) (d : Fin 64) : EReal :=
  if h1 : d.val < 8 then
    v (headCol 2048 (by omega) h d.val d.isLt) * Ideal.cos (angle p ⟨d.val, h1⟩)
      - v (headCol 2048 (by omega) h (8 + d.val) (by omega)) * Ideal.sin (angle p ⟨d.val, h1⟩)
  else if h2 : d.val - 8 < 8 then
    v (headCol 2048 (by omega) h (8 + (d.val - 8)) (by omega)) * Ideal.cos (angle p ⟨d.val - 8, h2⟩)
      + v (headCol 2048 (by omega) h (d.val - 8) (by omega)) * Ideal.sin (angle p ⟨d.val - 8, h2⟩)
  else v (headCol 2048 (by omega) h (16 + (d.val - 8 - 8)) (by have := d.isLt; omega))

/-! ## The host's layouts -/

section Layouts

variable (g : S2x2048.Idx → EReal) (w : S1x2048x2560.Idx → EReal) (b : S1x2560.Idx → EReal)

/-- The norm's weight as a row. -/
def gainRow : S1x2048.Idx → EReal :=
  shapeCast S1x2048 (shapeCast S2048 (extractStridedSlice S1x2048 ![1, 0] g slices_S2x2048_S1x2048_1_0) shapeCasts_S1x2048_S2048) shapeCasts_S2048_S1x2048

theorem gainRow_apply (k : Fin 2048) : gainRow g (ix2 0 k) = g (ix2 1 k) := by
  unfold gainRow
  pointwise []

/-- The weight with its key and value heads doubled. -/
def doubledWeight : S2048x3072.Idx → EReal :=
  truncf (F := Ideal) .bf16 (concatenate S2048x3072 1
    [⟨S2048x2048, extractStridedSlice S2048x2048 ![0, 0] (shapeCast S2048x2560 w shapeCasts_S1x2048x2560_S2048x2560) slices_S2048x2560_S2048x2048_0_0⟩,
     ⟨S2048x512, shapeCast S2048x512 (broadcastInDim S2048x4x2x64 ![0, 1, 2, 3] bcast_S2048x4x1x64_S2048x4x2x64_0_1_2_3
        (shapeCast S2048x4x1x64 (extractStridedSlice S2048x256 ![0, 2048] (shapeCast S2048x2560 w shapeCasts_S1x2048x2560_S2048x2560) slices_S2048x2560_S2048x256_0_2048)
          shapeCasts_S2048x256_S2048x4x1x64)) shapeCasts_S2048x4x2x64_S2048x512⟩,
     ⟨S2048x512, shapeCast S2048x512 (broadcastInDim S2048x4x2x64 ![0, 1, 2, 3] bcast_S2048x4x1x64_S2048x4x2x64_0_1_2_3
        (shapeCast S2048x4x1x64 (extractStridedSlice S2048x256 ![0, 2304] (shapeCast S2048x2560 w shapeCasts_S1x2048x2560_S2048x2560) slices_S2048x2560_S2048x256_0_2304)
          shapeCasts_S2048x256_S2048x4x1x64)) shapeCasts_S2048x4x2x64_S2048x512⟩]
    concatenates_S2048x2048_S2048x512_S2048x512_S2048x3072_d1 : FVec Ideal S2048x3072 .f32) bitsLt_bf16_f32

/-- The bias likewise. -/
def doubledBias : S1x3072.Idx → EReal :=
  shapeCast S1x3072 (concatenate S3072 0
    [⟨S2048, extractStridedSlice S2048 ![0] (shapeCast S2560 b shapeCasts_S1x2560_S2560) slices_S2560_S2048_0⟩,
     ⟨S512, shapeCast S512 (broadcastInDim S4x2x64 ![0, 1, 2] bcast_S4x1x64_S4x2x64_0_1_2
        (shapeCast S4x1x64 (extractStridedSlice S256 ![2048] (shapeCast S2560 b shapeCasts_S1x2560_S2560) slices_S2560_S256_2048)
          shapeCasts_S256_S4x1x64)) shapeCasts_S4x2x64_S512⟩,
     ⟨S512, shapeCast S512 (broadcastInDim S4x2x64 ![0, 1, 2] bcast_S4x1x64_S4x2x64_0_1_2
        (shapeCast S4x1x64 (extractStridedSlice S256 ![2304] (shapeCast S2560 b shapeCasts_S1x2560_S2560) slices_S2560_S256_2304)
          shapeCasts_S256_S4x1x64)) shapeCasts_S4x2x64_S512⟩]
    concatenates_S2048_S512_S512_S3072_d0) shapeCasts_S3072_S1x3072

/-- The column that a column of the doubled heads copies. -/
def copied (n : ℕ) (hn : n ≤ 2304) (e : Fin 512) : Fin 2560 := ⟨n + (e.val / 128 * 64 + e.val % 64), by have := e.isLt; omega⟩

theorem doubledWeight_keys (k : Fin 2048) (e : Fin 512) :
    doubledWeight w (ix2 k (blockCol 4 (by decide) e)) = w (ix3 0 k (copied 2048 (by decide) e)) := by
  have he := e.isLt
  unfold doubledWeight
  pointwise []
  rw [dif_neg (show ¬(blockCol 4 (by decide) e).val < 2048 by show ¬4 * 512 + e.val < 2048; omega),
    dif_pos (show (blockCol 4 (by decide) e).val - 2048 < 512 by show 4 * 512 + e.val - 2048 < 512; omega)]
  refine congrArg w (congrArg (fun e => ix3 0 k e) (Fin.ext ?_))
  show 2048 + ((4 * 512 + e.val - 2048) / 128 * 64 + (4 * 512 + e.val - 2048) % 64) = 2048 + (e.val / 128 * 64 + e.val % 64)
  omega

theorem doubledWeight_values (k : Fin 2048) (e : Fin 512) :
    doubledWeight w (ix2 k (blockCol 5 (by decide) e)) = w (ix3 0 k (copied 2304 (by decide) e)) := by
  have he := e.isLt
  unfold doubledWeight
  pointwise []
  rw [dif_neg (show ¬(blockCol 5 (by decide) e).val < 2048 by show ¬5 * 512 + e.val < 2048; omega),
    dif_neg (show ¬(blockCol 5 (by decide) e).val - 2048 < 512 by show ¬5 * 512 + e.val - 2048 < 512; omega)]
  refine congrArg w (congrArg (fun e => ix3 0 k e) (Fin.ext ?_))
  show 2304 + ((5 * 512 + e.val - 2048 - 512) / 128 * 64 + (5 * 512 + e.val - 2048 - 512) % 64) = 2304 + (e.val / 128 * 64 + e.val % 64)
  omega

theorem doubledBias_keys (e : Fin 512) : doubledBias b (ix2 0 (blockCol 4 (by decide) e)) = b (ix2 0 (copied 2048 (by decide) e)) := by
  have he := e.isLt
  unfold doubledBias
  pointwise []
  rw [dif_neg (show ¬(blockCol 4 (by decide) e).val < 2048 by show ¬4 * 512 + e.val < 2048; omega),
    dif_pos (show (blockCol 4 (by decide) e).val - 2048 < 512 by show 4 * 512 + e.val - 2048 < 512; omega)]
  refine congrArg b (congrArg (fun e => ix2 0 e) (Fin.ext ?_))
  show 2048 + ((4 * 512 + e.val - 2048) / 128 * 64 + (4 * 512 + e.val - 2048) % 64) = 2048 + (e.val / 128 * 64 + e.val % 64)
  omega

theorem doubledBias_values (e : Fin 512) : doubledBias b (ix2 0 (blockCol 5 (by decide) e)) = b (ix2 0 (copied 2304 (by decide) e)) := by
  have he := e.isLt
  unfold doubledBias
  pointwise []
  rw [dif_neg (show ¬(blockCol 5 (by decide) e).val < 2048 by show ¬5 * 512 + e.val < 2048; omega),
    dif_neg (show ¬(blockCol 5 (by decide) e).val - 2048 < 512 by show ¬5 * 512 + e.val - 2048 < 512; omega)]
  refine congrArg b (congrArg (fun e => ix2 0 e) (Fin.ext ?_))
  show 2304 + ((5 * 512 + e.val - 2048 - 512) / 128 * 64 + (5 * 512 + e.val - 2048 - 512) % 64) = 2304 + (e.val / 128 * 64 + e.val % 64)
  omega

/-- The rows' positions. -/
def positions : S16896.Idx → BitVec 32 :=
  concatenate S16896 0
    [⟨S16384, shapeCast S16384 (broadcastInDim S2x8192 ![0, 1] bcast_S1x8192_S2x8192_0_1 (shapeCast S1x8192 (iotaInDim S8192 32 0) shapeCasts_S8192_S1x8192)) shapeCasts_S2x8192_S16384⟩,
     ⟨S512, shapeCast S512 (broadcastInDim S16x32 ![0, 1] bcast_S1x32_S16x32_0_1 (shapeCast S1x32 (addi (broadcastInDim S32 ![] bcast_S_S32 (constantI S_ 32 1024#32)) (iotaInDim S32 32 0)) shapeCasts_S32_S1x32)) shapeCasts_S16x32_S512⟩]
    concatenates_S16384_S512_S16896_d0

set_option maxRecDepth 200000 in
theorem positions_apply (n : Fin 16896) : positions (ix1 n)
    = if n.val < 16384 then BitVec.ofNat 32 (n.val % 8192) else IntOp.addi 1024#32 (BitVec.ofNat 32 ((n.val - 16384) % 32)) := by
  unfold positions
  pointwise []
  simp only [dite_eq_ite]

/-- The rows' angles. -/
def angles : S16896x8.Idx → EReal :=
  mulf (F := Ideal) (φ := .f32)
    (broadcastInDim S16896x8 ![0, 1] bcast_S16896x1_S16896x8_0_1 (broadcastInDim S16896x1 ![0] bcast_S16896_S16896x1_0 (sitofp (F := Ideal) .f32 positions)))
    (broadcastInDim S16896x8 ![0, 1] bcast_S1x8_S16896x8_0_1 (broadcastInDim S1x8 ![1] bcast_S8_S1x8_1
      (Host.powf (F := Ideal) (φ := .f32) (broadcastInDim S8 ![] bcast_S_S8 (constant (F := Ideal) S_ .f32 0x48F42400#32))
        (Host.divf (F := Ideal) (φ := .f32) (mulf (F := Ideal) (φ := .f32) (Host.negf (F := Ideal) (φ := .f32) (sitofp (F := Ideal) .f32 (iotaInDim S8 32 0)))
            (broadcastInDim S8 ![] bcast_S_S8 (constant (F := Ideal) S_ .f32 0x40000000#32)))
          (broadcastInDim S8 ![] bcast_S_S8 (constant (F := Ideal) S_ .f32 0x41800000#32))))))

theorem angles_apply (n : Fin 16896) (f : Fin 8) : angles (ix2 n f) = angle (positions (ix1 n)) f := by
  unfold angles
  pointwise []
  rfl

/-- A table of 64 columns, put twice side by side. -/
def twice (t : S16896x64.Idx → EReal) : S16896x128.Idx → EReal :=
  shapeCast S16896x128 (broadcastInDim S1x16896x2x64 ![0, 1, 2, 3] bcast_S1x16896x1x64_S1x16896x2x64_0_1_2_3
    (shapeCast S1x16896x1x64 t shapeCasts_S16896x64_S1x16896x1x64)) shapeCasts_S1x16896x2x64_S16896x128

theorem twice_apply (t : S16896x64.Idx → EReal) (n : Fin 16896) (q : Fin 128) :
    twice t (ix2 n q) = t (ix2 n ⟨q.val % 64, Nat.mod_lt _ (by decide)⟩) := by
  unfold twice
  pointwise []

/-- What a column is taken times, and what its neighbours to the left and to the right are. -/
def headC : S16896x64.Idx → EReal :=
  concatenate S16896x64 1 [⟨S16896x8, Host.cos (F := Ideal) (φ := .f32) angles⟩, ⟨S16896x8, Host.cos (F := Ideal) (φ := .f32) angles⟩,
    ⟨S16896x48, broadcastInDim S16896x48 ![] bcast_S_S16896x48 (constant (F := Ideal) S_ .f32 0x3F800000#32)⟩] concatenates_S16896x8_S16896x8_S16896x48_S16896x64_d1
def headP : S16896x64.Idx → EReal :=
  concatenate S16896x64 1 [⟨S16896x8, broadcastInDim S16896x8 ![] bcast_S_S16896x8 (constant (F := Ideal) S_ .f32 0x00000000#32)⟩,
    ⟨S16896x8, Host.sin (F := Ideal) (φ := .f32) angles⟩,
    ⟨S16896x48, broadcastInDim S16896x48 ![] bcast_S_S16896x48 (constant (F := Ideal) S_ .f32 0x00000000#32)⟩] concatenates_S16896x8_S16896x8_S16896x48_S16896x64_d1
def headN : S16896x64.Idx → EReal :=
  concatenate S16896x64 1 [⟨S16896x8, Host.negf (F := Ideal) (φ := .f32) (Host.sin (F := Ideal) (φ := .f32) angles)⟩,
    ⟨S16896x8, broadcastInDim S16896x8 ![] bcast_S_S16896x8 (constant (F := Ideal) S_ .f32 0x00000000#32)⟩,
    ⟨S16896x48, broadcastInDim S16896x48 ![] bcast_S_S16896x48 (constant (F := Ideal) S_ .f32 0x00000000#32)⟩] concatenates_S16896x8_S16896x8_S16896x48_S16896x64_d1

theorem headC_apply (n : Fin 16896) (d : Fin 64) : headC (ix2 n d)
    = if h1 : d.val < 8 then Ideal.cos (angle (positions (ix1 n)) ⟨d.val, h1⟩)
      else if h2 : d.val - 8 < 8 then Ideal.cos (angle (positions (ix1 n)) ⟨d.val - 8, h2⟩) else 1 := by
  unfold headC
  pointwise []
  simp only [angles_apply]

theorem headP_apply (n : Fin 16896) (d : Fin 64) : headP (ix2 n d)
    = if h1 : d.val < 8 then 0 else if h2 : d.val - 8 < 8 then Ideal.sin (angle (positions (ix1 n)) ⟨d.val - 8, h2⟩) else 0 := by
  unfold headP
  pointwise []
  simp only [angles_apply]

theorem headN_apply (n : Fin 16896) (d : Fin 64) : headN (ix2 n d)
    = if h1 : d.val < 8 then -Ideal.sin (angle (positions (ix1 n)) ⟨d.val, h1⟩) else 0 := by
  unfold headN
  pointwise []
  simp only [angles_apply, dite_eq_ite, ite_self]

end Layouts

section Arrays

variable (m : (ℓ : Loc nD τ sig) → Buf (Elt Ideal) ℓ) (c : Dev nD)

/-- A device's arguments. -/
abbrev rows : S16896x2048.Idx → EReal := m ((c : Thread nD τ).loc main_arg0)
abbrev moes : S16896x2048.Idx → EReal := m ((c : Thread nD τ).loc main_arg1)
abbrev keyCache : S1x16x128x4x64.Idx → EReal := m ((c : Thread nD τ).loc main_arg2)
abbrev valueCache : S1x16x128x4x64.Idx → EReal := m ((c : Thread nD τ).loc main_arg3)
abbrev norms : S2x2048.Idx → EReal := m ((c : Thread nD τ).loc main_arg4)
abbrev weights : S1x2048x2560.Idx → EReal := m ((c : Thread nD τ).loc main_arg5)
abbrev biases : S1x2560.Idx → EReal := m ((c : Thread nD τ).loc main_arg6)

theorem gain_eq : gain m c = gainRow (norms m c) := by
  show StableHlo.after hostOps0 _ _ = _
  after_results
  rfl

theorem weight_eq : weight m c = doubledWeight (weights m c) := by
  show StableHlo.after hostOps0 _ _ = _
  after_results
  rfl

theorem bias_eq : bias m c = doubledBias (biases m c) := by
  show StableHlo.after hostOps0 _ _ = _
  after_results
  rfl

theorem tableC_eq : tableC m c = twice headC := by
  show StableHlo.after hostOps0 _ _ = _
  after_results
  rfl

theorem tableP_eq : tableP m c = twice headP := by
  show StableHlo.after hostOps0 _ _ = _
  after_results
  rfl

theorem tableN_eq : tableN m c = twice headN := by
  show StableHlo.after hostOps0 _ _ = _
  after_results
  rfl

/-- A row of the sum of the two arrays. -/
def rowSum (n : Fin 16896) (k : Fin 2048) : EReal := rows m c (ix2 n k) + moes m c (ix2 n k)

/-- A row's line. -/
def lineOf (n : Fin 16896) (e : Fin 2560) : EReal := line (rowSum m c n) (norms m c) (weights m c) (biases m c) e

theorem rowNormed_eq (n : Fin 16896) (k : Fin 2048) : rowNormed m c n k = normed (rowSum m c n) (fun k => norms m c (ix2 1 k)) k := by
  unfold rowNormed
  refine congrArg₂ (fun x g => normed x g k) (funext fun k => congrArg₂ (· + ·) ?_ ?_) (funext fun k => ?_)
  · exact congrFun (V_main_arg0 m c) _
  · exact congrFun (V_main_arg1 m c) _
  · rw [gain_eq]; exact gainRow_apply _ k

theorem lineAt_keys (n : Fin 16896) (e : Fin 512) : lineAt m c n (blockCol 4 (by decide) e) = lineOf m c n (copied 2048 (by decide) e) := by
  unfold lineAt lineOf line
  rw [weight_eq, bias_eq]
  exact congrArg₂ (· + ·) (Finset.sum_congr rfl fun k _ => congrArg₂ (· * ·) (rowNormed_eq m c n k) (doubledWeight_keys _ k e)) (doubledBias_keys _ e)

theorem lineAt_values (n : Fin 16896) (e : Fin 512) : lineAt m c n (blockCol 5 (by decide) e) = lineOf m c n (copied 2304 (by decide) e) := by
  unfold lineAt lineOf line
  rw [weight_eq, bias_eq]
  exact congrArg₂ (· + ·) (Finset.sum_congr rfl fun k _ => congrArg₂ (· * ·) (rowNormed_eq m c n k) (doubledWeight_values _ k e)) (doubledBias_values _ e)

/-- A column of a head's first copy. -/
def firstCopy (h : Fin 4) (d : Fin 64) : Fin 512 := ⟨h.val * 128 + d.val, by have := h.isLt; have := d.isLt; omega⟩

theorem copied_firstCopy (n : ℕ) (hn : n ≤ 2304) (h : Fin 4) (d : Fin 64) : copied n hn (firstCopy h d) = headCol n hn h d.val d.isLt := by
  have hd := d.isLt
  refine Fin.ext ?_
  show n + ((h.val * 128 + d.val) / 128 * 64 + (h.val * 128 + d.val) % 64) = n + (h.val * 64 + d.val)
  omega

theorem copied_toRight (h : Fin 4) (d : Fin 64) (h1 : d.val < 8) :
    copied 2048 (by decide) (toRight (firstCopy h d)) = headCol 2048 (by decide) h (8 + d.val) (by omega) := by
  have hh := h.isLt
  refine Fin.ext ?_
  show 2048 + ((h.val * 128 + d.val + 8) % 512 / 128 * 64 + (h.val * 128 + d.val + 8) % 512 % 64) = 2048 + (h.val * 64 + (8 + d.val))
  omega

theorem copied_toLeft (h : Fin 4) (d : Fin 64) (h1 : ¬d.val < 8) :
    copied 2048 (by decide) (toLeft (firstCopy h d)) = headCol 2048 (by decide) h (d.val - 8) (by have := d.isLt; omega) := by
  have hh := h.isLt
  have hd := d.isLt
  refine Fin.ext ?_
  show 2048 + ((h.val * 128 + d.val + 504) % 512 / 128 * 64 + (h.val * 128 + d.val + 504) % 512 % 64) = 2048 + (h.val * 64 + (d.val - 8))
  omega

theorem twice_firstCopy (t : S16896x64.Idx → EReal) (n : Fin 16896) (h : Fin 4) (d : Fin 64) :
    twice t (ix2 n (place (firstCopy h d))) = t (ix2 n d) := by
  have hd := d.isLt
  rw [twice_apply]
  refine congrArg t (congrArg (fun k => ix2 n k) (Fin.ext ?_))
  show (h.val * 128 + d.val) % 128 % 64 = d.val
  omega

/-- The call's array at a value head's first copy. -/
theorem proj_value (n : Fin 16896) (h : Fin 4) (d : Fin 64) :
    proj m c (ix2 n (blockCol 5 (by decide) (firstCopy h d))) = lineOf m c n (headCol 2304 (by decide) h d.val d.isLt) := by
  rw [proj_apply]
  unfold projAt
  rw [if_pos rfl, lineAt_values, copied_firstCopy]

/-- And at a key head's. -/
theorem proj_key (n : Fin 16896) (h : Fin 4) (d : Fin 64) :
    proj m c (ix2 n (blockCol 4 (by decide) (firstCopy h d))) = turned (lineOf m c n) (positions (ix1 n)) h d := by
  rw [proj_apply]
  unfold projAt turned
  rw [if_neg (by decide), lineAt_keys, lineAt_keys, lineAt_keys, tableC_eq, tableP_eq, tableN_eq, twice_firstCopy, twice_firstCopy, twice_firstCopy,
    headC_apply, headP_apply, headN_apply, copied_firstCopy]
  by_cases h1 : d.val < 8
  · simp only [dif_pos h1]
    rw [copied_toRight h d h1, mul_zero, add_zero, mul_neg, ← sub_eq_add_neg]
  · simp only [dif_neg h1]
    by_cases h2 : d.val - 8 < 8
    · simp only [dif_pos h2]
      rw [copied_toLeft h d h1, mul_zero, add_zero]
      refine congrArg (fun e => lineOf m c n e * _ + _) (Fin.ext ?_)
      show 2048 + (h.val * 64 + d.val) = 2048 + (h.val * 64 + (8 + (d.val - 8)))
      omega
    · simp only [dif_neg h2]
      rw [mul_zero, mul_zero, add_zero, add_zero, mul_one]
      refine congrArg (lineOf m c n) (Fin.ext ?_)
      show 2048 + (h.val * 64 + d.val) = 2048 + (h.val * 64 + (16 + (d.val - 8 - 8)))
      omega

end Arrays

end Cert.SwaCacheIdeal.Swa

end
-- ==== Proof.SwaCacheValue.lean ====
/-
  THE SLIDING-WINDOW LAYER'S CACHES. The projection that the call leaves, cut into the last 128 positions' keys and values, and
  the samples' rows appended to the caches, are what the reference leaves.
-/
module

public import proofs.«01_k».proof.Defs
public import proofs.«01_k».proof.Proof.SwaHost
public import proofs.«01_k».proof.Proof.Gen.SwaCacheReferenceIdeal.Run
public import proofs.«01_k».proof.Proof.Gen.SwaCacheReferenceIdeal.Read
public import Idealize.ShloMosaic.Adequacy
public import Idealize.ShloMosaic.Init
public import Idealize.ShloMosaic.Lib.Pointwise

@[expose] public section

set_option maxRecDepth 16384

noncomputable section

namespace Cert.SwaCacheIdeal.Swa

open Cert.SwaCacheIdeal Cert.SwaCacheIdeal.Gen
open Idealize.ShloMosaic Idealize.ShloMosaic.TcCoe Idealize.SL.Sem
open Idealize.ShloMosaic.Pipeline (Dat Window)
open Cert.Norm
open scoped BigOperators

/-- The rows that are a prompt's position and a sample's. -/
def promptRow (p : Fin 2) (r : Fin 8192) : Fin 16896 := ⟨p.val * 8192 + r.val, by have := p.isLt; have := r.isLt; omega⟩
def sampleRow (p : Fin 16) (r : Fin 32) : Fin 16896 := ⟨16384 + (p.val * 32 + r.val), by have := p.isLt; have := r.isLt; omega⟩

/-- The position that a place of a prompt's cache is. -/
def lastPos (r : Fin 128) : Fin 8192 := ⟨8064 + r.val, by have := r.isLt; omega⟩

/-- A sample's position. -/
def samplePos (r : Fin 32) : BitVec 32 := IntOp.addi 1024#32 (BitVec.ofNat 32 r.val)

theorem positions_prompt (p : Fin 2) (r : Fin 8192) : positions (ix1 (promptRow p r)) = BitVec.ofNat 32 r.val := by
  have hp := p.isLt
  have hr := r.isLt
  rw [positions_apply, if_pos (show (promptRow p r).val < 16384 by show p.val * 8192 + r.val < 16384; omega)]
  refine congrArg (BitVec.ofNat 32) ?_
  show (p.val * 8192 + r.val) % 8192 = r.val
  omega

theorem positions_sample (p : Fin 16) (r : Fin 32) : positions (ix1 (sampleRow p r)) = samplePos r := by
  have hp := p.isLt
  have hr := r.isLt
  rw [positions_apply, if_neg (show ¬(sampleRow p r).val < 16384 by show ¬16384 + (p.val * 32 + r.val) < 16384; omega)]
  refine congrArg (fun n => IntOp.addi 1024#32 (BitVec.ofNat 32 n)) ?_
  show (16384 + (p.val * 32 + r.val) - 16384) % 32 = r.val
  omega

section Reference

open Cert.SwaCacheReferenceIdeal.Read

variable (x a : S16896x2048.Idx → EReal) (u : S1x16x128x4x64.Idx → EReal)
  (g : S2x2048.Idx → EReal) (w : S1x2048x2560.Idx → EReal) (b : S1x2560.Idx → EReal)

theorem ref_prompt_line (p : Fin 2) (r : Fin 8192) (e : Fin 2560) :
    val_main_v23 (F := Ideal) x a g w b (ix3 p r e) = line (fun k => x (ix2 (promptRow p r) k) + a (ix2 (promptRow p r) k)) g w b e := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16,
    val_main_v17, val_main_v18, val_main_v19, val_main_v20, val_main_v21, val_main_v22, val_main_v23, val_main_cst,
    val_main_cst_0, val_main_cst_1]
  rfl

theorem ref_prompt_cos (r : Fin 8192) (f : Fin 8) : val_main_v43 (F := Ideal) (ix2 r f) = Ideal.cos (angle (BitVec.ofNat 32 r.val) f) := by
  pointwise [val_main_v24, val_main_v25, val_main_v26, val_main_v29, val_main_v30, val_main_v31, val_main_v32, val_main_v33,
    val_main_v34, val_main_v35, val_main_v36, val_main_v37, val_main_v38, val_main_v39, val_main_v40, val_main_v41,
    val_main_v42, val_main_v43, val_main_v45, val_main_c, val_main_cst_2, val_main_cst_3, val_main_cst_4]
  rw [show IntOp.addi 0#32 (BitVec.ofNat 32 r.val) = BitVec.ofNat 32 r.val from BitVec.zero_add _]
  rfl

theorem ref_prompt_sin (r : Fin 8192) (f : Fin 8) : val_main_v45 (F := Ideal) (ix2 r f) = Ideal.sin (angle (BitVec.ofNat 32 r.val) f) := by
  pointwise [val_main_v24, val_main_v25, val_main_v26, val_main_v29, val_main_v30, val_main_v31, val_main_v32, val_main_v33,
    val_main_v34, val_main_v35, val_main_v36, val_main_v37, val_main_v38, val_main_v39, val_main_v40, val_main_v41,
    val_main_v42, val_main_v43, val_main_v45, val_main_c, val_main_cst_2, val_main_cst_3, val_main_cst_4]
  rw [show IntOp.addi 0#32 (BitVec.ofNat 32 r.val) = BitVec.ofNat 32 r.val from BitVec.zero_add _]
  rfl

/-- The reference's keys of a prompt. -/
theorem ref_prompt_keys (p : Fin 2) (r : Fin 128) (h : Fin 4) (d : Fin 64) :
    val_main_v138 (F := Ideal) x a g w b (ix5 0 p r h d)
      = turned (line (fun k => x (ix2 (promptRow p (lastPos r)) k) + a (ix2 (promptRow p (lastPos r)) k)) g w b) (BitVec.ofNat 32 (lastPos r).val) h d := by
  pointwise [val_main_v27, val_main_v28, val_main_v44, val_main_v46, val_main_v47, val_main_v48, val_main_v49, val_main_v50,
    val_main_v51, val_main_v52, val_main_v53, val_main_v54, val_main_v55, val_main_v56, val_main_v57, val_main_v58,
    val_main_v59, val_main_v60, val_main_v61, val_main_v62, val_main_v63, val_main_v64, val_main_v137, val_main_v138]
  simp only [ref_prompt_line, ref_prompt_cos, ref_prompt_sin]
  rfl

/-- The reference's values of a prompt. -/
theorem ref_prompt_values (p : Fin 2) (r : Fin 128) (h : Fin 4) (d : Fin 64) :
    val_main_v140 (F := Ideal) x a g w b (ix5 0 p r h d)
      = line (fun k => x (ix2 (promptRow p (lastPos r)) k) + a (ix2 (promptRow p (lastPos r)) k)) g w b (headCol 2304 (by decide) h d.val d.isLt) := by
  pointwise [val_main_v65, val_main_v66, val_main_v139, val_main_v140]
  rw [ref_prompt_line]
  rfl

theorem ref_sample_line (p : Fin 16) (r : Fin 32) (e : Fin 2560) :
    val_main_v89 (F := Ideal) x a g w b (ix3 p r e) = line (fun k => x (ix2 (sampleRow p r) k) + a (ix2 (sampleRow p r) k)) g w b e := by
  pointwise [val_main_v0, val_main_v67, val_main_v68, val_main_v69, val_main_v70, val_main_v71, val_main_v72, val_main_v73,
    val_main_v74, val_main_v75, val_main_v76, val_main_v77, val_main_v78, val_main_v79, val_main_v80, val_main_v81,
    val_main_v82, val_main_v83, val_main_v84, val_main_v85, val_main_v86, val_main_v87, val_main_v88, val_main_v89,
    val_main_cst_5, val_main_cst_6, val_main_cst_7]
  rfl

theorem ref_sample_cos (r : Fin 32) (f : Fin 8) : val_main_v109 (F := Ideal) (ix2 r f) = Ideal.cos (angle (samplePos r) f) := by
  pointwise [val_main_v90, val_main_v91, val_main_v92, val_main_v95, val_main_v96, val_main_v97, val_main_v98, val_main_v99,
    val_main_v100, val_main_v101, val_main_v102, val_main_v103, val_main_v104, val_main_v105, val_main_v106,
    val_main_v107, val_main_v108, val_main_v109, val_main_v111, val_main_c_8, val_main_cst_9, val_main_cst_10,
    val_main_cst_11]
  rfl

theorem ref_sample_sin (r : Fin 32) (f : Fin 8) : val_main_v111 (F := Ideal) (ix2 r f) = Ideal.sin (angle (samplePos r) f) := by
  pointwise [val_main_v90, val_main_v91, val_main_v92, val_main_v95, val_main_v96, val_main_v97, val_main_v98, val_main_v99,
    val_main_v100, val_main_v101, val_main_v102, val_main_v103, val_main_v104, val_main_v105, val_main_v106,
    val_main_v107, val_main_v108, val_main_v109, val_main_v111, val_main_c_8, val_main_cst_9, val_main_cst_10,
    val_main_cst_11]
  rfl

/-- The reference's keys of a sample: the cache's older places, then the sample's rows. -/
theorem ref_sample_keys (p : Fin 16) (r : Fin 128) (h : Fin 4) (d : Fin 64) :
    val_main_v142 (F := Ideal) x a u g w b (ix5 0 p r h d)
      = if hr : 32 + r.val < 128 then u (ix5 0 p ⟨32 + r.val, hr⟩ h d)
        else turned (line (fun k => x (ix2 (sampleRow p ⟨32 + r.val - 128, by have := r.isLt; omega⟩) k)
            + a (ix2 (sampleRow p ⟨32 + r.val - 128, by have := r.isLt; omega⟩) k)) g w b)
          (samplePos ⟨32 + r.val - 128, by have := r.isLt; omega⟩) h d := by
  pointwise [val_main_v93, val_main_v94, val_main_v110, val_main_v112, val_main_v113, val_main_v114, val_main_v115, val_main_v116,
    val_main_v117, val_main_v118, val_main_v119, val_main_v120, val_main_v121, val_main_v122, val_main_v123,
    val_main_v124, val_main_v125, val_main_v126, val_main_v127, val_main_v128, val_main_v129, val_main_v130,
    val_main_v133, val_main_v134, val_main_v141, val_main_v142]
  simp only [ref_sample_line, ref_sample_cos, ref_sample_sin]
  rfl

/-- The reference's values of a sample. -/
theorem ref_sample_values (p : Fin 16) (r : Fin 128) (h : Fin 4) (d : Fin 64) :
    val_main_v144 (F := Ideal) x a u g w b (ix5 0 p r h d)
      = if hr : 32 + r.val < 128 then u (ix5 0 p ⟨32 + r.val, hr⟩ h d)
        else line (fun k => x (ix2 (sampleRow p ⟨32 + r.val - 128, by have := r.isLt; omega⟩) k)
            + a (ix2 (sampleRow p ⟨32 + r.val - 128, by have := r.isLt; omega⟩) k)) g w b (headCol 2304 (by decide) h d.val d.isLt) := by
  pointwise [val_main_v131, val_main_v132, val_main_v135, val_main_v136, val_main_v143, val_main_v144]
  simp only [ref_sample_line]
  rfl

end Reference

section Cuts

variable (z : S16896x3072.Idx → EReal) (u : S1x16x128x4x64.Idx → EReal)

/-- The prompts' keys, cut from the projection at their heads' first copies. -/
def promptKeys : S1x2x128x4x64.Idx → EReal :=
  broadcastInDim S1x2x128x4x64 ![1, 2, 3, 4] bcast_S2x128x4x64_S1x2x128x4x64_1_2_3_4
    (shapeCast S2x128x4x64 (extractStridedSlice S2x128x4x1x64 ![0, 0, 0, 0, 0] (shapeCast S2x128x4x2x64 (extf (F := Ideal) .f32 (concatenate S2x128x512 0
      [⟨S1x128x512, broadcastInDim S1x128x512 ![1, 2] bcast_S128x512_S1x128x512_1_2
          (extractStridedSlice S128x512 ![8064, 2048] (z : FVec Ideal S16896x3072 .bf16) slices_S16896x3072_S128x512_8064_2048)⟩,
       ⟨S1x128x512, broadcastInDim S1x128x512 ![1, 2] bcast_S128x512_S1x128x512_1_2
          (extractStridedSlice S128x512 ![16256, 2048] (z : FVec Ideal S16896x3072 .bf16) slices_S16896x3072_S128x512_16256_2048)⟩]
      concatenates_S1x128x512_S1x128x512_S2x128x512_d0) bitsLt_bf16_f32) shapeCasts_S2x128x512_S2x128x4x2x64)
      slices_S2x128x4x2x64_S2x128x4x1x64_0_0_0_0_0) shapeCasts_S2x128x4x1x64_S2x128x4x64)

/-- The samples' keys: the cache and the rows cut from the projection, the oldest places dropped. -/
def sampleKeys : S1x16x128x4x64.Idx → EReal :=
  broadcastInDim S1x16x128x4x64 ![1, 2, 3, 4] bcast_S16x128x4x64_S1x16x128x4x64_1_2_3_4
    (extractStridedSlice S16x128x4x64 ![0, 32, 0, 0] (concatenate S16x160x4x64 1
      [⟨S16x128x4x64, shapeCast S16x128x4x64 u shapeCasts_S1x16x128x4x64_S16x128x4x64⟩,
       ⟨S16x32x4x64, shapeCast S16x32x4x64 (shapeCast S512x4x64 (extractStridedSlice S512x4x1x64 ![0, 0, 0, 0] (shapeCast S512x4x2x64 (extf (F := Ideal) .f32
          (extractStridedSlice S512x512 ![16384, 2048] (z : FVec Ideal S16896x3072 .bf16) slices_S16896x3072_S512x512_16384_2048)
          bitsLt_bf16_f32) shapeCasts_S512x512_S512x4x2x64) slices_S512x4x2x64_S512x4x1x64_0_0_0_0) shapeCasts_S512x4x1x64_S512x4x64)
          shapeCasts_S512x4x64_S16x32x4x64⟩]
      concatenates_S16x128x4x64_S16x32x4x64_S16x160x4x64_d1) slices_S16x160x4x64_S16x128x4x64_0_32_0_0)

theorem promptKeys_apply (p : Fin 2) (r : Fin 128) (h : Fin 4) (d : Fin 64) :
    promptKeys z (ix5 0 p r h d) = z (ix2 (promptRow p (lastPos r)) (blockCol 4 (by decide) (firstCopy h d))) := by
  unfold promptKeys
  pointwise []
  have hp := p.isLt
  have hh := h.isLt
  have hd := d.isLt
  split
  · refine congrArg z (congrArg₂ ix2 (Fin.ext ?_) (Fin.ext ?_))
    · show 8064 + r.val = p.val * 8192 + (8064 + r.val)
      omega
    · show 2048 + (h.val * 128 + d.val) = 4 * 512 + (h.val * 128 + d.val)
      omega
  · refine congrArg z (congrArg₂ ix2 (Fin.ext ?_) (Fin.ext ?_))
    · show 16256 + r.val = p.val * 8192 + (8064 + r.val)
      omega
    · show 2048 + (h.val * 128 + d.val) = 4 * 512 + (h.val * 128 + d.val)
      omega

theorem sampleKeys_apply (p : Fin 16) (r : Fin 128) (h : Fin 4) (d : Fin 64) :
    sampleKeys z u (ix5 0 p r h d)
      = if hr : 32 + r.val < 128 then u (ix5 0 p ⟨32 + r.val, hr⟩ h d)
        else z (ix2 (sampleRow p ⟨32 + r.val - 128, by have := r.isLt; omega⟩) (blockCol 4 (by decide) (firstCopy h d))) := by
  unfold sampleKeys
  pointwise []
  rfl

/-- The prompts' values, cut from the projection at their heads' first copies. -/
def promptValues : S1x2x128x4x64.Idx → EReal :=
  broadcastInDim S1x2x128x4x64 ![1, 2, 3, 4] bcast_S2x128x4x64_S1x2x128x4x64_1_2_3_4
    (shapeCast S2x128x4x64 (extractStridedSlice S2x128x4x1x64 ![0, 0, 0, 0, 0] (shapeCast S2x128x4x2x64 (extf (F := Ideal) .f32 (concatenate S2x128x512 0
      [⟨S1x128x512, broadcastInDim S1x128x512 ![1, 2] bcast_S128x512_S1x128x512_1_2
          (extractStridedSlice S128x512 ![8064, 2560] (z : FVec Ideal S16896x3072 .bf16) slices_S16896x3072_S128x512_8064_2560)⟩,
       ⟨S1x128x512, broadcastInDim S1x128x512 ![1, 2] bcast_S128x512_S1x128x512_1_2
          (extractStridedSlice S128x512 ![16256, 2560] (z : FVec Ideal S16896x3072 .bf16) slices_S16896x3072_S128x512_16256_2560)⟩]
      concatenates_S1x128x512_S1x128x512_S2x128x512_d0) bitsLt_bf16_f32) shapeCasts_S2x128x512_S2x128x4x2x64)
      slices_S2x128x4x2x64_S2x128x4x1x64_0_0_0_0_0) shapeCasts_S2x128x4x1x64_S2x128x4x64)

/-- The samples' values: the cache and the rows cut from the projection, the oldest places dropped. -/
def sampleValues : S1x16x128x4x64.Idx → EReal :=
  broadcastInDim S1x16x128x4x64 ![1, 2, 3, 4] bcast_S16x128x4x64_S1x16x128x4x64_1_2_3_4
    (extractStridedSlice S16x128x4x64 ![0, 32, 0, 0] (concatenate S16x160x4x64 1
      [⟨S16x128x4x64, shapeCast S16x128x4x64 u shapeCasts_S1x16x128x4x64_S16x128x4x64⟩,
       ⟨S16x32x4x64, shapeCast S16x32x4x64 (shapeCast S512x4x64 (extractStridedSlice S512x4x1x64 ![0, 0, 0, 0] (shapeCast S512x4x2x64 (extf (F := Ideal) .f32
          (extractStridedSlice S512x512 ![16384, 2560] (z : FVec Ideal S16896x3072 .bf16) slices_S16896x3072_S512x512_16384_2560)
          bitsLt_bf16_f32) shapeCasts_S512x512_S512x4x2x64) slices_S512x4x2x64_S512x4x1x64_0_0_0_0) shapeCasts_S512x4x1x64_S512x4x64)
          shapeCasts_S512x4x64_S16x32x4x64⟩]
      concatenates_S16x128x4x64_S16x32x4x64_S16x160x4x64_d1) slices_S16x160x4x64_S16x128x4x64_0_32_0_0)

theorem promptValues_apply (p : Fin 2) (r : Fin 128) (h : Fin 4) (d : Fin 64) :
    promptValues z (ix5 0 p r h d) = z (ix2 (promptRow p (lastPos r)) (blockCol 5 (by decide) (firstCopy h d))) := by
  unfold promptValues
  pointwise []
  have hp := p.isLt
  have hh := h.isLt
  have hd := d.isLt
  split
  · refine congrArg z (congrArg₂ ix2 (Fin.ext ?_) (Fin.ext ?_))
    · show 8064 + r.val = p.val * 8192 + (8064 + r.val)
      omega
    · show 2560 + (h.val * 128 + d.val) = 5 * 512 + (h.val * 128 + d.val)
      omega
  · refine congrArg z (congrArg₂ ix2 (Fin.ext ?_) (Fin.ext ?_))
    · show 16256 + r.val = p.val * 8192 + (8064 + r.val)
      omega
    · show 2560 + (h.val * 128 + d.val) = 5 * 512 + (h.val * 128 + d.val)
      omega

theorem sampleValues_apply (p : Fin 16) (r : Fin 128) (h : Fin 4) (d : Fin 64) :
    sampleValues z u (ix5 0 p r h d)
      = if hr : 32 + r.val < 128 then u (ix5 0 p ⟨32 + r.val, hr⟩ h d)
        else z (ix2 (sampleRow p ⟨32 + r.val - 128, by have := r.isLt; omega⟩) (blockCol 5 (by decide) (firstCopy h d))) := by
  unfold sampleValues
  pointwise []
  rfl

end Cuts

section Array

variable (m : (ℓ : Loc nD τ sig) → Buf (Elt Ideal) ℓ) (c : Dev nD)

theorem afterRegion_proj : Pipeline.withArrays (cfgs 0).spec c (V0 m c) (fun w => (dats m 0 c).arrAt w (cfgs 0).N) (Proc.devRef .tc main_v70_1) = proj m c :=
  (Pipeline.withArrays_arr spec0 (by decide) c (V0 m c) _ 9).trans (array_left m c)

theorem afterRegion_keys : Pipeline.withArrays (cfgs 0).spec c (V0 m c) (fun w => (dats m 0 c).arrAt w (cfgs 0).N) (Proc.devRef .tc main_arg2) = keyCache m c :=
  (Pipeline.withArrays_of_ne spec0 c (V0 m c) _ main_arg2 (by decide)).trans (V_main_arg2 m c)

theorem afterRegion_values : Pipeline.withArrays (cfgs 0).spec c (V0 m c) (fun w => (dats m 0 c).arrAt w (cfgs 0).N) (Proc.devRef .tc main_arg3) = valueCache m c :=
  (Pipeline.withArrays_of_ne spec0 c (V0 m c) _ main_arg3 (by decide)).trans (V_main_arg3 m c)

theorem left_promptKeys : Pipeline.afterTail₀ cfgs (dats m) 0 (V0 m) [hostOps1] c main_v80 = promptKeys (proj m c) := by
  unfold Pipeline.afterTail₀
  show StableHlo.after hostOps1 _ _ = _
  after_results
  rw [afterRegion_proj]
  rfl

theorem left_promptValues : Pipeline.afterTail₀ cfgs (dats m) 0 (V0 m) [hostOps1] c main_v90 = promptValues (proj m c) := by
  unfold Pipeline.afterTail₀
  show StableHlo.after hostOps1 _ _ = _
  after_results
  rw [afterRegion_proj]
  rfl

theorem left_sampleKeys : Pipeline.afterTail₀ cfgs (dats m) 0 (V0 m) [hostOps1] c main_v106 = sampleKeys (proj m c) (keyCache m c) := by
  unfold Pipeline.afterTail₀
  show StableHlo.after hostOps1 _ _ = _
  after_results
  rw [afterRegion_proj, afterRegion_keys]
  rfl

theorem left_sampleValues : Pipeline.afterTail₀ cfgs (dats m) 0 (V0 m) [hostOps1] c main_v110 = sampleValues (proj m c) (valueCache m c) := by
  unfold Pipeline.afterTail₀
  show StableHlo.after hostOps1 _ _ = _
  after_results
  rw [afterRegion_proj, afterRegion_values]
  rfl

section Equal

open Cert.SwaCacheReferenceIdeal.Read

theorem promptKeys_eq : promptKeys (proj m c) = val_main_v138 (F := Ideal) (rows m c) (moes m c) (norms m c) (weights m c) (biases m c) := by
  funext i
  obtain ⟨a, p, r, h, d, rfl⟩ : ∃ a p r h d, i = ix5 a p r h d := ⟨i 0, i 1, i 2, i 3, i 4, eq_ix5 i⟩
  obtain rfl : a = 0 := Subsingleton.elim _ _
  refine (promptKeys_apply _ p r h d).trans ((proj_key m c _ h d).trans (Eq.trans ?_ (ref_prompt_keys _ _ _ _ _ p r h d).symm))
  rw [positions_prompt]
  rfl

theorem promptValues_eq : promptValues (proj m c) = val_main_v140 (F := Ideal) (rows m c) (moes m c) (norms m c) (weights m c) (biases m c) := by
  funext i
  obtain ⟨a, p, r, h, d, rfl⟩ : ∃ a p r h d, i = ix5 a p r h d := ⟨i 0, i 1, i 2, i 3, i 4, eq_ix5 i⟩
  obtain rfl : a = 0 := Subsingleton.elim _ _
  exact (promptValues_apply _ p r h d).trans ((proj_value m c _ h d).trans (ref_prompt_values _ _ _ _ _ p r h d).symm)

theorem sampleKeys_eq : sampleKeys (proj m c) (keyCache m c)
    = val_main_v142 (F := Ideal) (rows m c) (moes m c) (keyCache m c) (norms m c) (weights m c) (biases m c) := by
  funext i
  obtain ⟨a, p, r, h, d, rfl⟩ : ∃ a p r h d, i = ix5 a p r h d := ⟨i 0, i 1, i 2, i 3, i 4, eq_ix5 i⟩
  obtain rfl : a = 0 := Subsingleton.elim _ _
  refine (sampleKeys_apply _ _ p r h d).trans (Eq.trans ?_ (ref_sample_keys _ _ _ _ _ _ p r h d).symm)
  refine dite_congr rfl (fun _ => rfl) (fun _ => (proj_key m c _ h d).trans ?_)
  rw [positions_sample]
  rfl

theorem sampleValues_eq : sampleValues (proj m c) (valueCache m c)
    = val_main_v144 (F := Ideal) (rows m c) (moes m c) (valueCache m c) (norms m c) (weights m c) (biases m c) := by
  funext i
  obtain ⟨a, p, r, h, d, rfl⟩ : ∃ a p r h d, i = ix5 a p r h d := ⟨i 0, i 1, i 2, i 3, i 4, eq_ix5 i⟩
  obtain rfl : a = 0 := Subsingleton.elim _ _
  refine (sampleValues_apply _ _ p r h d).trans (Eq.trans ?_ (ref_sample_values _ _ _ _ _ _ p r h d).symm)
  exact dite_congr rfl (fun _ => rfl) (fun _ => proj_value m c _ h d)

end Equal

end Array

/-- The reference runs. -/
theorem frame_reference : Cert.quiescent_SwaCacheReferenceIdeal := fun m g _ =>
  (θ_run Cert.SwaCacheReferenceIdeal.defs _ _).mono (fun r hr => ⟨fun c => (hr c).2.2.2.2, sem_eq_zero_of_no_sems (by decide) r.2⟩)
    (Cert.SwaCacheReferenceIdeal.Value.run (F := Ideal) m g)

/-- The caches the kernel leaves. -/
theorem left (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v80) = promptKeys (proj m c)
      ∧ r.2.mem ((c.tc : Thread nD τ).loc main_v90) = promptValues (proj m c)
      ∧ r.2.mem ((c.tc : Thread nD τ).loc main_v106) = sampleKeys (proj m c) (keyCache m c)
      ∧ r.2.mem ((c.tc : Thread nD τ).loc main_v110) = sampleValues (proj m c) (valueCache m c)) :=
  (θ_run defs _ _).mono (fun _ h c =>
    ⟨((h c).2 main_v80 (Pipeline.mem_restRefs_of main_v80 (by decide) (by decide))).trans (left_promptKeys m c),
     ((h c).2 main_v90 (Pipeline.mem_restRefs_of main_v90 (by decide) (by decide))).trans (left_promptValues m c),
     ((h c).2 main_v106 (Pipeline.mem_restRefs_of main_v106 (by decide) (by decide))).trans (left_sampleKeys m c),
     ((h c).2 main_v110 (Pipeline.mem_restRefs_of main_v110 (by decide) (by decide))).trans (left_sampleValues m c)⟩) (run_arrays m g)

/-- The kernel and the reference leave equal caches. -/
theorem values_equal : Cert.algebraic_SwaCacheIdeal_SwaCacheReferenceIdeal := fun m g m' g' _ hm =>
  ⟨fun c => promptKeys (proj m c), fun c => promptValues (proj m c), fun c => sampleKeys (proj m c) (keyCache m c),
    fun c => sampleValues (proj m c) (valueCache m c),
    (θ_run defs _ _).mono (fun _ h c => ⟨(h.1 c).1, (h.1 c).2.1, (h.1 c).2.2.1, (h.1 c).2.2.2, h.2 c⟩)
      (θ_run_and (left m g) (unchanged (F := Ideal) m g)),
    (θ_run Cert.SwaCacheReferenceIdeal.defs _ _).mono (fun r hr c => by
        obtain ⟨e0, e1, e2, e3, e4, e5, e6⟩ := hm c
        refine ⟨(hr c).1.trans ?_, (hr c).2.1.trans ?_, (hr c).2.2.1.trans ?_, (hr c).2.2.2.1.trans ?_, (hr c).2.2.2.2⟩
        · refine (Cert.SwaCacheReferenceIdeal.Read.val_main_v138_eq ..).trans ?_
          rw [e0, e1, e4, e5, e6]
          exact (promptKeys_eq m c).symm
        · refine (Cert.SwaCacheReferenceIdeal.Read.val_main_v140_eq ..).trans ?_
          rw [e0, e1, e4, e5, e6]
          exact (promptValues_eq m c).symm
        · refine (Cert.SwaCacheReferenceIdeal.Read.val_main_v142_eq ..).trans ?_
          rw [e0, e1, e2, e4, e5, e6]
          exact (sampleKeys_eq m c).symm
        · refine (Cert.SwaCacheReferenceIdeal.Read.val_main_v144_eq ..).trans ?_
          rw [e0, e1, e3, e4, e5, e6]
          exact (sampleValues_eq m c).symm)
      (Cert.SwaCacheReferenceIdeal.Value.run (F := Ideal) m' g')⟩

end Cert.SwaCacheIdeal.Swa

end
-- ==== Proof.SwaMachine.lean ====
/-
  THE SECOND PROJECTION OVER THE MACHINE'S FLOATS. The program as it is and the one over the extended reals are the same text,
  so its run is the other's, which holds over any float values.
-/
module

public import proofs.«01_k».proof.Defs
public import proofs.«01_k».proof.Proof.SwaFrame
public import proofs.«01_k».proof.Proof.Gen.SwaCache

@[expose] public section

set_option maxRecDepth 16384

noncomputable section

namespace Cert.SwaCacheIdeal.Swa

open Idealize.ShloMosaic Idealize.ShloMosaic.TcCoe Idealize.SL.Sem

set_option maxHeartbeats 8000000 in
theorem host0_eq : @Cert.SwaCache.main_part0 Bits _ _ = @Cert.SwaCacheIdeal.main_part0 Bits _ _ := rfl

set_option maxHeartbeats 8000000 in
theorem host1_eq : @Cert.SwaCache.main_part1 Bits _ _ = @Cert.SwaCacheIdeal.main_part1 Bits _ _ := rfl

set_option maxHeartbeats 8000000 in
theorem main_eq : Cert.SwaCache.main (F := Bits) = Cert.SwaCacheIdeal.main (F := Bits) :=
  funext fun d => congrArg₂ (fun a b => a >>= fun _ => b) (congrFun host0_eq d) (congrFun host1_eq d)

set_option maxHeartbeats 8000000 in
/-- The kernels of the two programs. -/
theorem bodies_eq : Cert.SwaCache.defs₀ (F := Bits) = Cert.SwaCacheIdeal.defs₀ (F := Bits) :=
  congrArg Defs.onTc (funext fun l => by
    match l with
    | 0 => exact funext fun _ => rfl)

/-- So their body tables. -/
theorem tables_eq : Cert.SwaCache.defs (F := Bits) = Cert.SwaCacheIdeal.defs (F := Bits) :=
  congrArg (Pipeline.defs (Cert.SwaCache.pcfgs (F := Bits))) bodies_eq

set_option maxHeartbeats 8000000 in
/-- The second projection as it is runs, over the machine's floats. -/
theorem frame_kernel : Cert.quiescent_SwaCache := fun m g _ => by
  have h := frame_run (F := Bits) m g
  rw [← main_eq, ← tables_eq] at h
  exact h

/-- It runs over the extended reals. -/
theorem frame_ideal : Cert.quiescent_SwaCacheIdeal := fun m g _ => frame_run (F := Ideal) m g

end Cert.SwaCacheIdeal.Swa

end
-- ==== Proof.GlaMath.lean ====
/-
  THE LOG DECAY'S MATHEMATICS, over the extended reals. Minus a softplus, divided by sixteen, is nowhere positive infinity;
  a running sum of such numbers, taken as the sum of the numbers and the sum of each one less itself, is the running sum.
-/
module

public import Idealize.ShloMosaic.Lib.IdealHost
public import Idealize.ShloMosaic.Lib.Pointwise

@[expose] public section

set_option maxRecDepth 16384

noncomputable section

namespace Cert.Gla

open Idealize.ShloMosaic
open scoped BigOperators

/-- The log decay of a gate: minus the softplus of minus it, divided by sixteen. -/
def logDecay (x : EReal) : EReal :=
  -(max (-x) 0 + Ideal.log1p (Ideal.exp (-(max x (-x))))) * Ideal.ofBits .f32 0x3D800000#32

/-- A sum over the positions not after one. -/
def upTo (a : Fin 32 → EReal) (i : Fin 32) : EReal := ∑ j : Fin 32, if j ≤ i then a j else 0

theorem sixteenth : Ideal.ofBits .f32 0x3D800000#32 = ((1 / 16 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem div_sixteen (x : EReal) : Ideal.div x (Ideal.ofBits .f32 0x41800000#32) = x * Ideal.ofBits .f32 0x3D800000#32 := by
  rw [sixteen, sixteenth]
  have h : ((16 : ℝ) : EReal) ≠ 0 := by
    intro h
    have := EReal.coe_eq_zero.mp h
    norm_num at this
  rw [Ideal.div, if_neg h, ← EReal.coe_inv]
  norm_num

theorem exp_nonneg (y : EReal) : 0 ≤ Ideal.exp y := by
  induction y using EReal.rec with
  | bot => exact le_refl _
  | top => exact le_top
  | coe r => exact EReal.coe_nonneg.mpr (Real.exp_pos r).le

theorem log_ne_bot (t : EReal) (h : 1 ≤ t) : Ideal.log t ≠ ⊥ := by
  induction t using EReal.rec with
  | bot => exact absurd h (not_le.mpr (EReal.bot_lt_coe 1))
  | top => exact top_ne_bot
  | coe r =>
    have hr : (1 : ℝ) ≤ r := by exact_mod_cast h
    show (if r ≤ 0 then (⊥ : EReal) else (Real.log r : EReal)) ≠ ⊥
    rw [if_neg (by linarith)]
    exact EReal.coe_ne_bot _

theorem logDecay_ne_top (x : EReal) : logDecay x ≠ ⊤ := by
  unfold logDecay
  have h1 : Ideal.log1p (Ideal.exp (-(max x (-x)))) ≠ ⊥ :=
    log_ne_bot _ (le_add_of_nonneg_right (exp_nonneg _))
  have h2 : max (-x) 0 ≠ ⊥ := fun h => absurd (le_max_right (-x) 0) (by rw [h]; simp)
  have h3 : max (-x) 0 + Ideal.log1p (Ideal.exp (-(max x (-x)))) ≠ ⊥ := fun h => by
    rcases EReal.add_eq_bot_iff.mp h with h | h
    · exact h2 h
    · exact h1 h
  generalize max (-x) 0 + Ideal.log1p (Ideal.exp (-(max x (-x)))) = s at h3
  rw [sixteenth]
  induction s using EReal.rec with
  | bot => exact absurd rfl h3
  | top =>
    rw [EReal.neg_top, EReal.bot_mul_coe_of_pos (by norm_num)]
    exact bot_ne_top
  | coe r =>
    rw [← EReal.coe_neg, ← EReal.coe_mul]
    exact EReal.coe_ne_top _

theorem sum_bot (f : Fin 32 → EReal) (j : Fin 32) (h : f j = ⊥) : ∑ k : Fin 32, f k = ⊥ := by
  rw [← Finset.add_sum_erase _ f (Finset.mem_univ j), h, EReal.bot_add]

/-- Adding each number less itself changes no running sum, when no number is positive infinity. -/
theorem upTo_twice (a : Fin 32 → EReal) (i : Fin 32) (h : ∀ j, a j ≠ ⊤) : upTo a i + upTo (fun j => a j - a j) i = upTo a i := by
  by_cases hb : ∃ j, j ≤ i ∧ a j = ⊥
  · obtain ⟨j, hj, e⟩ := hb
    have : upTo a i = ⊥ := sum_bot _ j (by rw [if_pos hj, e])
    rw [this, EReal.bot_add]
  · have : upTo (fun j => a j - a j) i = 0 := by
      refine Finset.sum_eq_zero (fun j _ => ?_)
      by_cases hj : j ≤ i
      · rw [if_pos hj]
        exact EReal.sub_self (h j) (fun e => hb ⟨j, hj, e⟩)
      · rw [if_neg hj]
    rw [this, add_zero]

/-- The last position's running sum is the whole sum. -/
theorem upTo_last (a : Fin 32 → EReal) : upTo a 31 = ∑ j : Fin 32, a j :=
  Finset.sum_congr rfl (fun j _ => if_pos (by have := j.isLt; exact Fin.le_def.mpr (by show j.val ≤ 31; omega)))

end Cert.Gla

end
-- ==== Proof.GlaHostOps.lean ====
/-
  TWO HOST OPERATIONS READ AT AN ENTRY: a running sum along the second axis, taken as sums over padded windows, and an array
  written over the first rows of another.
-/
module

public import proofs.«01_k».proof.Proof.GlaMath
public import proofs.«01_k».proof.Proof.Gen.GlaStateIdeal.Frame
public import proofs.«01_k».proof.Proof.Gen.GlaStateReferenceIdeal.Read
public import Idealize.ShloMosaic.Lib.Routing.OpsOrder
public import Idealize.ShloMosaic.Lib.Pointwise

@[expose] public section

set_option maxRecDepth 16384

noncomputable section

namespace Cert.Gla

open Idealize.ShloMosaic
open scoped BigOperators

/-! ## The running sum -/

theorem foldl_sum {n : ℕ} (g : Fin n → EReal) : (List.finRange n).foldl (fun r k => r + g k) 0 = ∑ k : Fin n, g k := by
  have h : ∀ (L : List (Fin n)) (z : EReal), L.foldl (fun r k => r + g k) z = z + (L.map g).sum := by
    intro L
    induction L with
    | nil => intro z; simp
    | cons a l ih => intro z; rw [List.foldl_cons, ih, List.map_cons, List.sum_cons, add_assoc]
  rw [h, zero_add, ← List.ofFn_eq_map, List.sum_ofFn]

abbrev windows : Shape := ⟨4, ![1, 32, 1, 1]⟩

/-- A window's positions, by their place in it. -/
theorem window_at (n : Fin 32) (a : Fin 4) : (windows.rowMajor.symm (n.cast (by decide)) a).val = if a = 1 then n.val else 0 := by
  have h : windows.rowMajor.symm (n.cast (by decide)) = ix4 0 n 0 0 := by
    rw [Equiv.symm_apply_eq]
    refine Fin.ext ?_
    rw [rowMajor_val4 _ 32 1 1 rfl rfl rfl]
    show n.val = 0 * 32 + (n.val * 1 + (0 * 1 + 0))
    omega
  rw [h]
  fin_cases a <;> rfl

/-- Moving a window's position to the array's: those in the padding fall away. -/
theorem shift (a : Fin 32 → EReal) (i : Fin 32) :
    (∑ n : Fin 32, if h : 31 ≤ i.val + n.val ∧ i.val + n.val - 31 < 32 then a ⟨i.val + n.val - 31, h.2⟩ else 0) = upTo a i := by
  unfold upTo
  have hi := i.isLt
  rw [← Finset.sum_filter_add_sum_filter_not Finset.univ (fun n : Fin 32 => 31 ≤ i.val + n.val),
    ← Finset.sum_filter_add_sum_filter_not Finset.univ (fun j : Fin 32 => j ≤ i) (fun j => if j ≤ i then a j else 0)]
  rw [Finset.sum_eq_zero (s := Finset.univ.filter (fun n : Fin 32 => ¬ 31 ≤ i.val + n.val)),
    Finset.sum_eq_zero (s := Finset.univ.filter (fun j : Fin 32 => ¬ j ≤ i))]
  · rw [add_zero, add_zero]
    refine Finset.sum_bij (fun n _ => (⟨(i.val + n.val - 31) % 32, Nat.mod_lt _ (by decide)⟩ : Fin 32)) ?_ ?_ ?_ ?_
    · intro n hn
      have hn := (Finset.mem_filter.mp hn).2
      have hl := n.isLt
      refine Finset.mem_filter.mpr ⟨Finset.mem_univ _, Fin.le_def.mpr ?_⟩
      show (i.val + n.val - 31) % 32 ≤ i.val
      omega
    · intro n hn n' hn' e
      have hn := (Finset.mem_filter.mp hn).2
      have hn' := (Finset.mem_filter.mp hn').2
      have h1 := n.isLt
      have h2 := n'.isLt
      have e : (i.val + n.val - 31) % 32 = (i.val + n'.val - 31) % 32 := congrArg Fin.val e
      refine Fin.ext ?_
      omega
    · intro j hj
      have hj : j.val ≤ i.val := Fin.le_def.mp (Finset.mem_filter.mp hj).2
      refine ⟨⟨j.val + 31 - i.val, by omega⟩, Finset.mem_filter.mpr ⟨Finset.mem_univ _, ?_⟩, Fin.ext ?_⟩
      · show 31 ≤ i.val + (j.val + 31 - i.val)
        omega
      · show (i.val + (j.val + 31 - i.val) - 31) % 32 = j.val
        omega
    · intro n hn
      have hn := (Finset.mem_filter.mp hn).2
      have hl := n.isLt
      rw [dif_pos ⟨hn, by omega⟩, if_pos (Fin.le_def.mpr (by show (i.val + n.val - 31) % 32 ≤ i.val; omega))]
      refine congrArg a (Fin.ext ?_)
      show i.val + n.val - 31 = (i.val + n.val - 31) % 32
      omega
  · intro j hj
    exact if_neg (Finset.mem_filter.mp hj).2
  · intro n hn
    exact dif_neg (fun h => (Finset.mem_filter.mp hn).2 h.1)

open Cert.GlaStateReferenceIdeal in
theorem running_apply (x : S16x32x8x64.Idx → EReal) (z : S_.Idx → EReal) (hz : ∀ q, z q = 0)
    (hw : S16x32x8x64.ReduceWindows ![1, 32, 1, 1] ![1, 1, 1, 1] ![0, 31, 0, 0] ![0, 0, 0, 0] S16x32x8x64)
    (b : Fin 16) (i : Fin 32) (h : Fin 8) (k : Fin 64) :
    Host.reduceWindowAdd (F := Ideal) (s := S16x32x8x64) (t := S16x32x8x64) (φ := .f32) ![1, 32, 1, 1] ![1, 1, 1, 1] ![0, 31, 0, 0] ![0, 0, 0, 0] x z hw (by decide) (ix4 b i h k)
      = upTo (fun j => x (ix4 b j h k)) i := by
  rw [← shift]
  unfold Host.reduceWindowAdd
  show Ideal.hostReduceWindowAdd _ _ _ _ _ x _ _ = _
  unfold Ideal.hostReduceWindowAdd Host.reduceWindow
  dsimp only
  rw [hz, foldl_sum]
  have e : 32 = windows.numel := by decide
  refine (Fintype.sum_equiv (finCongr e) _ _ (fun n => ?_)).symm
  have hb := b.isLt
  have hh := h.isLt
  have hk := k.isLt
  have hin : (∀ a : Fin 4, (![0, 31, 0, 0] : Fin 4 → ℕ) a ≤ (ix4 b i h k a).val * (![1, 1, 1, 1] : Fin 4 → ℕ) a + (windows.rowMajor.symm (n.cast e) a).val
      ∧ (ix4 b i h k a).val * (![1, 1, 1, 1] : Fin 4 → ℕ) a + (windows.rowMajor.symm (n.cast e) a).val - (![0, 31, 0, 0] : Fin 4 → ℕ) a < S16x32x8x64.size a)
      ↔ (31 ≤ i.val + n.val ∧ i.val + n.val - 31 < 32) := by
    constructor
    · intro H
      have := H 1
      rw [window_at] at this
      have h1 : 31 ≤ i.val * 1 + n.val ∧ i.val * 1 + n.val - 31 < 32 := this
      omega
    · intro H a
      rw [window_at]
      fin_cases a
      · show 0 ≤ b.val * 1 + 0 ∧ b.val * 1 + 0 - 0 < 16
        omega
      · show 31 ≤ i.val * 1 + n.val ∧ i.val * 1 + n.val - 31 < 32
        omega
      · show 0 ≤ h.val * 1 + 0 ∧ h.val * 1 + 0 - 0 < 8
        omega
      · show 0 ≤ k.val * 1 + 0 ∧ k.val * 1 + 0 - 0 < 64
        omega
  by_cases H : 31 ≤ i.val + n.val ∧ i.val + n.val - 31 < 32
  · rw [dif_pos H]
    refine ((dif_pos (hin.mpr H)).trans ?_).symm
    refine congrArg x (funext fun a => Fin.ext ?_)
    show (ix4 b i h k a).val * (![1, 1, 1, 1] : Fin 4 → ℕ) a + (windows.rowMajor.symm (n.cast e) a).val - (![0, 31, 0, 0] : Fin 4 → ℕ) a = _
    rw [window_at]
    fin_cases a
    · show b.val * 1 + 0 - 0 = b.val
      omega
    · show i.val * 1 + n.val - 31 = i.val + n.val - 31
      omega
    · show h.val * 1 + 0 - 0 = h.val
      omega
    · show k.val * 1 + 0 - 0 = k.val
      omega
  · rw [dif_neg H]
    refine ((dif_neg (fun G => H (hin.mp G))).trans ?_).symm
    rfl

/-! ## Rows written over the first rows of another array -/

/-- Writing one value for every position of a list that has a property. -/
theorem foldl_write {ι : Type} (P : ι → Prop) [DecidablePred P] (u : ι → EReal) (c : EReal) (hu : ∀ n, P n → u n = c) :
    ∀ (L : List ι) (a : EReal), (a = c ∨ ∃ n ∈ L, P n) → L.foldl (fun a n => if P n then u n else a) a = c := by
  intro L
  induction L with
  | nil =>
    rintro a (h | ⟨n, hn, _⟩)
    · exact h
    · exact absurd hn List.not_mem_nil
  | cons m l ih =>
    intro a h
    rw [List.foldl_cons]
    refine ih _ ?_
    by_cases hm : P m
    · exact .inl (by rw [if_pos hm, hu m hm])
    · rw [if_neg hm]
      rcases h with h | ⟨n, hn, hp⟩
      · exact .inl h
      · rcases List.mem_cons.mp hn with e | hn
        · exact absurd (e ▸ hp) hm
        · exact .inr ⟨n, hn, hp⟩

theorem foldl_keep {ι : Type} (P : ι → Prop) [DecidablePred P] (u : ι → EReal) (hP : ∀ n, ¬ P n) :
    ∀ (L : List ι) (a : EReal), L.foldl (fun a n => if P n then u n else a) a = a := by
  intro L
  induction L with
  | nil => intro a; rfl
  | cons m l ih => intro a; rw [List.foldl_cons, if_neg (hP m), ih]

open Cert.GlaStateIdeal

/-- Where an entry of the written rows lands: at its own place. -/
theorem lands (idx : IVec S1 32) (hi : ∀ q, idx q = 0#32) (j : S16x512.Idx) :
    scatter_S128x512_S1_S16x512_01_n_0_0.resultIdx? j idx
      = some (ix2 ⟨(j 0).val, lt_trans (j 0).isLt (by decide)⟩ ⟨(j 1).val, (j 1).isLt⟩ : S128x512.Idx) := by
  have hs : ∀ a, scatter_S128x512_S1_S16x512_01_n_0_0.start j idx a = 0 := by
    intro a
    unfold ScatterDims.start
    split
    · rw [hi]
      rfl
    · rfl
  have h0 : scatter_S128x512_S1_S16x512_01_n_0_0.window j 0 = (j 0).val := rfl
  have h1 : scatter_S128x512_S1_S16x512_01_n_0_0.window j 1 = (j 1).val := rfl
  have l0 : (j 0).val < 16 := (j 0).isLt
  have l1 : (j 1).val < 512 := (j 1).isLt
  unfold ScatterDims.resultIdx?
  rw [dif_pos]
  · refine congrArg some (funext fun a => Fin.ext ?_)
    show (scatter_S128x512_S1_S16x512_01_n_0_0.start j idx a + (scatter_S128x512_S1_S16x512_01_n_0_0.window j a : ℤ)).toNat = _
    rw [hs]
    fin_cases a
    · show (0 + (scatter_S128x512_S1_S16x512_01_n_0_0.window j 0 : ℤ)).toNat = (j 0).val
      rw [h0]
      omega
    · show (0 + (scatter_S128x512_S1_S16x512_01_n_0_0.window j 1 : ℤ)).toNat = (j 1).val
      rw [h1]
      omega
  · intro a
    rw [hs]
    fin_cases a
    · show 0 ≤ 0 + (scatter_S128x512_S1_S16x512_01_n_0_0.window j 0 : ℤ) ∧ 0 + (scatter_S128x512_S1_S16x512_01_n_0_0.window j 0 : ℤ) < 128
      rw [h0]
      omega
    · show 0 ≤ 0 + (scatter_S128x512_S1_S16x512_01_n_0_0.window j 1 : ℤ) ∧ 0 + (scatter_S128x512_S1_S16x512_01_n_0_0.window j 1 : ℤ) < 512
      rw [h1]
      omega

theorem written_apply (x : S128x512.Idx → EReal) (idx : IVec S1 32) (hi : ∀ q, idx q = 0#32) (u : S16x512.Idx → EReal) (e : Fin 128) (d : Fin 512) :
    Host.scatter scatter_S128x512_S1_S16x512_01_n_0_0 (fun _ b => b) x idx u (ix2 e d)
      = if h : e.val < 16 then u (ix2 ⟨e.val, h⟩ d) else x (ix2 e d) := by
  rw [← Routing.scatterIn_finRange, Routing.scatterIn_at]
  by_cases h : e.val < 16
  · rw [dif_pos h]
    refine foldl_write _ (fun n => u (S16x512.rowMajor.symm n)) _ (fun n hn => ?_) _ _ (.inr ⟨S16x512.rowMajor (ix2 ⟨e.val, h⟩ d), List.mem_finRange _, ?_⟩)
    · rw [lands idx hi] at hn
      have hn := Option.some.inj hn
      have q0 : (S16x512.rowMajor.symm n 0).val = e.val := congrArg (fun i : Fin 128 => i.val) (congrFun hn 0)
      have q1 : (S16x512.rowMajor.symm n 1).val = d.val := congrArg (fun i : Fin 512 => i.val) (congrFun hn 1)
      refine congrArg u (funext fun a => Fin.ext ?_)
      fin_cases a
      · exact q0
      · exact q1
    · rw [Equiv.symm_apply_apply, lands idx hi]
      rfl
  · rw [dif_neg h]
    refine foldl_keep _ (fun n => u (S16x512.rowMajor.symm n)) (fun n hn => h ?_) _ _
    rw [lands idx hi] at hn
    have hn := congrArg Fin.val (congrFun (Option.some.inj hn) 0)
    have hl : (S16x512.rowMajor.symm n 0).val < 16 := (S16x512.rowMajor.symm n 0).isLt
    have hn : (S16x512.rowMajor.symm n 0).val = e.val := hn
    omega

end Cert.Gla

end
-- ==== Proof.GlaPay.lean ====
/-
  WHAT THE LINEAR ATTENTION'S BODY COMPUTES, at an entry: the gate, the running sums of its log decay, the keys as the chunk's
  end sees them, and a pair of heads' next state.
-/
module

public import proofs.«01_k».proof.Proof.Gen.GlaStateIdeal.Frame
public import proofs.«01_k».proof.Proof.GlaMath
public import Idealize.ShloMosaic.Lib.Pointwise

@[expose] public section

set_option maxRecDepth 16384

noncomputable section

namespace Cert.GlaStateIdeal.Gla

open Cert.GlaStateIdeal Cert.GlaStateIdeal.Gen
open Idealize.ShloMosaic Idealize.ShloMosaic.TcCoe Idealize.SL.Sem
open Idealize.ShloMosaic.Pipeline (Dat Window)
open Cert.Gla
open scoped BigOperators

section Payloads

variable (K : S32x512.Idx → EReal) (D : S1x512.Idx → EReal) (w : S32x256.Idx → EReal) (s : S1x256x128.Idx → EReal)

/-- The entries that belong to a pair's two heads: the first head's values times its keys, the second's times its keys. -/
theorem mask_apply (r : Fin 256) (l : Fin 128) : (k0_pay6 (ix2 r l) = 1#1) ↔ (r.val < 128 ↔ l.val < 64) := by
  have h1 : ∀ r : Fin 256, IntOp.cmpi .slt (BitVec.ofNat 32 r.val) 128#32 = if r.val < 128 then 1#1 else 0#1 := by decide +kernel
  have h2 : ∀ l : Fin 128, IntOp.cmpi .slt (BitVec.ofNat 32 l.val) 64#32 = if l.val < 64 then 1#1 else 0#1 := by decide +kernel
  pointwise [k0_pay6]
  rw [h1, h2]
  by_cases a : r.val < 128 <;> by_cases b : l.val < 64 <;> simp [a, b, IntOp.xori]

theorem pair0_apply (r : Fin 256) (l : Fin 128) :
    k0_pay25 (F := Ideal) k0_pay6 K D w s (ix3 0 r l)
      = D (ix2 0 ⟨0 + l.val, by have := l.isLt; omega⟩) * s (ix3 0 r l)
        + if k0_pay6 (ix2 r l) = 1#1 then ∑ j : Fin 32, w (ix2 j r) * K (ix2 j ⟨0 + l.val, by have := l.isLt; omega⟩) else 0 := by
  pointwise [k0_pay25, k0_pay23]
  rfl

theorem pair1_apply (r : Fin 256) (l : Fin 128) :
    k0_pay38 (F := Ideal) k0_pay6 K D w s (ix3 0 r l)
      = D (ix2 0 ⟨128 + l.val, by have := l.isLt; omega⟩) * s (ix3 0 r l)
        + if k0_pay6 (ix2 r l) = 1#1 then ∑ j : Fin 32, w (ix2 j r) * K (ix2 j ⟨128 + l.val, by have := l.isLt; omega⟩) else 0 := by
  pointwise [k0_pay38, k0_pay36]
  rfl

theorem pair2_apply (r : Fin 256) (l : Fin 128) :
    k0_pay50 (F := Ideal) k0_pay6 K D w s (ix3 0 r l)
      = D (ix2 0 ⟨256 + l.val, by have := l.isLt; omega⟩) * s (ix3 0 r l)
        + if k0_pay6 (ix2 r l) = 1#1 then ∑ j : Fin 32, w (ix2 j r) * K (ix2 j ⟨256 + l.val, by have := l.isLt; omega⟩) else 0 := by
  pointwise [k0_pay50, k0_pay48]
  rfl

theorem pair3_apply (r : Fin 256) (l : Fin 128) :
    k0_pay62 (F := Ideal) k0_pay6 K D w s (ix3 0 r l)
      = D (ix2 0 ⟨384 + l.val, by have := l.isLt; omega⟩) * s (ix3 0 r l)
        + if k0_pay6 (ix2 r l) = 1#1 then ∑ j : Fin 32, w (ix2 j r) * K (ix2 j ⟨384 + l.val, by have := l.isLt; omega⟩) else 0 := by
  pointwise [k0_pay62, k0_pay60]
  rfl

end Payloads

section Decay

variable (wl : S128x512.Idx → EReal) (bl : S1x512.Idx → EReal) (la : S32x128.Idx → EReal) (k : S32x512.Idx → EReal)

/-- The gate. -/
def gate (j : Fin 32) (d : Fin 512) : EReal := (∑ e : Fin 128, la (ix2 j e) * wl (ix2 e d)) + bl (ix2 0 d)

theorem gate_apply (j : Fin 32) (d : Fin 512) : k0_pay8 (F := Ideal) wl bl la (ix2 j d) = gate wl bl la j d := by
  pointwise [k0_pay8]
  rfl

theorem earlier (i j : Fin 32) (x : EReal) :
    Scalar.select (IntOp.cmpi .sge (BitVec.ofNat 32 i.val) (BitVec.ofNat 32 j.val)) x 0 = if j ≤ i then x else 0 := by
  have h : ∀ i j : Fin 32, IntOp.cmpi .sge (BitVec.ofNat 32 i.val) (BitVec.ofNat 32 j.val) = if j ≤ i then 1#1 else 0#1 := by decide +kernel
  rw [h]
  by_cases e : j ≤ i
  · rw [if_pos e, if_pos e]
    rfl
  · rw [if_neg e, if_neg e]
    rfl

/-- The running sums of the log decay. -/
theorem sums_apply (i : Fin 32) (d : Fin 512) :
    k0_pay11 (F := Ideal) k0_pay4 (k0_pay8 (F := Ideal) wl bl la) (k0_pay9 (F := Ideal) wl bl la) k0_pay10 (ix2 i d)
      = upTo (fun j => logDecay (gate wl bl la j d)) i := by
  rw [← upTo_twice _ _ (fun j => logDecay_ne_top _)]
  pointwise [k0_pay11, k0_pay4, k0_pay3, k0_pay10, k0_pay9]
  simp only [earlier, gate_apply, zero_sub]
  rfl

theorem decay_apply (d : Fin 512) :
    k0_pay17 (F := Ideal) k0_pay4 (k0_pay8 (F := Ideal) wl bl la) (k0_pay9 (F := Ideal) wl bl la) k0_pay10 (ix2 0 d)
      = Ideal.exp (upTo (fun j => logDecay (gate wl bl la j d)) 31) := by
  rw [← sums_apply]
  pointwise [k0_pay17, k0_pay12]

theorem end_apply (j : Fin 32) (d : Fin 512) :
    k0_pay16 (F := Ideal) k0_pay4 (k0_pay8 (F := Ideal) wl bl la) (k0_pay9 (F := Ideal) wl bl la) k0_pay10 k (ix2 j d)
      = k (ix2 j d) * Ideal.exp (upTo (fun j => logDecay (gate wl bl la j d)) 31 - upTo (fun j => logDecay (gate wl bl la j d)) j) := by
  rw [← sums_apply, ← sums_apply]
  pointwise [k0_pay16, k0_pay13, k0_pay12]

end Decay

end Cert.GlaStateIdeal.Gla

end
-- ==== Proof.GlaArray.lean ====
/-
  WHAT THE LINEAR ATTENTION'S BODY STORES. The state buffer is filled with the sequence's states, and each pair of heads is
  rewritten once: what was there, decayed, and the values times the keys of the pair's own heads.
-/
module

public import proofs.«01_k».proof.Proof.GlaPay
public import Idealize.ShloMosaic.Lib.Pipeline.ValueKit.Basic
public import Idealize.ShloMosaic.Lib.Pipeline.Value
public import Idealize.ShloMosaic.Lib.Pipeline.ReadBack

@[expose] public section

set_option maxRecDepth 16384

noncomputable section

namespace Cert.GlaStateIdeal.Gla

open Cert.GlaStateIdeal Cert.GlaStateIdeal.Gen
open Idealize.ShloMosaic Idealize.ShloMosaic.TcCoe Idealize.SL.Sem
open Idealize.ShloMosaic.Pipeline (Dat Window)
open Cert.Gla
open scoped BigOperators

/-! ## A state buffer filled, then rewritten pair by pair -/

section Layers

variable (V : View sig .tc .vmem S4x256x128 .f32) (X : S4x256x128.Idx → EReal) (f0 f1 f2 f3 : (S1x256x128.Idx → EReal) → S1x256x128.Idx → EReal)

abbrev all : Rect S4x256x128 := Rect.unit ![0, 0, 0] ![4, 256, 128] inb_S4x256x128_S4x256x128_0_0_0
abbrev part0 : Rect S4x256x128 := Rect.unit ![0, 0, 0] ![1, 256, 128] inb_S4x256x128_S1x256x128_0_0_0
abbrev part1 : Rect S4x256x128 := Rect.unit ![1, 0, 0] ![1, 256, 128] inb_S4x256x128_S1x256x128_1_0_0
abbrev part2 : Rect S4x256x128 := Rect.unit ![2, 0, 0] ![1, 256, 128] inb_S4x256x128_S1x256x128_2_0_0
abbrev part3 : Rect S4x256x128 := Rect.unit ![3, 0, 0] ![1, 256, 128] inb_S4x256x128_S1x256x128_3_0_0

/-- One pair of the buffer. -/
def pairOf (p : Fin 4) : S1x256x128.Idx → EReal := fun i => X (ix3 p (i 1) (i 2))

theorem ld_part0 : View.ld (Val := Elt Ideal) (e' := .f32) X part0 = pairOf X 0 := funext fun i => congrArg X (funext fun a => Fin.ext (by
  have h : (i 0).val < 1 := (i 0).isLt
  fin_cases a
  · show 0 + 1 * (i 0).val = 0; omega
  · show 0 + 1 * (i 1).val = (i 1).val; omega
  · show 0 + 1 * (i 2).val = (i 2).val; omega))
theorem ld_part1 : View.ld (Val := Elt Ideal) (e' := .f32) X part1 = pairOf X 1 := funext fun i => congrArg X (funext fun a => Fin.ext (by
  have h : (i 0).val < 1 := (i 0).isLt
  fin_cases a
  · show 1 + 1 * (i 0).val = 1; omega
  · show 0 + 1 * (i 1).val = (i 1).val; omega
  · show 0 + 1 * (i 2).val = (i 2).val; omega))
theorem ld_part2 : View.ld (Val := Elt Ideal) (e' := .f32) X part2 = pairOf X 2 := funext fun i => congrArg X (funext fun a => Fin.ext (by
  have h : (i 0).val < 1 := (i 0).isLt
  fin_cases a
  · show 2 + 1 * (i 0).val = 2; omega
  · show 0 + 1 * (i 1).val = (i 1).val; omega
  · show 0 + 1 * (i 2).val = (i 2).val; omega))
theorem ld_part3 : View.ld (Val := Elt Ideal) (e' := .f32) X part3 = pairOf X 3 := funext fun i => congrArg X (funext fun a => Fin.ext (by
  have h : (i 0).val < 1 := (i 0).isLt
  fin_cases a
  · show 3 + 1 * (i 0).val = 3; omega
  · show 0 + 1 * (i 1).val = (i 1).val; omega
  · show 0 + 1 * (i 2).val = (i 2).val; omega))

theorem filled (r : Rect S4x256x128) : V.readCov (Val := Elt Ideal) [⟨all, X⟩] r.toLoadRect = View.ld (Val := Elt Ideal) (e' := .f32) X r :=
  View.readCov_fill (Val := Elt Ideal) V inb_S4x256x128_S4x256x128_0_0_0 X [] r (fun a => by fin_cases a <;> rfl)

/-- An entry of pair `p` is off the parts of the other pairs. -/
theorem off (p n : ℕ) (hp : p < 4) (inb) (h : p ≠ n) (r : Fin 256) (l : Fin 128) : (ix3 ⟨p, hp⟩ r l : S4x256x128.Idx) ∉ (Rect.unit (s := S4x256x128) ![n, 0, 0] ![1, 256, 128] inb).set := by
  intro hm
  have e := Rect.mem_set_unit.mp hm 0
  have e : n ≤ p ∧ p < n + 1 := e
  omega

theorem at_part (n : ℕ) (hn : n < 4) (inb) (t : S1x256x128.Idx → EReal) (L) (r : Fin 256) (l : Fin 128) :
    View.canon (Val := Elt Ideal) (s := S4x256x128) (e := .f32) (⟨Rect.unit (s := S4x256x128) ![n, 0, 0] ![1, 256, 128] inb, t⟩ :: L) (ix3 ⟨n, hn⟩ r l) = t (ix3 0 r l) := by
  have h : (ix3 ⟨n, hn⟩ r l : S4x256x128.Idx) = (Rect.unit (s := S4x256x128) ![n, 0, 0] ![1, 256, 128] inb).emb (ix3 0 r l) := funext fun a => Fin.ext (by
    fin_cases a
    · show n = n + 1 * 0; omega
    · show r.val = 0 + 1 * r.val; omega
    · show l.val = 0 + 1 * l.val; omega)
  have e := View.canon_cons_emb (Val := Elt Ideal) (s := S4x256x128) (e := .f32) (Rect.unit (s := S4x256x128) ![n, 0, 0] ![1, 256, 128] inb) t L (ix3 0 r l)
  generalize (Rect.unit (s := S4x256x128) ![n, 0, 0] ![1, 256, 128] inb).emb (ix3 0 r l) = y at h e
  subst h
  exact e

theorem off_part (p n : ℕ) (hp : p < 4) (h : p ≠ n) (inb) (t : S1x256x128.Idx → EReal) (L) (r : Fin 256) (l : Fin 128) :
    View.canon (Val := Elt Ideal) (s := S4x256x128) (e := .f32) (⟨Rect.unit (s := S4x256x128) ![n, 0, 0] ![1, 256, 128] inb, t⟩ :: L) (ix3 ⟨p, hp⟩ r l)
      = View.canon (Val := Elt Ideal) (s := S4x256x128) (e := .f32) L (ix3 ⟨p, hp⟩ r l) :=
  View.canon_cons_of_not_mem (Val := Elt Ideal) (s := S4x256x128) (e := .f32) ⟨Rect.unit (s := S4x256x128) ![n, 0, 0] ![1, 256, 128] inb, t⟩ L (off p n hp inb h r l)

theorem layered (t0 t1 t2 t3 : S1x256x128.Idx → EReal)
    (e0 : t0 = f0 (V.readCov (Val := Elt Ideal) [⟨all, X⟩] part0.toLoadRect))
    (e1 : t1 = f1 (V.readCov (Val := Elt Ideal) [⟨part0, t0⟩, ⟨all, X⟩] part1.toLoadRect))
    (e2 : t2 = f2 (V.readCov (Val := Elt Ideal) [⟨part1, t1⟩, ⟨part0, t0⟩, ⟨all, X⟩] part2.toLoadRect))
    (e3 : t3 = f3 (V.readCov (Val := Elt Ideal) [⟨part2, t2⟩, ⟨part1, t1⟩, ⟨part0, t0⟩, ⟨all, X⟩] part3.toLoadRect))
    (p : Fin 4) (r : Fin 256) (l : Fin 128) :
    V.readCov (Val := Elt Ideal) [⟨part3, t3⟩, ⟨part2, t2⟩, ⟨part1, t1⟩, ⟨part0, t0⟩, ⟨all, X⟩] all.toLoadRect (ix3 p r l)
      = (![f0, f1, f2, f3] p) (pairOf X p) (ix3 0 r l) := by
  rw [filled, ld_part0] at e0
  rw [View.readCov_skip _ _ _ _ _ (by decide), filled, ld_part1] at e1
  rw [View.readCov_skip _ _ _ _ _ (by decide), View.readCov_skip _ _ _ _ _ (by decide), filled, ld_part2] at e2
  rw [View.readCov_skip _ _ _ _ _ (by decide), View.readCov_skip _ _ _ _ _ (by decide), View.readCov_skip _ _ _ _ _ (by decide), filled, ld_part3] at e3
  rw [View.readCov_eq_canon']
  have hw : all.toLoadRect.idx (ix3 p r l) = ix3 p r l := funext fun a => Fin.ext (by
    fin_cases a
    · show 0 + 1 * p.val = p.val; omega
    · show 0 + 1 * r.val = r.val; omega
    · show 0 + 1 * l.val = l.val; omega)
  show View.canon _ (all.toLoadRect.idx (ix3 p r l)) = _
  rw [hw]
  fin_cases p
  · show View.canon (Val := Elt Ideal) (s := S4x256x128) (e := .f32) _ (ix3 (⟨0, by decide⟩ : Fin 4) r l) = f0 (pairOf X 0) (ix3 0 r l)
    exact (off_part 0 3 (by decide) (by decide) _ t3 _ r l).trans ((off_part 0 2 (by decide) (by decide) _ t2 _ r l).trans ((off_part 0 1 (by decide) (by decide) _ t1 _ r l).trans ((at_part 0 (by decide) _ t0 _ r l).trans (congrFun e0 _))))
  · show View.canon (Val := Elt Ideal) (s := S4x256x128) (e := .f32) _ (ix3 (⟨1, by decide⟩ : Fin 4) r l) = f1 (pairOf X 1) (ix3 0 r l)
    exact (off_part 1 3 (by decide) (by decide) _ t3 _ r l).trans ((off_part 1 2 (by decide) (by decide) _ t2 _ r l).trans ((at_part 1 (by decide) _ t1 _ r l).trans (congrFun e1 _)))
  · show View.canon (Val := Elt Ideal) (s := S4x256x128) (e := .f32) _ (ix3 (⟨2, by decide⟩ : Fin 4) r l) = f2 (pairOf X 2) (ix3 0 r l)
    exact (off_part 2 3 (by decide) (by decide) _ t3 _ r l).trans ((at_part 2 (by decide) _ t2 _ r l).trans (congrFun e2 _))
  · show View.canon (Val := Elt Ideal) (s := S4x256x128) (e := .f32) _ (ix3 (⟨3, by decide⟩ : Fin 4) r l) = f3 (pairOf X 3) (ix3 0 r l)
    exact (at_part 3 (by decide) _ t3 _ r l).trans (congrFun e3 _)

end Layers

section Body

variable (c : Dev nD) (i : grid0.Coords) (a2 : Memref sig .tc .vmem S32x512 .bf16) (h2 : a2.IsWhole)
  (a3 : Memref sig .tc .vmem S32x512 .bf16) (h3 : a3.IsWhole) (a4 : Memref sig .tc .vmem S32x1024 .bf16) (h4 : a4.IsWhole)
  (a5 : Memref sig .tc .vmem S32x1024 .bf16) (h5 : a5.IsWhole) (a6 : Memref sig .tc .vmem S32x128 .bf16) (h6 : a6.IsWhole)
  (a7 : Memref sig .tc .vmem S128x512 .bf16) (h7 : a7.IsWhole) (a8 : Memref sig .tc .vmem S1x512 .f32) (h8 : a8.IsWhole)
  (a9 : Memref sig .tc .vmem S1x128 .f32) (h9 : a9.IsWhole) (a10 : Memref sig .tc .vmem S1x4x256x128 .f32) (h10 : a10.IsWhole)
  (a11 : Memref sig .tc .vmem S32x1024 .bf16) (h11 : a11.IsWhole) (a12 : Memref sig .tc .vmem S1x4x256x128 .f32) (h12 : a12.IsWhole)
  (a13 : Memref sig .tc .vmem S4x256x128 .f32) (h13 : a13.IsWhole)
  (q k : S32x512.Idx → EReal) (v u : S32x1024.Idx → EReal) (la : S32x128.Idx → EReal) (wl : S128x512.Idx → EReal)
  (bl : S1x512.Idx → EReal) (gn : S1x128.Idx → EReal) (s : S1x4x256x128.Idx → EReal)

theorem origin4 : (![0, 0, 0, 0] : Fin 4 → ℕ) = fun _ => 0 := funext fun a => by fin_cases a <;> rfl

theorem origin2 : (![0, 0] : Fin 2 → ℕ) = fun _ => 0 := funext fun a => by fin_cases a <;> rfl

/-- A pair of heads' next state, at an entry: what was there, decayed, and the values times the keys of the heads' own. -/
def nextAt (p : Fin 4) (r : Fin 256) (l : Fin 128) : EReal :=
  Ideal.exp (upTo (fun j => logDecay (gate wl bl la j ⟨128 * p.val + l.val, by have := p.isLt; have := l.isLt; omega⟩)) 31) * s (ix4 0 p r l)
    + if r.val < 128 ↔ l.val < 64 then
        ∑ j : Fin 32, v (ix2 j ⟨256 * p.val + r.val, by have := p.isLt; have := r.isLt; omega⟩)
          * (k (ix2 j ⟨128 * p.val + l.val, by have := p.isLt; have := l.isLt; omega⟩)
            * Ideal.exp (upTo (fun j => logDecay (gate wl bl la j ⟨128 * p.val + l.val, by have := p.isLt; have := l.isLt; omega⟩)) 31
              - upTo (fun j => logDecay (gate wl bl la j ⟨128 * p.val + l.val, by have := p.isLt; have := l.isLt; omega⟩)) j))
      else 0

theorem ld_gate (inb) : View.ld (Val := Elt Ideal) (e' := .bf16) la (Rect.unit (s := S32x128) ![BitVec.toNat (Scalar.indexCast (Scalar.muli 0#32 32#32)), 0] ![32, 128] inb) = la :=
  funext fun i => congrArg la (funext fun a => Fin.ext (by
    fin_cases a
    · show 0 + 1 * (i 0).val = (i 0).val; omega
    · show 0 + 1 * (i 1).val = (i 1).val; omega))
theorem ld_keys (inb) : View.ld (Val := Elt Ideal) (e' := .bf16) k (Rect.unit (s := S32x512) ![BitVec.toNat (Scalar.indexCast (Scalar.muli 0#32 32#32)), 0] ![32, 512] inb) = k :=
  funext fun i => congrArg k (funext fun a => Fin.ext (by
    fin_cases a
    · show 0 + 1 * (i 0).val = (i 0).val; omega
    · show 0 + 1 * (i 1).val = (i 1).val; omega))
theorem ld_values (n : ℕ) (inb) (hn : n + 256 ≤ 1024) (j : Fin 32) (r : Fin 256) :
    View.ld (Val := Elt Ideal) (e' := .bf16) v (Rect.unit (s := S32x1024) ![BitVec.toNat (Scalar.indexCast (Scalar.muli 0#32 32#32)), n] ![32, 256] inb) (ix2 j r)
      = v (ix2 j ⟨n + r.val, by have := r.isLt; omega⟩) :=
  congrArg v (funext fun a => Fin.ext (by
    fin_cases a
    · show 0 + 1 * j.val = j.val; omega
    · show n + 1 * r.val = n + r.val; omega))

theorem pay1_apply (x : S4x256x128.Idx → EReal) (p : Fin 4) (r : Fin 256) (l : Fin 128) : k0_pay1 (F := Ideal) x (ix4 0 p r l) = x (ix3 p r l) := by
  pointwise [k0_pay1]
theorem pay2_apply (x : S1x4x256x128.Idx → EReal) (p : Fin 4) (r : Fin 256) (l : Fin 128) : k0_pay2 (F := Ideal) x (ix3 p r l) = x (ix4 0 p r l) := by
  pointwise [k0_pay2]

/-- A chunk's keys as its end sees them, and its decay, as the body computes them. -/
abbrev endKeys (LA : S32x128.Idx → EReal) (KK : S32x512.Idx → EReal) : S32x512.Idx → EReal :=
  k0_pay16 (F := Ideal) k0_pay4 (k0_pay8 (F := Ideal) wl bl LA) (k0_pay9 (F := Ideal) wl bl LA) k0_pay10 KK
abbrev decays (LA : S32x128.Idx → EReal) : S1x512.Idx → EReal :=
  k0_pay17 (F := Ideal) k0_pay4 (k0_pay8 (F := Ideal) wl bl LA) (k0_pay9 (F := Ideal) wl bl LA) k0_pay10

theorem pairs (LA : S32x128.Idx → EReal) (KK : S32x512.Idx → EReal) (hl : LA = la) (hk : KK = k) (p : Fin 4) (r : Fin 256) (l : Fin 128) :
    (![(k0_pay25 (F := Ideal) k0_pay6 (endKeys wl bl LA KK) (decays wl bl LA) (View.ld (Val := Elt Ideal) (e' := .bf16) v (Rect.unit (s := S32x1024) ![BitVec.toNat (Scalar.indexCast (Scalar.muli 0#32 32#32)), 0] ![32, 256] k0_off3_inb))),
      (k0_pay38 (F := Ideal) k0_pay6 (endKeys wl bl LA KK) (decays wl bl LA) (View.ld (Val := Elt Ideal) (e' := .bf16) v (Rect.unit (s := S32x1024) ![BitVec.toNat (Scalar.indexCast (Scalar.muli 0#32 32#32)), 256] ![32, 256] k0_off6_inb))),
      (k0_pay50 (F := Ideal) k0_pay6 (endKeys wl bl LA KK) (decays wl bl LA) (View.ld (Val := Elt Ideal) (e' := .bf16) v (Rect.unit (s := S32x1024) ![BitVec.toNat (Scalar.indexCast (Scalar.muli 0#32 32#32)), 512] ![32, 256] k0_off9_inb))),
      (k0_pay62 (F := Ideal) k0_pay6 (endKeys wl bl LA KK) (decays wl bl LA) (View.ld (Val := Elt Ideal) (e' := .bf16) v (Rect.unit (s := S32x1024) ![BitVec.toNat (Scalar.indexCast (Scalar.muli 0#32 32#32)), 768] ![32, 256] k0_off12_inb)))] p)
      (pairOf (k0_pay2 (F := Ideal) s) p) (ix3 0 r l) = nextAt k v la wl bl s p r l := by
  subst hl hk
  unfold nextAt
  have hm := mask_apply r l
  fin_cases p
  · show k0_pay25 (F := Ideal) k0_pay6 (endKeys wl bl LA KK) (decays wl bl LA) (View.ld (Val := Elt Ideal) (e' := .bf16) v (Rect.unit (s := S32x1024) ![BitVec.toNat (Scalar.indexCast (Scalar.muli 0#32 32#32)), 0] ![32, 256] k0_off3_inb)) (pairOf (k0_pay2 (F := Ideal) s) 0) (ix3 0 r l) = _
    exact (pair0_apply _ _ _ _ r l).trans (congrArg₂ (· + ·) (congrArg₂ (· * ·) (decay_apply wl bl LA _) (pay2_apply s 0 r l))
      (if_congr hm (Finset.sum_congr rfl fun j _ => congrArg₂ (· * ·) (ld_values v 0 _ (by decide) j r) (end_apply wl bl LA KK j _)) rfl))
  · show k0_pay38 (F := Ideal) k0_pay6 (endKeys wl bl LA KK) (decays wl bl LA) (View.ld (Val := Elt Ideal) (e' := .bf16) v (Rect.unit (s := S32x1024) ![BitVec.toNat (Scalar.indexCast (Scalar.muli 0#32 32#32)), 256] ![32, 256] k0_off6_inb)) (pairOf (k0_pay2 (F := Ideal) s) 1) (ix3 0 r l) = _
    exact (pair1_apply _ _ _ _ r l).trans (congrArg₂ (· + ·) (congrArg₂ (· * ·) (decay_apply wl bl LA _) (pay2_apply s 1 r l))
      (if_congr hm (Finset.sum_congr rfl fun j _ => congrArg₂ (· * ·) (ld_values v 256 _ (by decide) j r) (end_apply wl bl LA KK j _)) rfl))
  · show k0_pay50 (F := Ideal) k0_pay6 (endKeys wl bl LA KK) (decays wl bl LA) (View.ld (Val := Elt Ideal) (e' := .bf16) v (Rect.unit (s := S32x1024) ![BitVec.toNat (Scalar.indexCast (Scalar.muli 0#32 32#32)), 512] ![32, 256] k0_off9_inb)) (pairOf (k0_pay2 (F := Ideal) s) 2) (ix3 0 r l) = _
    exact (pair2_apply _ _ _ _ r l).trans (congrArg₂ (· + ·) (congrArg₂ (· * ·) (decay_apply wl bl LA _) (pay2_apply s 2 r l))
      (if_congr hm (Finset.sum_congr rfl fun j _ => congrArg₂ (· * ·) (ld_values v 512 _ (by decide) j r) (end_apply wl bl LA KK j _)) rfl))
  · show k0_pay62 (F := Ideal) k0_pay6 (endKeys wl bl LA KK) (decays wl bl LA) (View.ld (Val := Elt Ideal) (e' := .bf16) v (Rect.unit (s := S32x1024) ![BitVec.toNat (Scalar.indexCast (Scalar.muli 0#32 32#32)), 768] ![32, 256] k0_off12_inb)) (pairOf (k0_pay2 (F := Ideal) s) 3) (ix3 0 r l) = _
    exact (pair3_apply _ _ _ _ r l).trans (congrArg₂ (· + ·) (congrArg₂ (· * ·) (decay_apply wl bl LA _) (pay2_apply s 3 r l))
      (if_congr hm (Finset.sum_congr rfl fun j _ => congrArg₂ (· * ·) (ld_values v 768 _ (by decide) j r) (end_apply wl bl LA KK j _)) rfl))

theorem stores (hc0 : cond0_0 i) (hc1 : cond0_1 i) (p : Fin 4) (r : Fin 256) (l : Fin 128) :
    out0_A_10 (F := Ideal) c i a2 h2 a3 h3 a4 h4 a5 h5 a6 h6 a7 h7 a8 h8 a9 h9 a10 h10 a11 h11 a12 h12 a13 h13 hc0 hc1 q k v u la wl bl gn s (ix4 0 p r l)
      = nextAt k v la wl bl s p r l := by
  unfold out0_A_10
  rw [View.read_writes_junk_eq_canon]
  unfold kernelRun0_A
  dsimp only
  sl_unfold_words
  rw [View.canon_unit_zero origin4]
  simp only [View.readAt_eq_ld, h3.read_unread, h4.read_unread, h6.read_unread, h7.read_unread, h8.read_unread, h10.read_unread,
    View.ld_unit_zero (S := S1x4x256x128) origin4, View.ld_unit_zero (S := S1x512) origin2, View.ld_unit_zero (S := S128x512) origin2]
  rw [pay1_apply]
  exact (layered a13.view (k0_pay2 (F := Ideal) s) (k0_pay25 (F := Ideal) k0_pay6 (endKeys wl bl (View.ld (Val := Elt Ideal) (e' := .bf16) la (Rect.unit (s := S32x128) ![BitVec.toNat (Scalar.indexCast (Scalar.muli 0#32 32#32)), 0] ![32, 128] k0_off1_inb)) (View.ld (Val := Elt Ideal) (e' := .bf16) k (Rect.unit (s := S32x512) ![BitVec.toNat (Scalar.indexCast (Scalar.muli 0#32 32#32)), 0] ![32, 512] k0_off2_inb))) (decays wl bl (View.ld (Val := Elt Ideal) (e' := .bf16) la (Rect.unit (s := S32x128) ![BitVec.toNat (Scalar.indexCast (Scalar.muli 0#32 32#32)), 0] ![32, 128] k0_off1_inb))) (View.ld (Val := Elt Ideal) (e' := .bf16) v (Rect.unit (s := S32x1024) ![BitVec.toNat (Scalar.indexCast (Scalar.muli 0#32 32#32)), 0] ![32, 256] k0_off3_inb)))
    (k0_pay38 (F := Ideal) k0_pay6 (endKeys wl bl (View.ld (Val := Elt Ideal) (e' := .bf16) la (Rect.unit (s := S32x128) ![BitVec.toNat (Scalar.indexCast (Scalar.muli 0#32 32#32)), 0] ![32, 128] k0_off1_inb)) (View.ld (Val := Elt Ideal) (e' := .bf16) k (Rect.unit (s := S32x512) ![BitVec.toNat (Scalar.indexCast (Scalar.muli 0#32 32#32)), 0] ![32, 512] k0_off2_inb))) (decays wl bl (View.ld (Val := Elt Ideal) (e' := .bf16) la (Rect.unit (s := S32x128) ![BitVec.toNat (Scalar.indexCast (Scalar.muli 0#32 32#32)), 0] ![32, 128] k0_off1_inb))) (View.ld (Val := Elt Ideal) (e' := .bf16) v (Rect.unit (s := S32x1024) ![BitVec.toNat (Scalar.indexCast (Scalar.muli 0#32 32#32)), 256] ![32, 256] k0_off6_inb)))
    (k0_pay50 (F := Ideal) k0_pay6 (endKeys wl bl (View.ld (Val := Elt Ideal) (e' := .bf16) la (Rect.unit (s := S32x128) ![BitVec.toNat (Scalar.indexCast (Scalar.muli 0#32 32#32)), 0] ![32, 128] k0_off1_inb)) (View.ld (Val := Elt Ideal) (e' := .bf16) k (Rect.unit (s := S32x512) ![BitVec.toNat (Scalar.indexCast (Scalar.muli 0#32 32#32)), 0] ![32, 512] k0_off2_inb))) (decays wl bl (View.ld (Val := Elt Ideal) (e' := .bf16) la (Rect.unit (s := S32x128) ![BitVec.toNat (Scalar.indexCast (Scalar.muli 0#32 32#32)), 0] ![32, 128] k0_off1_inb))) (View.ld (Val := Elt Ideal) (e' := .bf16) v (Rect.unit (s := S32x1024) ![BitVec.toNat (Scalar.indexCast (Scalar.muli 0#32 32#32)), 512] ![32, 256] k0_off9_inb)))
    (k0_pay62 (F := Ideal) k0_pay6 (endKeys wl bl (View.ld (Val := Elt Ideal) (e' := .bf16) la (Rect.unit (s := S32x128) ![BitVec.toNat (Scalar.indexCast (Scalar.muli 0#32 32#32)), 0] ![32, 128] k0_off1_inb)) (View.ld (Val := Elt Ideal) (e' := .bf16) k (Rect.unit (s := S32x512) ![BitVec.toNat (Scalar.indexCast (Scalar.muli 0#32 32#32)), 0] ![32, 512] k0_off2_inb))) (decays wl bl (View.ld (Val := Elt Ideal) (e' := .bf16) la (Rect.unit (s := S32x128) ![BitVec.toNat (Scalar.indexCast (Scalar.muli 0#32 32#32)), 0] ![32, 128] k0_off1_inb))) (View.ld (Val := Elt Ideal) (e' := .bf16) v (Rect.unit (s := S32x1024) ![BitVec.toNat (Scalar.indexCast (Scalar.muli 0#32 32#32)), 768] ![32, 256] k0_off12_inb)))
    _ _ _ _ rfl rfl rfl rfl p r l).trans (pairs k v la wl bl s _ _ (ld_gate la _) (ld_keys k _) p r l)

end Body

end Cert.GlaStateIdeal.Gla
end
-- ==== Proof.GlaLeft.lean ====
/-
  THE LINEAR ATTENTION'S STATES, AS THE CALL LEAVES THEM. A grid point takes one sequence's rows of the projection and
  the sequence's states, and leaves the sequence's next states; the points' blocks cover the array.
-/
module

public import proofs.«01_k».proof.Proof.GlaArray

@[expose] public section

set_option maxRecDepth 16384

noncomputable section

namespace Cert.GlaStateIdeal.Gla

open Cert.GlaStateIdeal Cert.GlaStateIdeal.Gen
open Idealize.ShloMosaic Idealize.ShloMosaic.TcCoe Idealize.SL.Sem
open Idealize.ShloMosaic.Pipeline (Dat Window)
open Cert.Gla
open scoped BigOperators

section Array

variable (m : (ℓ : Loc nD τ sig) → Buf (Elt Ideal) ℓ) (c : Dev nD)

/-- The arrays that the region reads: the projection, the gate's weight and bias, the states. -/
abbrev rows : S16896x6272.Idx → EReal := V m c main_arg0
abbrev weight : S128x512.Idx → EReal := V m c main_v19
abbrev bias : S1x512.Idx → EReal := V m c main_v20
abbrev states : S16x4x256x128.Idx → EReal := V m c main_v15

/-- The projection's row of a sequence's position. -/
def rowOf (b : Fin 16) (j : Fin 32) : Fin 16896 := ⟨16384 + 32 * b.val + j.val, by have := b.isLt; have := j.isLt; omega⟩

/-- A sequence's keys, values, gate entries and states. -/
def keys (b : Fin 16) : S32x512.Idx → EReal := fun i => rows m c (ix2 (rowOf b (i 0)) ⟨512 + (i 1).val, by have h : (i 1).val < 512 := (i 1).isLt; omega⟩)
def values (b : Fin 16) : S32x1024.Idx → EReal := fun i => rows m c (ix2 (rowOf b (i 0)) ⟨1024 + (i 1).val, by have h : (i 1).val < 1024 := (i 1).isLt; omega⟩)
def gates (b : Fin 16) : S32x128.Idx → EReal := fun i => rows m c (ix2 (rowOf b (i 0)) ⟨6144 + (i 1).val, by have h : (i 1).val < 128 := (i 1).isLt; omega⟩)
def stateOf (b : Fin 16) : S1x4x256x128.Idx → EReal := fun i => states m c (ix4 b (i 1) (i 2) (i 3))

/-- The sequences' next states. -/
def nextStates : S16x4x256x128.Idx → EReal := fun i =>
  nextAt (keys m c (i 0)) (values m c (i 0)) (gates m c (i 0)) (weight m c) (bias m c) (stateOf m c (i 0)) (i 1) (i 2) (i 3)

theorem coord0 : ∀ t : Fin grid0.N, (grid0.coords t 0).val = t.val := by decide +kernel
theorem coord1 : ∀ t : Fin grid0.N, (grid0.coords t 1).val = 0 := by decide +kernel
theorem index1 (i : grid0.Coords) : cc0_transform_1 i = ![512 + (i 0).val, 1] := by
  have h : (i 0).val < 16 := (i 0).isLt
  have h1 : (i 1).val < 1 := (i 1).isLt
  unfold cc0_transform_1
  simp [BitVec.toNat_ofNat, Scalar.muli, Scalar.addi, IntOp.muli, IntOp.addi]
  omega
theorem index2 (i : grid0.Coords) : cc0_transform_2 i = ![512 + (i 0).val, 1] := by
  have h : (i 0).val < 16 := (i 0).isLt
  have h1 : (i 1).val < 1 := (i 1).isLt
  unfold cc0_transform_2
  simp [BitVec.toNat_ofNat, Scalar.muli, Scalar.addi, IntOp.muli, IntOp.addi]
  omega
theorem index4 (i : grid0.Coords) : cc0_transform_4 i = ![512 + (i 0).val, 48] := by
  have h : (i 0).val < 16 := (i 0).isLt
  have h1 : (i 1).val < 1 := (i 1).isLt
  unfold cc0_transform_4
  simp [BitVec.toNat_ofNat, Scalar.muli, Scalar.addi, IntOp.muli, IntOp.addi]
  omega
theorem index5 (i : grid0.Coords) : cc0_transform_5 i = ![0, 0] := rfl
theorem index6 (i : grid0.Coords) : cc0_transform_6 i = ![0, 0] := rfl
theorem index8 (i : grid0.Coords) : cc0_transform_8 i = ![(i 0).val, 0, 0, 0] := by
  have h : (i 0).val < 16 := (i 0).isLt
  have h1 : (i 1).val < 1 := (i 1).isLt
  unfold cc0_transform_8
  simp [BitVec.toNat_ofNat, Scalar.muli, Scalar.addi, IntOp.muli, IntOp.addi]
  omega
theorem index10 (i : grid0.Coords) : cc0_transform_10 i = ![(i 0).val, 0, 0, 0] := by
  have h : (i 0).val < 16 := (i 0).isLt
  have h1 : (i 1).val < 1 := (i 1).isLt
  unfold cc0_transform_10
  simp [BitVec.toNat_ofNat, Scalar.muli, Scalar.addi, IntOp.muli, IntOp.addi]
  omega

theorem points : cfg0.N = 16 := N_0

/-- A point's sequence. -/
def seqOf (t : Fin cfg0.N) : Fin 16 := ⟨t.val, points ▸ t.isLt⟩

/-- The keys at a point. -/
theorem block_keys (t : Fin cfg0.N) : X0_1 m c t = keys m c (seqOf t) := by
  funext i
  unfold X0_1 Pipeline.Window.fill
  rw [dif_pos (moved0_1 t i)]
  unfold iblk
  rw [View.read_apply]
  show rows m c _ = rows m c _
  refine congrArg _ (funext fun a => Fin.ext ?_)
  have hb := Window.rect_emb_val (cfg0.win 1) t (fun a => ⟨(i a).val, ((cfg0.win 1).moved_iff _ i).mp (moved0_1 t i) a⟩) a
  have hi := congrFun (index1 (grid0.coords t)) a
  refine (hb.trans (congrArg (fun n => n * (cfg0.win 1).size a + (i a).val) hi)).trans ?_
  have hc : (grid0.coords t 0).val = t.val := coord0 t
  fin_cases a
  · show (512 + (grid0.coords t 0).val) * 32 + (i 0).val = 16384 + 32 * t.val + (i 0).val
    omega
  · show 1 * 512 + (i 1).val = 512 + (i 1).val
    omega

/-- The values at a point. -/
theorem block_values (t : Fin cfg0.N) : X0_2 m c t = values m c (seqOf t) := by
  funext i
  unfold X0_2 Pipeline.Window.fill
  rw [dif_pos (moved0_2 t i)]
  unfold iblk
  rw [View.read_apply]
  show rows m c _ = rows m c _
  refine congrArg _ (funext fun a => Fin.ext ?_)
  have hb := Window.rect_emb_val (cfg0.win 2) t (fun a => ⟨(i a).val, ((cfg0.win 2).moved_iff _ i).mp (moved0_2 t i) a⟩) a
  have hi := congrFun (index2 (grid0.coords t)) a
  refine (hb.trans (congrArg (fun n => n * (cfg0.win 2).size a + (i a).val) hi)).trans ?_
  have hc : (grid0.coords t 0).val = t.val := coord0 t
  fin_cases a
  · show (512 + (grid0.coords t 0).val) * 32 + (i 0).val = 16384 + 32 * t.val + (i 0).val
    omega
  · show 1 * 1024 + (i 1).val = 1024 + (i 1).val
    omega

/-- The gate's entries at a point. -/
theorem block_gates (t : Fin cfg0.N) : iblk m c 4 t = gates m c (seqOf t) := by
  funext i
  unfold iblk
  rw [View.read_apply]
  show rows m c _ = rows m c _
  refine congrArg _ (funext fun a => Fin.ext ?_)
  have hb := Window.rect_emb_val (cfg0.win 4) t (fun a => ⟨(i a).val, (i a).isLt⟩) a
  have hi := congrFun (index4 (grid0.coords t)) a
  refine (hb.trans (congrArg (fun n => n * (cfg0.win 4).size a + (i a).val) hi)).trans ?_
  have hc : (grid0.coords t 0).val = t.val := coord0 t
  fin_cases a
  · show (512 + (grid0.coords t 0).val) * 32 + (i 0).val = 16384 + 32 * t.val + (i 0).val
    omega
  · show 48 * 128 + (i 1).val = 6144 + (i 1).val
    omega

/-- The gate's weight at a point. -/
theorem block_weight (t : Fin cfg0.N) : iblk m c 5 t = weight m c := by
  funext i
  unfold iblk
  rw [View.read_apply]
  show weight m c _ = weight m c _
  refine congrArg _ (funext fun a => Fin.ext ?_)
  have hb := Window.rect_emb_val (cfg0.win 5) t i a
  have hi := congrFun (index5 (grid0.coords t)) a
  refine (hb.trans (congrArg (fun n => n * (cfg0.win 5).size a + (i a : ℕ)) hi)).trans ?_
  fin_cases a
  · show 0 * 128 + (i 0).val = (i 0).val
    omega
  · show 0 * 512 + (i 1).val = (i 1).val
    omega

/-- The gate's bias at a point. -/
theorem block_bias (t : Fin cfg0.N) : iblk m c 6 t = bias m c := by
  funext i
  unfold iblk
  rw [View.read_apply]
  show bias m c _ = bias m c _
  refine congrArg _ (funext fun a => Fin.ext ?_)
  have hb := Window.rect_emb_val (cfg0.win 6) t i a
  have hi := congrFun (index6 (grid0.coords t)) a
  refine (hb.trans (congrArg (fun n => n * (cfg0.win 6).size a + (i a : ℕ)) hi)).trans ?_
  fin_cases a
  · show 0 * 1 + (i 0).val = (i 0).val
    omega
  · show 0 * 512 + (i 1).val = (i 1).val
    omega

/-- The states at a point. -/
theorem block_states (t : Fin cfg0.N) : iblk m c 8 t = stateOf m c (seqOf t) := by
  funext i
  unfold iblk
  rw [View.read_apply]
  show states m c _ = states m c (ix4 (seqOf t) (i 1) (i 2) (i 3))
  refine congrArg _ (funext fun a => Fin.ext ?_)
  have hb := Window.rect_emb_val (cfg0.win 8) t i a
  have hi := congrFun (index8 (grid0.coords t)) a
  refine (hb.trans (congrArg (fun n => n * (cfg0.win 8).size a + (i a : ℕ)) hi)).trans ?_
  have hc : (grid0.coords t 0).val = t.val := coord0 t
  have h0 : (i 0).val < 1 := (i 0).isLt
  fin_cases a
  · show (grid0.coords t 0).val * 1 + (i 0).val = t.val
    omega
  · show 0 * 4 + (i 1).val = (i 1).val
    omega
  · show 0 * 256 + (i 2).val = (i 2).val
    omega
  · show 0 * 128 + (i 3).val = (i 3).val
    omega

/-- A point's block of the next states. -/
theorem next_block (t : Fin cfg0.N) : ((cfg0.win 10).blk t).view.read (Elt Ideal) (nextStates m c) = fun i => nextStates m c (ix4 (seqOf t) (i 1) (i 2) (i 3)) := by
  funext i
  rw [View.read_apply]
  show nextStates m c _ = nextStates m c (ix4 (seqOf t) (i 1) (i 2) (i 3))
  refine congrArg _ (funext fun a => Fin.ext ?_)
  have hb := Window.rect_emb_val (cfg0.win 10) t i a
  have hi := congrFun (index10 (grid0.coords t)) a
  refine (hb.trans (congrArg (fun n => n * (cfg0.win 10).size a + (i a : ℕ)) hi)).trans ?_
  have hc : (grid0.coords t 0).val = t.val := coord0 t
  have h0 : (i 0).val < 1 := (i 0).isLt
  fin_cases a
  · show (grid0.coords t 0).val * 1 + (i 0).val = t.val
    omega
  · show 0 * 4 + (i 1).val = (i 1).val
    omega
  · show 0 * 256 + (i 2).val = (i 2).val
    omega
  · show 0 * 128 + (i 3).val = (i 3).val
    omega

/-- What a point leaves in its block. -/
theorem left_block (t : Fin cfg0.N) (p : Fin 4) (r : Fin 256) (l : Fin 128) :
    (outsAt0 m c t).2 (ix4 0 p r l) = nextStates m c (ix4 (seqOf t) p r l) := by
  unfold outsAt0
  dsimp only
  refine (stores c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) (X0_0 m c t) (X0_1 m c t) (X0_2 m c t) (X0_3 m c t) (iblk m c 4 t) (iblk m c 5 t) (iblk m c 6 t)
    (iblk m c 7 t) (iblk m c 8 t) (hcond0_0 t) (hcond0_1 t) p r l).trans ?_
  show _ = nextAt (keys m c (seqOf t)) (values m c (seqOf t)) (gates m c (seqOf t)) (weight m c) (bias m c) (stateOf m c (seqOf t)) p r l
  rw [block_keys, block_values, block_gates, block_weight, block_bias, block_states]

/-- An index of the states is in the block of its sequence's point. -/
theorem mem_block (t : Fin cfg0.N) (i : S16x4x256x128.Idx) (h0 : (i 0 : ℕ) = t.val) :
    i ∈ ((cfg0.win 10).blk t).view.set := by
  show i ∈ ((View.whole main_v22_1).slice ((cfg0.win 10).rect t)).set
  rw [View.set_slice_whole, Window.mem_rect_iff (cfg0.win 10) t i rfl]
  intro a
  have hx : (cfg0.win 10).index t a = (![(grid0.coords t 0).val, 0, 0, 0] : Fin 4 → ℕ) a := congrFun (index10 (grid0.coords t)) a
  have hc0 : (grid0.coords t 0).val = t.val := coord0 t
  have h1 : (i 1 : ℕ) < 4 := (i 1).isLt
  have h2 : (i 2 : ℕ) < 256 := (i 2).isLt
  have h3 : (i 3 : ℕ) < 128 := (i 3).isLt
  rw [hx]
  fin_cases a
  · show (grid0.coords t 0).val * 1 ≤ (i 0 : ℕ) ∧ (i 0 : ℕ) < (grid0.coords t 0).val * 1 + 1
    omega
  · show 0 * 4 ≤ (i 1 : ℕ) ∧ (i 1 : ℕ) < 0 * 4 + 4
    omega
  · show 0 * 256 ≤ (i 2 : ℕ) ∧ (i 2 : ℕ) < 0 * 256 + 256
    omega
  · show 0 * 128 ≤ (i 3 : ℕ) ∧ (i 3 : ℕ) < 0 * 128 + 128
    omega

/-- The points' blocks cover the states. -/
theorem cover (i : S16x4x256x128.Idx) : ∃ t : Fin cfg0.N, (cfg0.win 10).flush t = true ∧ i ∈ ((cfg0.win 10).blk t).view.set :=
  ⟨⟨(i 0 : ℕ), points ▸ (i 0).isLt⟩, flush0_10 _, mem_block _ i rfl⟩

/-- The call leaves the next states. -/
theorem array_left : (dats m 0 c).arrAt 10 cfg0.N = nextStates m c := by
  refine (dats m 0 c).arrAt_eq_of_cover 10 (nextStates m c) (fun t _ => ?_) cover
  show (cfg0.win 10).cut (grid0.coords t) ((dats m 0 c).after 10 t) = _
  rw [after0_10]
  funext j
  obtain ⟨a, p, r, l, rfl⟩ : ∃ a p r l, j = ix4 a p r l := ⟨j 0, j 1, j 2, j 3, eq_ix4 j⟩
  obtain rfl : a = 0 := Subsingleton.elim (α := Fin 1) _ _
  refine Eq.trans ?_ (congrFun (next_block m c t) (ix4 0 p r l)).symm
  exact left_block m c t p r l

end Array

end Cert.GlaStateIdeal.Gla

end
-- ==== Proof.GlaRef.lean ====
/-
  THE REFERENCE'S STATES. The reference sums the log decays over a sequence's 32 positions as one window of a running
  sum; a head's next state is its state, decayed, and the values times the keys, each decayed to the sequence's end.
-/
module

public import proofs.«01_k».proof.Proof.GlaHostOps
public import proofs.«01_k».proof.Proof.GlaLeft

@[expose] public section

set_option maxRecDepth 16384

noncomputable section

namespace Cert.GlaStateIdeal.Gla

open Cert.GlaStateIdeal Cert.GlaStateIdeal.Gen
open Idealize.ShloMosaic Idealize.ShloMosaic.TcCoe Idealize.SL.Sem
open Cert.Gla
open Cert.GlaStateReferenceIdeal.Read
open scoped BigOperators

section Reference

variable (z : S16896x6272.Idx → EReal) (s : S1x16x8x64x128.Idx → EReal) (w : S1x16x512.Idx → EReal) (a : S1x512.Idx → EReal)

/-- The column of a head's key or gate entry, and of a head's value. -/
def keyCol (h : Fin 8) (k : Fin 64) : Fin 512 := ⟨h.val * 64 + k.val, by have := h.isLt; have := k.isLt; omega⟩
def valueCol (h : Fin 8) (v : Fin 128) : Fin 1024 := ⟨h.val * 128 + v.val, by have := h.isLt; have := v.isLt; omega⟩

/-- The reference's gate. -/
def refGate (b : Fin 16) (j : Fin 32) (d : Fin 512) : EReal :=
  (∑ e : Fin 16, z (ix2 (rowOf b j) ⟨6144 + e.val, by have := e.isLt; omega⟩) * w (ix3 0 e d)) + a (ix2 0 d)

/-- Its gate is that. -/
theorem ref_gate (b : Fin 16) (j : Fin 32) (d : Fin 512) : val_main_v13 (F := Ideal) z w a (ix3 b j d) = refGate z w a b j d := by
  pointwise [val_main_v13, val_main_v12, val_main_v11, val_main_v10, val_main_v9, val_main_v8, val_main_v7, val_main_v2, val_main_v1, val_main_v0]
  unfold refGate rowOf
  refine congrArg (· + _) (Finset.sum_congr rfl fun e _ => congrArg (· * _) (congrArg z (congrArg₂ ix2 (Fin.ext ?_) rfl)))
  show 16384 + (b.val * 32 + j.val) = 16384 + 32 * b.val + j.val
  omega

/-- Its log decay. -/
theorem ref_decay (b : Fin 16) (j : Fin 32) (h : Fin 8) (k : Fin 64) :
    val_main_v17 (F := Ideal) z w a (ix4 b j h k) = logDecay (refGate z w a b j (keyCol h k)) := by
  rw [← ref_gate]
  pointwise [val_main_v17, val_main_v16, val_main_cst, val_main_v15, val_main_v14, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [if_neg (fun h => h rfl), div_sixteen]
  show -(max (-val_main_v13 (F := Ideal) z w a (ix3 b j (keyCol h k))) 0
    + Ideal.log1p (Ideal.exp (-(max (-val_main_v13 (F := Ideal) z w a (ix3 b j (keyCol h k))) (-(-val_main_v13 (F := Ideal) z w a (ix3 b j (keyCol h k)))))))) * _ = _
  rw [neg_neg, max_comm (-val_main_v13 (F := Ideal) z w a (ix3 b j (keyCol h k))) (val_main_v13 (F := Ideal) z w a (ix3 b j (keyCol h k)))]
  rfl

/-- The running sum of its log decays. -/
theorem ref_running (b : Fin 16) (j : Fin 32) (h : Fin 8) (k : Fin 64) :
    val_main_v18 (F := Ideal) z w a (ix4 b j h k) = upTo (fun j => logDecay (refGate z w a b j (keyCol h k))) j := by
  unfold val_main_v18
  refine (running_apply _ _ (fun q => ?_) _ b j h k).trans (congrArg (fun f => upTo f j) (funext fun j => ref_decay z w a b j h k))
  exact Ideal.ofBits_zero_f32

/-- The reference's state after the sequence. -/
def nextRef (b : Fin 16) (h : Fin 8) (k : Fin 64) (v : Fin 128) : EReal :=
  Ideal.exp (upTo (fun j => logDecay (refGate z w a b j (keyCol h k))) 31) * s (ix5 0 b h k v)
    + ∑ j : Fin 32, z (ix2 (rowOf b j) ⟨512 + (keyCol h k).val, by have := (keyCol h k).isLt; omega⟩)
        * Ideal.exp (upTo (fun j => logDecay (refGate z w a b j (keyCol h k))) 31 - upTo (fun j => logDecay (refGate z w a b j (keyCol h k))) j)
        * z (ix2 (rowOf b j) ⟨1024 + (valueCol h v).val, by have := (valueCol h v).isLt; omega⟩)

/-- Its result. -/
theorem ref_state (b : Fin 16) (h : Fin 8) (k : Fin 64) (v : Fin 128) :
    val_main_v32 (F := Ideal) z s w a (ix5 0 b h k v) = nextRef z s w a b h k v := by
  pointwise [val_main_v32, val_main_v31, val_main_v30, val_main_v29, val_main_v28, val_main_v27, val_main_v26, val_main_v25, val_main_v24, val_main_v23, val_main_v22, val_main_v21, val_main_v20, val_main_v19, val_main_v6, val_main_v5, val_main_v4, val_main_v3, val_main_v2, val_main_v1, val_main_v0]
  simp only [ref_running]
  have hr : ∀ j : Fin 32, (⟨16384 + (b.val * 32 + j.val), by have := b.isLt; have := j.isLt; omega⟩ : Fin 16896) = rowOf b j := fun j =>
    Fin.ext (by show 16384 + (b.val * 32 + j.val) = 16384 + 32 * b.val + j.val; omega)
  simp only [hr]
  rfl

end Reference

end Cert.GlaStateIdeal.Gla

end
-- ==== Proof.GlaLayout.lean ====
/-
  THE ARRAYS AROUND THE CALL. The gate's weight is given rows of zeros below, and the heads' states are put pair by pair
  on the diagonal of a block twice as large; after the call the diagonal blocks are cut out again.
-/
module

public import proofs.«01_k».proof.Proof.GlaRef

@[expose] public section

set_option maxRecDepth 16384

noncomputable section

namespace Cert.GlaStateIdeal.Gla

open Cert.GlaStateIdeal Cert.GlaStateIdeal.Gen
open Idealize.ShloMosaic Idealize.ShloMosaic.TcCoe Idealize.SL.Sem
open Cert.Gla
open scoped BigOperators

section Layout

variable (s : S1x16x8x64x128.Idx → EReal) (w : S1x16x512.Idx → EReal) (a : S1x512.Idx → EReal) (y : S16x4x256x128.Idx → EReal)

/-- The gate's weight with rows of zeros below. -/
def widened : S128x512.Idx → EReal :=
  truncf (F := Ideal) .bf16 (Host.scatter scatter_S128x512_S1_S16x512_01_n_0_0 (fun _ b => b)
    (broadcastInDim S128x512 ![] bcast_S_S128x512 (constant (F := Ideal) S_ .f32 0x00000000#32) : FVec Ideal S128x512 .f32)
    (broadcastInDim S1 ![] bcast_S_S1 (constantI S_ 32 0#32)) (shapeCast S16x512 w shapeCasts_S1x16x512_S16x512)) bitsLt_bf16_f32

theorem truncated (x : S128x512.Idx → EReal) (i : S128x512.Idx) : truncf (F := Ideal) .bf16 (x : FVec Ideal S128x512 .f32) bitsLt_bf16_f32 i = x i := rfl

theorem widened_apply (e : Fin 128) (d : Fin 512) : widened w (ix2 e d) = if h : e.val < 16 then w (ix3 0 ⟨e.val, h⟩ d) else 0 := by
  have hu : ∀ e : Fin 16, shapeCast S16x512 w shapeCasts_S1x16x512_S16x512 (ix2 e d) = w (ix3 0 e d) := fun e => by pointwise []
  have hz : (broadcastInDim S128x512 ![] bcast_S_S128x512 (constant (F := Ideal) S_ .f32 0x00000000#32) : FVec Ideal S128x512 .f32) (ix2 e d) = 0 :=
    Ideal.ofBits_zero_f32
  have hs := written_apply (broadcastInDim S128x512 ![] bcast_S_S128x512 (constant (F := Ideal) S_ .f32 0x00000000#32) : FVec Ideal S128x512 .f32)
    (broadcastInDim S1 ![] bcast_S_S1 (constantI S_ 32 0#32)) (fun q => rfl) (shapeCast S16x512 w shapeCasts_S1x16x512_S16x512) e d
  rw [hz] at hs
  simp only [hu] at hs
  unfold widened
  exact (truncated _ _).trans hs

/-- The gate's bias as a row. -/
def biasRow : S1x512.Idx → EReal := shapeCast S1x512 (shapeCast S512 a shapeCasts_S1x512_S512) shapeCasts_S512_S1x512

theorem biasRow_apply (d : Fin 512) : biasRow a (ix2 0 d) = a (ix2 0 d) := by
  unfold biasRow
  pointwise []

/-- The heads' states, turned, two by two. -/
def halves : S16x4x2x128x64.Idx → EReal :=
  shapeCast S16x4x2x128x64 (transpose S16x8x128x64 [0, 1, 3, 2] (shapeCast S16x8x64x128 s shapeCasts_S1x16x8x64x128_S16x8x64x128)
    transposes_S16x8x64x128_S16x8x128x64_0_1_3_2) shapeCasts_S16x8x128x64_S16x4x2x128x64

/-- Each pair on the diagonal of one block. -/
def paired : S16x4x256x128.Idx → EReal :=
  concatenate S16x4x256x128 2
    [⟨S16x4x128x128, concatenate S16x4x128x128 3
        [⟨S16x4x128x64, shapeCast S16x4x128x64 (extractStridedSlice S16x4x1x128x64 ![0, 0, 0, 0, 0] (halves s) slices_S16x4x2x128x64_S16x4x1x128x64_0_0_0_0_0) shapeCasts_S16x4x1x128x64_S16x4x128x64⟩,
         ⟨S16x4x128x64, broadcastInDim S16x4x128x64 ![] bcast_S_S16x4x128x64 (constant (F := Ideal) S_ .f32 0x00000000#32)⟩]
        concatenates_S16x4x128x64_S16x4x128x64_S16x4x128x128_d3⟩,
     ⟨S16x4x128x128, concatenate S16x4x128x128 3
        [⟨S16x4x128x64, broadcastInDim S16x4x128x64 ![] bcast_S_S16x4x128x64 (constant (F := Ideal) S_ .f32 0x00000000#32)⟩,
         ⟨S16x4x128x64, shapeCast S16x4x128x64 (extractStridedSlice S16x4x1x128x64 ![0, 0, 1, 0, 0] (halves s) slices_S16x4x2x128x64_S16x4x1x128x64_0_0_1_0_0) shapeCasts_S16x4x1x128x64_S16x4x128x64⟩]
        concatenates_S16x4x128x64_S16x4x128x64_S16x4x128x128_d3⟩]
    concatenates_S16x4x128x128_S16x4x128x128_S16x4x256x128_d2

/-- The diagonal blocks, cut out and turned back. -/
def unpaired : S1x16x8x64x128.Idx → EReal :=
  broadcastInDim S1x16x8x64x128 ![1, 2, 3, 4] bcast_S16x8x64x128_S1x16x8x64x128_1_2_3_4
    (transpose S16x8x64x128 [0, 1, 3, 2] (shapeCast S16x8x128x64 (concatenate S16x4x2x128x64 2
      [⟨S16x4x1x128x64, broadcastInDim S16x4x1x128x64 ![0, 1, 3, 4] bcast_S16x4x128x64_S16x4x1x128x64_0_1_3_4
          (extractStridedSlice S16x4x128x64 ![0, 0, 0, 0] y slices_S16x4x256x128_S16x4x128x64_0_0_0_0)⟩,
       ⟨S16x4x1x128x64, broadcastInDim S16x4x1x128x64 ![0, 1, 3, 4] bcast_S16x4x128x64_S16x4x1x128x64_0_1_3_4
          (extractStridedSlice S16x4x128x64 ![0, 0, 128, 64] y slices_S16x4x256x128_S16x4x128x64_0_0_128_64)⟩]
      concatenates_S16x4x1x128x64_S16x4x1x128x64_S16x4x2x128x64_d2) shapeCasts_S16x4x2x128x64_S16x8x128x64) transposes_S16x8x128x64_S16x8x64x128_0_1_3_2)

/-- A head's pair, and its row and column in the pair's block. -/
def pairIx (h : Fin 8) : Fin 4 := ⟨h.val / 2, by have := h.isLt; omega⟩
def rowIx (h : Fin 8) (v : Fin 128) : Fin 256 := ⟨128 * (h.val % 2) + v.val, by have := v.isLt; omega⟩
def colIx (h : Fin 8) (k : Fin 64) : Fin 128 := ⟨64 * (h.val % 2) + k.val, by have := k.isLt; omega⟩

theorem unpaired_apply (b : Fin 16) (h : Fin 8) (k : Fin 64) (v : Fin 128) :
    unpaired y (ix5 0 b h k v) = y (ix4 b (pairIx h) (rowIx h v) (colIx h k)) := by
  unfold unpaired
  pointwise []
  have hh := h.isLt
  split
  · refine congrArg y (congrArg₂ (ix4 b _) (Fin.ext ?_) (Fin.ext ?_))
    · show v.val = 128 * (h.val % 2) + v.val
      omega
    · show k.val = 64 * (h.val % 2) + k.val
      omega
  · refine congrArg y (congrArg₂ (ix4 b _) (Fin.ext ?_) (Fin.ext ?_))
    · show 128 + v.val = 128 * (h.val % 2) + v.val
      omega
    · show 64 + k.val = 64 * (h.val % 2) + k.val
      omega

theorem paired_apply (b : Fin 16) (h : Fin 8) (k : Fin 64) (v : Fin 128) :
    paired s (ix4 b (pairIx h) (rowIx h v) (colIx h k)) = s (ix5 0 b h k v) := by
  unfold paired halves
  pointwise []
  have hh := h.isLt
  have hk := k.isLt
  have hv := v.isLt
  have hr : (rowIx h v).val = 128 * (h.val % 2) + v.val := rfl
  have hc : (colIx h k).val = 64 * (h.val % 2) + k.val := rfl
  have hp : (pairIx h).val = h.val / 2 := rfl
  by_cases h2 : h.val % 2 = 0
  · rw [dif_pos (by omega), dif_pos (by omega)]
    refine congrArg s (congr (congrArg₂ (ix5 0 b) (Fin.ext ?_) (Fin.ext ?_)) (Fin.ext ?_))
    · show (pairIx h).val * 2 = h.val
      omega
    · show (colIx h k).val = k.val
      omega
    · show (rowIx h v).val = v.val
      omega
  · rw [dif_neg (by omega), dif_neg (by omega)]
    refine congrArg s (congr (congrArg₂ (ix5 0 b) (Fin.ext ?_) (Fin.ext ?_)) (Fin.ext ?_))
    · show (pairIx h).val * 2 + 1 = h.val
      omega
    · show (colIx h k).val - 64 = k.val
      omega
    · show (rowIx h v).val - 128 = v.val
      omega

end Layout

end Cert.GlaStateIdeal.Gla

end
-- ==== Proof.GlaStateValue.lean ====
/-
  THE LINEAR ATTENTION'S STATES AFTER THE SAMPLES. A head's block of what the call leaves is the reference's next state: the
  gate's rows of zeros add nothing, and the head's place in its pair's block takes its own keys, values and state.
-/
module

public import proofs.«01_k».proof.Defs
public import proofs.«01_k».proof.Proof.GlaLayout
public import proofs.«01_k».proof.Proof.Gen.GlaStateReferenceIdeal.Run
public import proofs.«01_k».proof.Proof.Gen.GlaStateReferenceIdeal.Read
public import Idealize.ShloMosaic.Adequacy
public import Idealize.ShloMosaic.Init
public import Idealize.ShloMosaic.Lib.Pointwise

@[expose] public section

set_option maxRecDepth 16384

noncomputable section

namespace Cert.GlaStateIdeal.Gla

open Cert.GlaStateIdeal Cert.GlaStateIdeal.Gen
open Idealize.ShloMosaic Idealize.ShloMosaic.TcCoe Idealize.SL.Sem
open Idealize.ShloMosaic.Pipeline (Dat Window)
open Cert.Gla
open scoped BigOperators

/-- A sum whose later factors are zero. -/
theorem sum_first (f : Fin 128 → EReal) (u : Fin 16 → EReal) :
    ∑ e : Fin 128, f e * (if h : e.val < 16 then u ⟨e.val, h⟩ else 0) = ∑ e : Fin 16, f ⟨e.val, by have := e.isLt; omega⟩ * u e := by
  refine (Fin.sum_univ_add (a := 16) (b := 112) fun e : Fin 128 => f e * (if h : e.val < 16 then u ⟨e.val, h⟩ else 0)).trans ?_
  rw [Finset.sum_eq_zero (s := (Finset.univ : Finset (Fin 112))), add_zero]
  · refine Finset.sum_congr rfl fun e _ => congrArg₂ (· * ·) rfl ?_
    exact dif_pos e.isLt
  · intro e _
    rw [dif_neg (by show ¬16 + e.val < 16; omega), mul_zero]

/-- A pair's next state at the place of one of its heads. -/
theorem nextAt_head (ks : S32x512.Idx → EReal) (vs : S32x1024.Idx → EReal) (la : S32x128.Idx → EReal) (wl : S128x512.Idx → EReal)
    (bl : S1x512.Idx → EReal) (s : S1x4x256x128.Idx → EReal) (h : Fin 8) (k : Fin 64) (v : Fin 128) :
    nextAt ks vs la wl bl s (pairIx h) (rowIx h v) (colIx h k)
      = Ideal.exp (upTo (fun j => logDecay (gate wl bl la j (keyCol h k))) 31) * s (ix4 0 (pairIx h) (rowIx h v) (colIx h k))
        + ∑ j : Fin 32, vs (ix2 j (valueCol h v)) * (ks (ix2 j (keyCol h k))
          * Ideal.exp (upTo (fun j => logDecay (gate wl bl la j (keyCol h k))) 31 - upTo (fun j => logDecay (gate wl bl la j (keyCol h k))) j)) := by
  have hh := h.isLt
  have hk := k.isLt
  have hv := v.isLt
  have hr : (rowIx h v).val = 128 * (h.val % 2) + v.val := rfl
  have hc : (colIx h k).val = 64 * (h.val % 2) + k.val := rfl
  have hp : (pairIx h).val = h.val / 2 := rfl
  have ek : (⟨128 * (pairIx h).val + (colIx h k).val, by omega⟩ : Fin 512) = keyCol h k := Fin.ext (by
    show 128 * (pairIx h).val + (colIx h k).val = h.val * 64 + k.val
    omega)
  have ev : (⟨256 * (pairIx h).val + (rowIx h v).val, by omega⟩ : Fin 1024) = valueCol h v := Fin.ext (by
    show 256 * (pairIx h).val + (rowIx h v).val = h.val * 128 + v.val
    omega)
  unfold nextAt
  rw [if_pos (by omega), ek, ev]

section Array

variable (m : (ℓ : Loc nD τ sig) → Buf (Elt Ideal) ℓ) (c : Dev nD)

/-- A device's arguments: the projection, the states, the gate's weight and bias. -/
abbrev projection : S16896x6272.Idx → EReal := m ((c : Thread nD τ).loc main_arg0)
abbrev cache : S1x16x8x64x128.Idx → EReal := m ((c : Thread nD τ).loc main_arg1)
abbrev gateWeight : S1x16x512.Idx → EReal := m ((c : Thread nD τ).loc main_arg2)
abbrev gateBias : S1x512.Idx → EReal := m ((c : Thread nD τ).loc main_arg3)

theorem rows_eq : rows m c = projection m c := V_main_arg0 m c

theorem weight_eq : weight m c = widened (gateWeight m c) := by
  show StableHlo.after hostOps0 _ _ = _
  after_results
  rfl

theorem bias_eq : bias m c = biasRow (gateBias m c) := by
  show StableHlo.after hostOps0 _ _ = _
  after_results
  rfl

theorem states_eq : states m c = paired (cache m c) := by
  show StableHlo.after hostOps0 _ _ = _
  after_results
  rfl

theorem keys_apply (b : Fin 16) (j : Fin 32) (d : Fin 512) :
    keys m c b (ix2 j d) = projection m c (ix2 (rowOf b j) ⟨512 + d.val, by have := d.isLt; omega⟩) := congrFun (rows_eq m c) _

theorem values_apply (b : Fin 16) (j : Fin 32) (d : Fin 1024) :
    values m c b (ix2 j d) = projection m c (ix2 (rowOf b j) ⟨1024 + d.val, by have := d.isLt; omega⟩) := congrFun (rows_eq m c) _

theorem gates_apply (b : Fin 16) (j : Fin 32) (e : Fin 128) :
    gates m c b (ix2 j e) = projection m c (ix2 (rowOf b j) ⟨6144 + e.val, by have := e.isLt; omega⟩) := congrFun (rows_eq m c) _

/-- The kernel's gate is the reference's. -/
theorem gate_eq (b : Fin 16) (j : Fin 32) (d : Fin 512) :
    gate (weight m c) (bias m c) (gates m c b) j d = refGate (projection m c) (gateWeight m c) (gateBias m c) b j d := by
  rw [weight_eq, bias_eq]
  unfold gate refGate
  refine congrArg₂ (· + ·) ?_ (biasRow_apply _ d)
  refine (Finset.sum_congr rfl fun e _ => congrArg₂ (· * ·) (gates_apply m c b j e) (widened_apply (gateWeight m c) e d)).trans ?_
  exact sum_first (fun e => projection m c (ix2 (rowOf b j) ⟨6144 + e.val, by have := e.isLt; omega⟩)) (fun e => gateWeight m c (ix3 0 e d))

/-- A head's block of the next states is the reference's next state. -/
theorem next_eq (b : Fin 16) (h : Fin 8) (k : Fin 64) (v : Fin 128) :
    nextStates m c (ix4 b (pairIx h) (rowIx h v) (colIx h k))
      = nextRef (projection m c) (cache m c) (gateWeight m c) (gateBias m c) b h k v := by
  have hs : stateOf m c b (ix4 0 (pairIx h) (rowIx h v) (colIx h k)) = cache m c (ix5 0 b h k v) :=
    (congrFun (states_eq m c) (ix4 b (pairIx h) (rowIx h v) (colIx h k))).trans (paired_apply _ b h k v)
  refine (nextAt_head (keys m c b) (values m c b) (gates m c b) (weight m c) (bias m c) (stateOf m c b) h k v).trans ?_
  have hg : (fun j => logDecay (gate (weight m c) (bias m c) (gates m c b) j (keyCol h k)))
      = fun j => logDecay (refGate (projection m c) (gateWeight m c) (gateBias m c) b j (keyCol h k)) :=
    funext fun j => congrArg logDecay (gate_eq m c b j (keyCol h k))
  unfold nextRef
  rw [hg]
  refine congrArg₂ (· + ·) (congrArg (_ * ·) hs) (Finset.sum_congr rfl fun j _ => ?_)
  rw [keys_apply, values_apply, mul_comm]

theorem unpaired_eq : unpaired (nextStates m c)
    = Cert.GlaStateReferenceIdeal.Read.val_main_v32 (F := Ideal) (projection m c) (cache m c) (gateWeight m c) (gateBias m c) := by
  funext i
  obtain ⟨a, b, h, k, v, rfl⟩ : ∃ a b h k v, i = ix5 a b h k v := ⟨i 0, i 1, i 2, i 3, i 4, eq_ix5 i⟩
  obtain rfl : a = 0 := Subsingleton.elim _ _
  exact (unpaired_apply _ b h k v).trans ((next_eq m c b h k v).trans (ref_state _ _ _ _ b h k v).symm)

theorem afterRegion_states : Pipeline.withArrays (cfgs 0).spec c (V0 m c) (fun w => (dats m 0 c).arrAt w (cfgs 0).N) (Proc.devRef .tc main_v22_1) = nextStates m c :=
  ((dats m 0 c).withArrays_arrAt (by decide) (V0 m c) (A_eq m c) 10).trans (array_left m c)

theorem left_states : Pipeline.afterTail₀ cfgs (dats m) 0 (V0 m) [hostOps1] c main_v30 = unpaired (nextStates m c) := by
  unfold Pipeline.afterTail₀
  show StableHlo.after hostOps1 _ _ = _
  after_results
  rw [afterRegion_states]
  rfl

end Array

/-- The reference runs. -/
theorem frame_reference : Cert.quiescent_GlaStateReferenceIdeal := fun m g _ =>
  (θ_run Cert.GlaStateReferenceIdeal.defs _ _).mono (fun r hr => ⟨fun c => (hr c).2, sem_eq_zero_of_no_sems (by decide) r.2⟩)
    (Cert.GlaStateReferenceIdeal.Value.run (F := Ideal) m g)

/-- The states the kernel leaves. -/
theorem left (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v30) = unpaired (nextStates m c)) :=
  (θ_run defs _ _).mono (fun _ h c =>
    ((h c).2 main_v30 (Pipeline.mem_restRefs_of main_v30 (by decide) (by decide))).trans (left_states m c)) (run_main m g)

/-- The kernel and the reference leave equal states. -/
theorem values_equal : Cert.algebraic_GlaStateIdeal_GlaStateReferenceIdeal := fun m g m' g' _ hm =>
  ⟨fun c => unpaired (nextStates m c),
    (θ_run defs _ _).mono (fun _ h c => ⟨h.1 c, h.2 c⟩) (θ_run_and (left m g) (unchanged (F := Ideal) m g)),
    (θ_run Cert.GlaStateReferenceIdeal.defs _ _).mono (fun r hr c => by
        obtain ⟨e0, e1, e2, e3, e4⟩ := hm c
        refine ⟨(hr c).1.trans ?_, (hr c).2⟩
        refine (Cert.GlaStateReferenceIdeal.Read.val_main_v32_eq ..).trans ?_
        rw [e0, e1, e2, e3]
        exact (unpaired_eq m c).symm)
      (Cert.GlaStateReferenceIdeal.Value.run (F := Ideal) m' g')⟩

end Cert.GlaStateIdeal.Gla

end
-- ==== Proof.lean ====
/-
  THE CERTIFICATE: `Cert.Claim` (proofs.«01_k».proof.Defs) — of the experts and of each of the other calls, the frames of
  the kernel as it is, of the kernel over the extended reals and of the reference, that the second is the first's
  idealization, and that the kernel's and the reference's results are equal.
-/
module

public import proofs.«01_k».proof.Defs
public import proofs.«01_k».proof.Proof.ExpertEqual
public import proofs.«01_k».proof.Proof.ExpertPre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_expert_ids
public import proofs.«01_k».proof.Proof.Gen.Pre_expert_runs
public import proofs.«01_k».proof.Proof.FinalPromptValue
public import proofs.«01_k».proof.Proof.Gen.FinalPrompt
public import proofs.«01_k».proof.Proof.Gen.FinalPrompt.Frame
public import proofs.«01_k».proof.Proof.Gen.FinalPromptIdeal
public import proofs.«01_k».proof.Proof.Gen.FinalPromptIdeal.Frame
public import proofs.«01_k».proof.Proof.Gen.FinalPromptIdeal.Value
public import proofs.«01_k».proof.Proof.Gen.FinalPromptReferenceIdeal
public import proofs.«01_k».proof.Proof.Gen.FinalPromptReferenceIdeal.Run
public import proofs.«01_k».proof.Proof.Gen.FinalPromptReferenceIdeal.Read
public import proofs.«01_k».proof.Proof.FinalSampleValue
public import proofs.«01_k».proof.Proof.Gen.FinalSample
public import proofs.«01_k».proof.Proof.Gen.FinalSample.Frame
public import proofs.«01_k».proof.Proof.Gen.FinalSampleIdeal
public import proofs.«01_k».proof.Proof.Gen.FinalSampleIdeal.Frame
public import proofs.«01_k».proof.Proof.Gen.FinalSampleIdeal.Value
public import proofs.«01_k».proof.Proof.Gen.FinalSampleReferenceIdeal
public import proofs.«01_k».proof.Proof.Gen.FinalSampleReferenceIdeal.Run
public import proofs.«01_k».proof.Proof.Gen.FinalSampleReferenceIdeal.Read
public import proofs.«01_k».proof.Proof.BandCacheValue
public import proofs.«01_k».proof.Proof.Gen.BandCache
public import proofs.«01_k».proof.Proof.Gen.BandCache.Frame
public import proofs.«01_k».proof.Proof.Gen.BandCacheIdeal
public import proofs.«01_k».proof.Proof.Gen.BandCacheIdeal.Frame
public import proofs.«01_k».proof.Proof.Gen.BandCacheReferenceIdeal
public import proofs.«01_k».proof.Proof.Gen.BandCacheReferenceIdeal.Run
public import proofs.«01_k».proof.Proof.Gen.BandCacheReferenceIdeal.Read
public import proofs.«01_k».proof.Proof.SwaCacheValue
public import proofs.«01_k».proof.Proof.SwaMachine
public import proofs.«01_k».proof.Proof.Gen.SwaCache
public import proofs.«01_k».proof.Proof.Gen.SwaCacheIdeal
public import proofs.«01_k».proof.Proof.Gen.SwaCacheReferenceIdeal
public import proofs.«01_k».proof.Proof.Gen.SwaCacheReferenceIdeal.Run
public import proofs.«01_k».proof.Proof.Gen.SwaCacheReferenceIdeal.Read
public import proofs.«01_k».proof.Proof.GlaStateValue
public import proofs.«01_k».proof.Proof.Gen.GlaState
public import proofs.«01_k».proof.Proof.Gen.GlaState.Frame
public import proofs.«01_k».proof.Proof.Gen.GlaStateIdeal
public import proofs.«01_k».proof.Proof.Gen.GlaStateIdeal.Frame
public import proofs.«01_k».proof.Proof.Gen.GlaStateReferenceIdeal
public import proofs.«01_k».proof.Proof.Gen.GlaStateReferenceIdeal.Run
public import proofs.«01_k».proof.Proof.Gen.GlaStateReferenceIdeal.Read
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.KernelIdeal.Moe

set_option maxRecDepth 16384 in
/-- The two programs' kernels are the same text. -/
theorem bodies_eq : Cert.Kernel.defs₀ (F := Bits) = Cert.KernelIdeal.defs₀ (F := Bits) :=
  congrArg Defs.onTc (funext fun l => by
    match l with
    | 0 => exact funext fun _ => rfl)

set_option maxRecDepth 16384 in
/-- So are their pipelines, and so their body tables. -/
theorem tables_eq : Cert.Kernel.defs (F := Bits) = Cert.KernelIdeal.defs (F := Bits) :=
  congrArg (Pipeline.defs (Cert.Kernel.pcfgs (F := Bits))) bodies_eq

set_option maxRecDepth 16384 in
/-- The kernel as it is runs, over the machine's floats: its text is the other's, so its run is the same one. -/
theorem frame_kernel : Cert.quiescent_Kernel := fun m g hp => by
  have h : InRange (T0 (F := Bits) m) := inRange_of_ids _ _ _ _ _ _ (hp 0)
  rw [tables_eq]
  exact (θ_run Cert.KernelIdeal.defs _ _).mono (fun _ hr => ⟨fun c => args_kept (F := Bits) m h hr.1 c, hr.2⟩) (run (F := Bits) m g h)

/-- It runs over the extended reals. -/
theorem frame_ideal : Cert.quiescent_KernelIdeal := fun m g hp =>
  have h : InRange (T0 m) := inRange_of_ids _ _ _ _ _ _ (hp 0)
  (θ_run Cert.KernelIdeal.defs _ _).mono (fun _ hr => ⟨fun c => args_kept m h hr.1 c, hr.2⟩) (run m g h)

/-- It runs where the equality is claimed. -/
theorem frame_ideal_runs : Cert.quiescent_KernelIdeal_pre_expert_runs := fun m g hp =>
  have h : InRange (T0 m) := inRange_of_runs _ _ _ _ _ _ (hp 0)
  (θ_run Cert.KernelIdeal.defs _ _).mono (fun _ hr => ⟨fun c => args_kept m h hr.1 c, hr.2⟩) (run m g h)

/-- The reference runs. -/
theorem frame_reference : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

/-- The kernel and the reference leave equal results. -/
theorem values_equal : Cert.algebraic_KernelIdeal_ReferenceIdeal_pre_expert_runs := fun m g m' g' hp hm =>
  have h : InRange (T0 m) := inRange_of_runs _ _ _ _ _ _ (hp 0)
  have hruns : Runs m := fun n => (runs_test _ _ _ _ _ _ (hp 0) n).2
  ⟨fun c => moeOut m c,
    (θ_run Cert.KernelIdeal.defs _ _).mono (fun _ hr c => ⟨out_left m h c hruns hr.1, args_kept m h hr.1 c⟩) (run m g h),
    (θ_run Cert.ReferenceIdeal.defs _ _).mono (fun r hr c => ⟨by
        obtain ⟨e0, e1, e2, e3, e4, e5⟩ := hm c
        refine (hr c).1.trans ((Cert.ReferenceIdeal.Read.val_main_v24_eq ..).trans ?_)
        rw [e0, e1, e2, e3, e4, e5]
        exact (moeOut_eq m h c).symm, (hr c).2⟩)
      (Cert.ReferenceIdeal.Value.run (F := Ideal) m' g')⟩

theorem claim : Cert.Claim :=
  ⟨Cert.Kernel.Gen.facts, Cert.KernelIdeal.Gen.facts, Cert.ReferenceIdeal.Gen.facts,
    Cert.FinalPrompt.Gen.facts, Cert.FinalPromptIdeal.Gen.facts, Cert.FinalPromptReferenceIdeal.Gen.facts,
    Cert.FinalSample.Gen.facts, Cert.FinalSampleIdeal.Gen.facts, Cert.FinalSampleReferenceIdeal.Gen.facts,
    Cert.BandCache.Gen.facts, Cert.BandCacheIdeal.Gen.facts, Cert.BandCacheReferenceIdeal.Gen.facts,
    Cert.SwaCache.Gen.facts, Cert.SwaCacheIdeal.Gen.facts, Cert.SwaCacheReferenceIdeal.Gen.facts,
    Cert.GlaState.Gen.facts, Cert.GlaStateIdeal.Gen.facts, Cert.GlaStateReferenceIdeal.Gen.facts,
    Cert.Pre_expert_ids.Gen.facts, Cert.Pre_expert_runs.Gen.facts,
    frame_kernel, frame_ideal, frame_ideal_runs, frame_reference, fun m g _ => frame_reference m g trivial,
    fun m g _ => Cert.FinalPrompt.Gen.frame m g, fun m g _ => Cert.FinalPromptIdeal.Gen.frame m g, Cert.FinalPromptIdeal.Norm.frame_reference,
    fun m g _ => Cert.FinalSample.Gen.frame m g, fun m g _ => Cert.FinalSampleIdeal.Gen.frame m g, Cert.FinalSampleIdeal.Norm.frame_reference,
    fun m g _ => Cert.BandCache.Gen.frame m g, fun m g _ => Cert.BandCacheIdeal.Gen.frame m g, Cert.BandCacheIdeal.Band.frame_reference,
    Cert.SwaCacheIdeal.Swa.frame_kernel, Cert.SwaCacheIdeal.Swa.frame_ideal, Cert.SwaCacheIdeal.Swa.frame_reference,
    fun m g _ => Cert.GlaState.Gen.frame m g, fun m g _ => Cert.GlaStateIdeal.Gen.frame m g, Cert.GlaStateIdeal.Gla.frame_reference,
    trivial, values_equal,
    trivial, Cert.FinalPromptIdeal.Norm.values_equal,
    trivial, Cert.FinalSampleIdeal.Norm.values_equal,
    trivial, Cert.BandCacheIdeal.Band.values_equal,
    trivial, Cert.SwaCacheIdeal.Swa.values_equal,
    trivial, Cert.GlaStateIdeal.Gla.values_equal⟩

end Cert.Proof

end
